-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)) (v2 : (c : Dev Cert.KernelIdeal.nD) → Buf (Elt Ideal) ((c.tc : Thread Cert.KernelIdeal.nD Cert.KernelIdeal.τ).loc Cert.KernelIdeal.main_v80_2)) (v3 : (c : Dev Cert.KernelIdeal.nD) → Buf (Elt Ideal) ((c.tc : Thread Cert.KernelIdeal.nD Cert.KernelIdeal.τ).loc Cert.KernelIdeal.main_v80_3)) (v4 : (c : Dev Cert.KernelIdeal.nD) → Buf (Elt Ideal) ((c.tc : Thread Cert.KernelIdeal.nD Cert.KernelIdeal.τ).loc Cert.KernelIdeal.main_v80_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_v80_2) = v2 c
          ∧ r.2.mem ((c.tc : Thread Cert.KernelIdeal.nD Cert.KernelIdeal.τ).loc Cert.KernelIdeal.main_v80_3) = v3 c
          ∧ r.2.mem ((c.tc : Thread Cert.KernelIdeal.nD Cert.KernelIdeal.τ).loc Cert.KernelIdeal.main_v80_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v121) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_v21) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S2x2048x1024 : S_.BroadcastsInDim S2x2048x1024 (![] : Fin 0 → Fin S2x2048x1024.rank)

variable [Facts]

def fn {F : FTy → Type} [FloatOps F] (main_arg0 : FVec F S2x2048x1024 .f32) (main_arg1 : FVec F S1024 .f32) (main_arg2 : FVec F S1024x5632 .f32) (main_arg3 : FVec F S3x5632 .f32) (main_arg4 : FVec F S5632 .f32) (main_arg5 : FVec F S2816x1024 .f32) (main_arg6 : FVec F S2x2048x1024 .f32) (main_arg7 : FVec F S2x2048x1024 .f32) : IVec S1024 1 × IVec S1024x5632 1 × IVec S3x5632 1 × IVec S5632 1 × IVec S2816x1024 1 × IVec S2x2048x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x5632 .f32 := Host.absf main_arg2
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg3
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S5632 .f32 := Host.absf main_arg4
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_v12 : FVec F S2816x1024 .f32 := Host.absf main_arg5
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S2x2048x1024 .f32 := Host.absf main_arg6
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  (main_v2, main_v5, main_v8, main_v11, main_v14, main_v17)
-- ==== Kernel.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩
abbrev S1x2x2048x2816 : Shape := ⟨4, ![1, 2, 2048, 2816]⟩
abbrev S2x2x2048x2816 : Shape := ⟨4, ![2, 2, 2048, 2816]⟩
abbrev S4096x8x704 : Shape := ⟨3, ![4096, 8, 704]⟩
abbrev S8x4096x704 : Shape := ⟨3, ![8, 4096, 704]⟩
abbrev S2x4096x4x704 : Shape := ⟨4, ![2, 4096, 4, 704]⟩
abbrev S2x4x4096x704 : Shape := ⟨4, ![2, 4, 4096, 704]⟩
abbrev S5632x1024 : Shape := ⟨2, ![5632, 1024]⟩
abbrev S8x1x704x1024 : Shape := ⟨4, ![8, 1, 704, 1024]⟩
abbrev S1x4x704x1024 : Shape := ⟨4, ![1, 4, 704, 1024]⟩
abbrev S3x8x704 : Shape := ⟨3, ![3, 8, 704]⟩
abbrev S8x3x704 : Shape := ⟨3, ![8, 3, 704]⟩
abbrev S8x1x3x704 : Shape := ⟨4, ![8, 1, 3, 704]⟩
abbrev S1x4096x1024 : Shape := ⟨3, ![1, 4096, 1024]⟩
abbrev S4096x1024 : Shape := ⟨2, ![4096, 1024]⟩
abbrev S2x4x704x1024 : Shape := ⟨4, ![2, 4, 704, 1024]⟩
abbrev S2x4x1x3x704 : Shape := ⟨5, ![2, 4, 1, 3, 704]⟩
abbrev S1x1024 : Shape := ⟨2, ![1, 1024]⟩
abbrev S4x2x3x704 : Shape := ⟨4, ![4, 2, 3, 704]⟩
abbrev S4x2x1x704 : Shape := ⟨4, ![4, 2, 1, 704]⟩
abbrev S1x512x1024 : Shape := ⟨3, ![1, 512, 1024]⟩
abbrev S1x16x1024 : Shape := ⟨3, ![1, 16, 1024]⟩
abbrev S1x1x704x1024 : Shape := ⟨4, ![1, 1, 704, 1024]⟩
abbrev S2x1x512x704 : Shape := ⟨4, ![2, 1, 512, 704]⟩
abbrev S2x1x16x704 : Shape := ⟨4, ![2, 1, 16, 704]⟩
abbrev S2x1x1x3x704 : Shape := ⟨5, ![2, 1, 1, 3, 704]⟩
abbrev S2x1x704x1024 : Shape := ⟨4, ![2, 1, 704, 1024]⟩
abbrev S512x1024 : Shape := ⟨2, ![512, 1024]⟩
abbrev S528x704 : Shape := ⟨2, ![528, 704]⟩
abbrev S2x3x528x704 : Shape := ⟨4, ![2, 3, 528, 704]⟩
abbrev S2x3x704 : Shape := ⟨3, ![2, 3, 704]⟩
abbrev S1x2x3x704 : Shape := ⟨4, ![1, 2, 3, 704]⟩
abbrev S2x1x704 : Shape := ⟨3, ![2, 1, 704]⟩
abbrev S1x2x1x704 : Shape := ⟨4, ![1, 2, 1, 704]⟩
abbrev S16x1024 : Shape := ⟨2, ![16, 1024]⟩
abbrev S704x1024 : Shape := ⟨2, ![704, 1024]⟩
abbrev S512x704 : Shape := ⟨2, ![512, 704]⟩
abbrev S16x704 : Shape := ⟨2, ![16, 704]⟩
abbrev S1x1x16x704 : Shape := ⟨4, ![1, 1, 16, 704]⟩
abbrev S1x1x512x704 : Shape := ⟨4, ![1, 1, 512, 704]⟩
abbrev S1x1x1x1x704 : Shape := ⟨5, ![1, 1, 1, 1, 704]⟩
abbrev S1x704 : Shape := ⟨2, ![1, 704]⟩
abbrev S1x1x1x704 : Shape := ⟨4, ![1, 1, 1, 704]⟩
abbrev S704 : Shape := ⟨1, ![704]⟩
abbrev S512 : Shape := ⟨1, ![512]⟩
abbrev S512x1 : Shape := ⟨2, ![512, 1]⟩

abbrev nBuf : Space → Nat
  | .hbm => 101
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x5632, .f32⟩
  | .hbm, ⟨25, _⟩ => ⟨S_, .f32⟩
  | .hbm, ⟨26, _⟩ => ⟨S2x2x5632, .f32⟩
  | .hbm, ⟨27, _⟩ => ⟨S2x2050x5632, .f32⟩
  | .hbm, ⟨28, _⟩ => ⟨S2x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S2x2048x5632, .f32⟩
  | .hbm, ⟨33, _⟩ => ⟨S2x2048x5632, .f32⟩
  | .hbm, ⟨34, _⟩ => ⟨S2x2048x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S2x2048x5632, .f32⟩
  | .hbm, ⟨39, _⟩ => ⟨S2x2048x5632, .f32⟩
  | .hbm, ⟨40, _⟩ => ⟨S2x2048x5632, .f32⟩
  | .hbm, ⟨41, _⟩ => ⟨S2x2048x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S2x2048x5632, .f32⟩
  | .hbm, ⟨46, _⟩ => ⟨S2x2048x5632, .f32⟩
  | .hbm, ⟨47, _⟩ => ⟨S2x2048x5632, .f32⟩
  | .hbm, ⟨48, _⟩ => ⟨S1x1x5632, .f32⟩
  | .hbm, ⟨49, _⟩ => ⟨S2x2048x5632, .f32⟩
  | .hbm, ⟨50, _⟩ => ⟨S2x2048x5632, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S_, .f32⟩
  | .hbm, ⟨56, _⟩ => ⟨S2x2048x2816, .f32⟩
  | .hbm, ⟨57, _⟩ => ⟨S2x2048x2816, .f32⟩
  | .hbm, ⟨58, _⟩ => ⟨S_, .f32⟩
  | .hbm, ⟨59, _⟩ => ⟨S2x2048x2816, .f32⟩
  | .hbm, ⟨60, _⟩ => ⟨S2x2048x2816, .f32⟩
  | .hbm, ⟨61, _⟩ => ⟨S2x2048x2816, .f32⟩
  | .hbm, ⟨62, _⟩ => ⟨S_, .f32⟩
  | .hbm, ⟨63, _⟩ => ⟨S2x2048x2816, .f32⟩
  | .hbm, ⟨64, _⟩ => ⟨S2x2048x2816, .f32⟩
  | .hbm, ⟨65, _⟩ => ⟨S2x2048x2816, .f32⟩
  | .hbm, ⟨66, _⟩ => ⟨S_, .f32⟩
  | .hbm, ⟨67, _⟩ => ⟨S2x2048x2816, .f32⟩
  | .hbm, ⟨68, _⟩ => ⟨S2x2048x2816, .f32⟩
  | .hbm, ⟨69, _⟩ => ⟨S2x2048x2816, .f32⟩
  | .hbm, ⟨70, _⟩ => ⟨S2x2048x2816, .f32⟩
  | .hbm, ⟨71, _⟩ => ⟨S1x2x2048x2816, .f32⟩
  | .hbm, ⟨72, _⟩ => ⟨S1x2x2048x2816, .f32⟩
  | .hbm, ⟨73, _⟩ => ⟨S2x2x2048x2816, .f32⟩
  | .hbm, ⟨74, _⟩ => ⟨S4096x8x704, .f32⟩
  | .hbm, ⟨75, _⟩ => ⟨S8x4096x704, .f32⟩
  | .hbm, ⟨76, _⟩ => ⟨S8x4096x704, .bf16⟩
  | .hbm, ⟨77, _⟩ => ⟨S2x4096x4x704, .f32⟩
  | .hbm, ⟨78, _⟩ => ⟨S2x4x4096x704, .f32⟩
  | .hbm, ⟨79, _⟩ => ⟨S2x4x4096x704, .bf16⟩
  | .hbm, ⟨80, _⟩ => ⟨S5632x1024, .f32⟩
  | .hbm, ⟨81, _⟩ => ⟨S8x1x704x1024, .f32⟩
  | .hbm, ⟨82, _⟩ => ⟨S8x1x704x1024, .bf16⟩
  | .hbm, ⟨83, _⟩ => ⟨S1x4x704x1024, .f32⟩
  | .hbm, ⟨84, _⟩ => ⟨S1x4x704x1024, .bf16⟩
  | .hbm, ⟨85, _⟩ => ⟨S3x8x704, .f32⟩
  | .hbm, ⟨86, _⟩ => ⟨S8x3x704, .f32⟩
  | .hbm, ⟨87, _⟩ => ⟨S8x1x3x704, .f32⟩
  | .hbm, ⟨88, _⟩ => ⟨S1x4096x1024, .f32⟩
  | .hbm, ⟨89, _⟩ => ⟨S1x4096x1024, .bf16⟩
  | .hbm, ⟨90, _⟩ => ⟨S4096x1024, .f32⟩
  | .hbm, ⟨91, _⟩ => ⟨S4096x1024, .f32⟩
  | .hbm, ⟨92, _⟩ => ⟨S2x4x4096x704, .bf16⟩
  | .hbm, ⟨93, _⟩ => ⟨S2x4x704x1024, .bf16⟩
  | .hbm, ⟨94, _⟩ => ⟨S2x4x1x3x704, .f32⟩
  | .hbm, ⟨95, _⟩ => ⟨S1x1024, .f32⟩
  | .hbm, ⟨96, _⟩ => ⟨S2x4x4096x704, .bf16⟩
  | .hbm, ⟨97, _⟩ => ⟨S4x2x3x704, .f32⟩
  | .hbm, ⟨98, _⟩ => ⟨S4x2x1x704, .f32⟩
  | .hbm, ⟨99, _⟩ => ⟨S4096x1024, .f32⟩
  | .hbm, ⟨100, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S2x1x512x704, .bf16⟩
  | .local _ .vmem, ⟨7, _⟩ => ⟨S2x1x512x704, .bf16⟩
  | .local _ .vmem, ⟨8, _⟩ => ⟨S2x1x512x704, .bf16⟩
  | .local _ .vmem, ⟨9, _⟩ => ⟨S2x1x512x704, .bf16⟩
  | .local _ .vmem, ⟨10, _⟩ => ⟨S2x1x16x704, .bf16⟩
  | .local _ .vmem, ⟨11, _⟩ => ⟨S2x1x16x704, .bf16⟩
  | .local _ .vmem, ⟨12, _⟩ => ⟨S2x1x1x3x704, .f32⟩
  | .local _ .vmem, ⟨13, _⟩ => ⟨S2x1x1x3x704, .f32⟩
  | .local _ .vmem, ⟨14, _⟩ => ⟨S2x1x704x1024, .bf16⟩
  | .local _ .vmem, ⟨15, _⟩ => ⟨S2x1x704x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S2x1x512x704, .bf16⟩
  | .local _ .vmem, ⟨22, _⟩ => ⟨S2x1x512x704, .bf16⟩
  | .local _ .vmem, ⟨23, _⟩ => ⟨S4x2x3x704, .f32⟩
  | .local _ .vmem, ⟨24, _⟩ => ⟨S4x2x1x704, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | .local _ .vmem, ⟨28, _⟩ => ⟨S528x704, .f32⟩
  | .local _ .vmem, ⟨29, _⟩ => ⟨S2x3x528x704, .f32⟩
  | .local _ .vmem, ⟨30, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80_0 : Ref sig .tc := ⟨.hbm, 96, rfl⟩
abbrev main_v80_1 : Ref sig .tc := ⟨.hbm, 97, rfl⟩
abbrev main_v80_2 : Ref sig .tc := ⟨.hbm, 98, rfl⟩
abbrev main_v80_3 : Ref sig .tc := ⟨.hbm, 99, rfl⟩
abbrev main_v80_4 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_6 : BitVec 32 := 0#32
  let v16 : BitVec 1 := Scalar.cmpi .eq arg0 c0_i32_6
  let v17 : BitVec 32 := Scalar.extui v16
  let c0_i32_7 : BitVec 32 := 0#32
  let v18 : BitVec 1 := Scalar.cmpi .ne v17 c0_i32_7
  v18

def k0_off1 (i : grid0.Coords) : Fin 4 → Nat :=
  let arg1 : BitVec 32 := BitVec.ofNat 32 (i 1).val
  let v2839 : Index := Scalar.indexCast arg1
  let c0_2950 : Index := 0#32
  let c0_2951 : Index := 0#32
  let c0_2952 : Index := 0#32
  ![v2839.toNat, 0, 0, 0]
def k0_off2 (i : grid0.Coords) : Fin 4 → Nat :=
  let arg1 : BitVec 32 := BitVec.ofNat 32 (i 1).val
  let v2844 : Index := Scalar.indexCast arg1
  let c0_2954 : Index := 0#32
  let c0_2955 : Index := 0#32
  let c0_2956 : Index := 0#32
  ![v2844.toNat, 0, 0, 0]
def k0_off3 (i : grid0.Coords) : Fin 4 → Nat :=
  let arg1 : BitVec 32 := BitVec.ofNat 32 (i 1).val
  let v1634 : Index := Scalar.indexCast arg1
  let c0_1727 : Index := 0#32
  let c0_1728 : Index := 0#32
  let c0_1729 : Index := 0#32
  ![v1634.toNat, 0, 0, 0]
def k0_off4 (i : grid0.Coords) : Fin 4 → Nat :=
  let arg1 : BitVec 32 := BitVec.ofNat 32 (i 1).val
  let v1644 : Index := Scalar.indexCast arg1
  let c0_1734 : Index := 0#32
  let c1_1735 : Index := 1#32
  let c0_1736 : Index := 0#32
  ![v1644.toNat, 0, 1, 0]
def k0_off5 (i : grid0.Coords) : Fin 4 → Nat :=
  let arg1 : BitVec 32 := BitVec.ofNat 32 (i 1).val
  let v1654 : Index := Scalar.indexCast arg1
  let c0_1741 : Index := 0#32
  let c2_1742 : Index := 2#32
  let c0_1743 : Index := 0#32
  ![v1654.toNat, 0, 2, 0]
def k0_off6 (i : grid0.Coords) : Fin 4 → Nat :=
  let arg1 : BitVec 32 := BitVec.ofNat 32 (i 1).val
  let v1664 : Index := Scalar.indexCast arg1
  let c0_1748 : Index := 0#32
  let c0_1749 : Index := 0#32
  let c0_1750 : Index := 0#32
  ![v1664.toNat, 0, 0, 0]
def k0_off7 (i : grid0.Coords) : Fin 4 → Nat :=
  let arg1 : BitVec 32 := BitVec.ofNat 32 (i 1).val
  let v2776 : Index := Scalar.indexCast arg1
  let c1_2895 : Index := 1#32
  let c0_2896 : Index := 0#32
  let c0_2897 : Index := 0#32
  ![v2776.toNat, 1, 0, 0]
def k0_off8 (i : grid0.Coords) : Fin 4 → Nat :=
  let arg1 : BitVec 32 := BitVec.ofNat 32 (i 1).val
  let v2786 : Index := Scalar.indexCast arg1
  let c1_2902 : Index := 1#32
  let c1_2903 : Index := 1#32
  let c0_2904 : Index := 0#32
  ![v2786.toNat, 1, 1, 0]
def k0_off9 (i : grid0.Coords) : Fin 4 → Nat :=
  let arg1 : BitVec 32 := BitVec.ofNat 32 (i 1).val
  let v2796 : Index := Scalar.indexCast arg1
  let c1_2909 : Index := 1#32
  let c2_2910 : Index := 2#32
  let c0_2911 : Index := 0#32
  ![v2796.toNat, 1, 2, 0]
def k0_off10 (i : grid0.Coords) : Fin 4 → Nat :=
  let arg1 : BitVec 32 := BitVec.ofNat 32 (i 1).val
  let v2806 : Index := Scalar.indexCast arg1
  let c1_2916 : Index := 1#32
  let c0_2917 : Index := 0#32
  let c0_2918 : Index := 0#32
  ![v2806.toNat, 1, 0, 0]
def k0_cond3 (i : grid0.Coords) : BitVec 1 :=
  let arg1 : BitVec 32 := BitVec.ofNat 32 (i 1).val
  let c3_i32_2947 : BitVec 32 := 3#32
  let v2835 : BitVec 1 := Scalar.cmpi .eq arg1 c3_i32_2947
  let v2836 : BitVec 32 := Scalar.extui v2835
  let c0_i32_2948 : BitVec 32 := 0#32
  let v2837 : BitVec 1 := Scalar.cmpi .ne v2836 c0_i32_2948
  v2837

def k0_cond1 (i : grid0.Coords) : BitVec 1 :=
  let arg0 : BitVec 32 := BitVec.ofNat 32 (i 0).val
  let c0_i32_3 : BitVec 32 := 0#32
  let v11 : BitVec 1 := Scalar.cmpi .eq arg0 c0_i32_3
  let arg1 : BitVec 32 := BitVec.ofNat 32 (i 1).val
  let c0_i32_4 : BitVec 32 := 0#32
  let v12 : BitVec 1 := Scalar.cmpi .eq arg1 c0_i32_4
  let v13 : BitVec 1 := Scalar.andi v11 v12
  let v14 : BitVec 32 := Scalar.extui v13
  let c0_i32_5 : BitVec 32 := 0#32
  let v15 : BitVec 1 := Scalar.cmpi .ne v14 c0_i32_5
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, arg1.toNat, v2.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x16x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4x2x3x704 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x2x1x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ReferenceIdeal.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩
abbrev S4096x2x4x704 : Shape := ⟨4, ![4096, 2, 4, 704]⟩
abbrev S2x4x4096x704 : Shape := ⟨4, ![2, 4, 4096, 704]⟩
abbrev S3x2x4x704 : Shape := ⟨4, ![3, 2, 4, 704]⟩
abbrev S4x2x3x704 : Shape := ⟨4, ![4, 2, 3, 704]⟩
abbrev S2x4x1x704 : Shape := ⟨4, ![2, 4, 1, 704]⟩
abbrev S4x2x1x704 : Shape := ⟨4, ![4, 2, 1, 704]⟩
abbrev S4096x1024 : Shape := ⟨2, ![4096, 1024]⟩
abbrev S1x1024 : Shape := ⟨2, ![1, 1024]⟩

abbrev nBuf : Space → Nat
  | .hbm => 172
  | .vmem => 0
  | .smem => 0
  | _ => 0

abbrev hbmTy0_0 (i : Nat) : BufTy := match i % 128 with
  | 0 => ⟨S2x2048x1024, .f32⟩
  | 1 => ⟨S1024, .f32⟩
  | 2 => ⟨S1024x5632, .f32⟩
  | 3 => ⟨S3x5632, .f32⟩
  | 4 => ⟨S5632, .f32⟩
  | 5 => ⟨S2816x1024, .f32⟩
  | 6 => ⟨S2x2048x1024, .f32⟩
  | 7 => ⟨S2x2048x1024, .f32⟩
  | 8 => ⟨S2x2048x1024, .f32⟩
  | 9 => ⟨S_, .f32⟩
  | 10 => ⟨S2x2048, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x1, .f32⟩
  | 19 => ⟨S2x2048x1, .f32⟩
  | 20 => ⟨S_, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S2x2048x5632, .f32⟩
  | 29 => ⟨S_, .f32⟩
  | 30 => ⟨S2x2x5632, .f32⟩
  | 31 => ⟨S2x2050x5632, .f32⟩
  | 32 => ⟨S_, .f32⟩
  | 33 => ⟨S2x2x5632, .f32⟩
  | 34 => ⟨S2x2048x5632, .f32⟩
  | 35 => ⟨S1x5632, .f32⟩
  | 36 => ⟨S5632, .f32⟩
  | 37 => ⟨S1x1x5632, .f32⟩
  | 38 => ⟨S2x2048x5632, .f32⟩
  | 39 => ⟨S2x2048x5632, .f32⟩
  | 40 => ⟨S2x2048x5632, .f32⟩
  | 41 => ⟨S1x5632, .f32⟩
  | 42 => ⟨S5632, .f32⟩
  | 43 => ⟨S1x1x5632, .f32⟩
  | 44 => ⟨S2x2048x5632, .f32⟩
  | 45 => ⟨S2x2048x5632, .f32⟩
  | 46 => ⟨S2x2048x5632, .f32⟩
  | 47 => ⟨S2x2048x5632, .f32⟩
  | 48 => ⟨S1x5632, .f32⟩
  | 49 => ⟨S5632, .f32⟩
  | 50 => ⟨S1x1x5632, .f32⟩
  | 51 => ⟨S2x2048x5632, .f32⟩
  | 52 => ⟨S2x2048x5632, .f32⟩
  | 53 => ⟨S2x2048x5632, .f32⟩
  | 54 => ⟨S1x1x5632, .f32⟩
  | 55 => ⟨S2x2048x5632, .f32⟩
  | 56 => ⟨S2x2048x5632, .f32⟩
  | 57 => ⟨S2x2048x2816, .f32⟩
  | 58 => ⟨S2x2048x2816, .f32⟩
  | 59 => ⟨S2x2048x2816, .f32⟩
  | 60 => ⟨S2x2048x2816, .f32⟩
  | 61 => ⟨S_, .f32⟩
  | 62 => ⟨S2x2048x2816, .f32⟩
  | 63 => ⟨S2x2048x2816, .f32⟩
  | 64 => ⟨S_, .f32⟩
  | 65 => ⟨S2x2048x2816, .f32⟩
  | 66 => ⟨S2x2048x2816, .f32⟩
  | 67 => ⟨S_, .f32⟩
  | 68 => ⟨S2x2048x2816, .f32⟩
  | 69 => ⟨S2x2048x2816, .f32⟩
  | 70 => ⟨S2x2048x2816, .f32⟩
  | 71 => ⟨S2x2048x2816, .f32⟩
  | 72 => ⟨S2x2048x2816, .f32⟩
  | 73 => ⟨S2x2048x1024, .f32⟩
  | 74 => ⟨S2x2048x2816, .f32⟩
  | 75 => ⟨S2x2048x2816, .f32⟩
  | 76 => ⟨S2x2048x2816, .f32⟩
  | 77 => ⟨S2x2048x2816, .f32⟩
  | 78 => ⟨S2x2048x2816, .f32⟩
  | 79 => ⟨S2x2048x2816, .f32⟩
  | 80 => ⟨S2x2048x2816, .f32⟩
  | 81 => ⟨S_, .f32⟩
  | 82 => ⟨S2x2048x5632, .f32⟩
  | 83 => ⟨S_, .f32⟩
  | 84 => ⟨S2x2048x5632, .f32⟩
  | 85 => ⟨S2x2048x5632, .f32⟩
  | 86 => ⟨S_, .f32⟩
  | 87 => ⟨S5632, .f32⟩
  | 88 => ⟨S1x1x5632, .f32⟩
  | 89 => ⟨S_, .f32⟩
  | 90 => ⟨S5632, .f32⟩
  | 91 => ⟨S2x2048x5632, .f32⟩
  | 92 => ⟨S_, .f32⟩
  | 93 => ⟨S5632, .f32⟩
  | 94 => ⟨S1x1x5632, .f32⟩
  | 95 => ⟨S2x2048x5632, .f32⟩
  | 96 => ⟨S2x2048x5632, .f32⟩
  | 97 => ⟨S_, .f32⟩
  | 98 => ⟨S5632, .f32⟩
  | 99 => ⟨S1x5632, .f32⟩
  | 100 => ⟨S_, .f32⟩
  | 101 => ⟨S3x5632, .f32⟩
  | 102 => ⟨S_, .f32⟩
  | 103 => ⟨S2x2050x5632, .f32⟩
  | 104 => ⟨S2x2048x5632, .f32⟩
  | 105 => ⟨S_, .f32⟩
  | 106 => ⟨S5632, .f32⟩
  | 107 => ⟨S1x1x5632, .f32⟩
  | 108 => ⟨S2x2048x5632, .f32⟩
  | 109 => ⟨S2x2048x5632, .f32⟩
  | 110 => ⟨S_, .f32⟩
  | 111 => ⟨S5632, .f32⟩
  | 112 => ⟨S1x5632, .f32⟩
  | 113 => ⟨S_, .f32⟩
  | 114 => ⟨S3x5632, .f32⟩
  | 115 => ⟨S3x5632, .f32⟩
  | 116 => ⟨S_, .f32⟩
  | 117 => ⟨S2x2050x5632, .f32⟩
  | 118 => ⟨S2x2050x5632, .f32⟩
  | 119 => ⟨S2x2048x5632, .f32⟩
  | 120 => ⟨S_, .f32⟩
  | 121 => ⟨S5632, .f32⟩
  | 122 => ⟨S1x1x5632, .f32⟩
  | 123 => ⟨S2x2048x5632, .f32⟩
  | 124 => ⟨S2x2048x5632, .f32⟩
  | 125 => ⟨S_, .f32⟩
  | 126 => ⟨S5632, .f32⟩
  | 127 => ⟨S1x5632, .f32⟩
  | _ => ⟨S2x2048x1024, .f32⟩

abbrev hbmTy0_1 (i : Nat) : BufTy := match i % 128 with
  | 0 => ⟨S_, .f32⟩
  | 1 => ⟨S3x5632, .f32⟩
  | 2 => ⟨S3x5632, .f32⟩
  | 3 => ⟨S_, .f32⟩
  | 4 => ⟨S2x2050x5632, .f32⟩
  | 5 => ⟨S2x2050x5632, .f32⟩
  | 6 => ⟨S2x2x5632, .f32⟩
  | 7 => ⟨S2x2048x5632, .f32⟩
  | 8 => ⟨S2x2048x1024, .f32⟩
  | 9 => ⟨S2x2048x1024, .f32⟩
  | 10 => ⟨S_, .f32⟩
  | 11 => ⟨S1024, .f32⟩
  | 12 => ⟨S1x1x1024, .f32⟩
  | 13 => ⟨S2x2048x1024, .f32⟩
  | 14 => ⟨S2x2048x1024, .f32⟩
  | 15 => ⟨S_, .f32⟩
  | 16 => ⟨S1024, .f32⟩
  | 17 => ⟨S2x2048x1024, .f32⟩
  | 18 => ⟨S_, .f32⟩
  | 19 => ⟨S2x2048, .f32⟩
  | 20 => ⟨S2x2048x1, .f32⟩
  | 21 => ⟨S2x2048x1024, .f32⟩
  | 22 => ⟨S2x2048x1024, .f32⟩
  | 23 => ⟨S2x2048x1, .f32⟩
  | 24 => ⟨S_, .f32⟩
  | 25 => ⟨S2x2048x1, .f32⟩
  | 26 => ⟨S2x2048x1, .f32⟩
  | 27 => ⟨S_, .f32⟩
  | 28 => ⟨S2x2048, .f32⟩
  | 29 => ⟨S2x2048x1024, .f32⟩
  | 30 => ⟨S2x2048x1024, .f32⟩
  | 31 => ⟨S2x2048x1024, .f32⟩
  | 32 => ⟨S2x2048x1024, .f32⟩
  | 33 => ⟨S2x2048x1024, .f32⟩
  | 34 => ⟨S4096x2x4x704, .f32⟩
  | 35 => ⟨S2x4x4096x704, .f32⟩
  | 36 => ⟨S2x4x4096x704, .bf16⟩
  | 37 => ⟨S3x2x4x704, .f32⟩
  | 38 => ⟨S4x2x3x704, .f32⟩
  | 39 => ⟨S2x4x1x704, .f32⟩
  | 40 => ⟨S4x2x1x704, .f32⟩
  | 41 => ⟨S2x2048x1024, .f32⟩
  | 42 => ⟨S4096x1024, .f32⟩
  | 43 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v45_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v45_1 : Ref sig .tc := ⟨.hbm, 70, rfl⟩
abbrev main_v45_0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_cst_6 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_cst_8 : Ref sig .tc := ⟨.hbm, 89, rfl⟩
abbrev main_v57 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_cst_11 : Ref sig .tc := ⟨.hbm, 100, rfl⟩
abbrev main_v65 : Ref sig .tc := ⟨.hbm, 101, rfl⟩
abbrev main_cst_12 : Ref sig .tc := ⟨.hbm, 102, rfl⟩
abbrev main_v66 : Ref sig .tc := ⟨.hbm, 103, rfl⟩
abbrev main_v67 : Ref sig .tc := ⟨.hbm, 104, rfl⟩
abbrev main_cst_13 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_14 : Ref sig .tc := ⟨.hbm, 110, rfl⟩
abbrev main_v72 : Ref sig .tc := ⟨.hbm, 111, rfl⟩
abbrev main_v73 : Ref sig .tc := ⟨.hbm, 112, rfl⟩
abbrev main_cst_15 : Ref sig .tc := ⟨.hbm, 113, rfl⟩
abbrev main_v74 : Ref sig .tc := ⟨.hbm, 114, rfl⟩
abbrev main_v75 : Ref sig .tc := ⟨.hbm, 115, rfl⟩
abbrev main_cst_16 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_17 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_18 : Ref sig .tc := ⟨.hbm, 125, rfl⟩
abbrev main_v83 : Ref sig .tc := ⟨.hbm, 126, rfl⟩
abbrev main_v84 : Ref sig .tc := ⟨.hbm, 127, rfl⟩
abbrev main_cst_19 : Ref sig .tc := ⟨.hbm, 128, rfl⟩
abbrev main_v85 : Ref sig .tc := ⟨.hbm, 129, rfl⟩
abbrev main_v86 : Ref sig .tc := ⟨.hbm, 130, rfl⟩
abbrev main_cst_20 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_21 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_22 : Ref sig .tc := ⟨.hbm, 143, rfl⟩
abbrev main_v97 : Ref sig .tc := ⟨.hbm, 144, rfl⟩
abbrev main_v98 : Ref sig .tc := ⟨.hbm, 145, rfl⟩
abbrev main_cst_23 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_24 : Ref sig .tc := ⟨.hbm, 152, rfl⟩
abbrev main_v104 : Ref sig .tc := ⟨.hbm, 153, rfl⟩
abbrev main_v105 : Ref sig .tc := ⟨.hbm, 154, rfl⟩
abbrev main_cst_25 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x2048x5632 : Shape := ⟨3, ![2, 2048, 5632]⟩
abbrev S4096x8x704 : Shape := ⟨3, ![4096, 8, 704]⟩
abbrev S8x4096x704 : Shape := ⟨3, ![8, 4096, 704]⟩
abbrev S1x4096x1024 : Shape := ⟨3, ![1, 4096, 1024]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S4096x1024 : Shape := ⟨2, ![4096, 1024]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S4096x8x704, .f32⟩
  | .hbm, ⟨3, _⟩ => ⟨S8x4096x704, .f32⟩
  | .hbm, ⟨4, _⟩ => ⟨S8x4096x704, .bf16⟩
  | .hbm, ⟨5, _⟩ => ⟨S1x4096x1024, .f32⟩
  | .hbm, ⟨6, _⟩ => ⟨S1x4096x1024, .bf16⟩
  | .hbm, ⟨7, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x704x1024, .bf16⟩
  | .local _ .vmem, ⟨4, _⟩ => ⟨S1x704x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S2x2048x1024 : Shape := ⟨3, ![2, 2048, 1024]⟩
abbrev S2x2048x5632 : Shape := ⟨3, ![2, 2048, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S_, .f32⟩
  | .hbm, ⟨3, _⟩ => ⟨S1024x5632, .f32⟩
  | .hbm, ⟨4, _⟩ => ⟨S2x2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x704x1024, .f32⟩
  | .hbm, ⟨9, _⟩ => ⟨S8x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2x2048x2816 : Shape := ⟨3, ![2, 2048, 2816]⟩
abbrev S2x2048x1024 : Shape := ⟨3, ![2, 2048, 1024]⟩
abbrev S4096x4x704 : Shape := ⟨3, ![4096, 4, 704]⟩
abbrev S4x4096x704 : Shape := ⟨3, ![4, 4096, 704]⟩
abbrev S1x4096x1024 : Shape := ⟨3, ![1, 4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S4096x1024 : Shape := ⟨2, ![4096, 1024]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S1x4096x1024, .f32⟩
  | .hbm, ⟨6, _⟩ => ⟨S1x4096x1024, .bf16⟩
  | .hbm, ⟨7, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x704x1024, .bf16⟩
  | .local _ .vmem, ⟨4, _⟩ => ⟨S1x704x1024, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2x2048x2816 : Shape := ⟨3, ![2, 2048, 2816]⟩
abbrev S2x2048x1024 : Shape := ⟨3, ![2, 2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S_, .f32⟩
  | .hbm, ⟨3, _⟩ => ⟨S2816x1024, .f32⟩
  | .hbm, ⟨4, _⟩ => ⟨S2x2048x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2x2048x1024 : Shape := ⟨3, ![2, 2048, 1024]⟩
abbrev S2x2048x6144 : Shape := ⟨3, ![2, 2048, 6144]⟩
abbrev S1x4096x1024 : Shape := ⟨3, ![1, 4096, 1024]⟩
abbrev S4096x8x768 : Shape := ⟨3, ![4096, 8, 768]⟩
abbrev S8x4096x768 : Shape := ⟨3, ![8, 4096, 768]⟩
abbrev S8x1024x768 : Shape := ⟨3, ![8, 1024, 768]⟩
abbrev S1x4096x768 : Shape := ⟨3, ![1, 4096, 768]⟩
abbrev S1x1024x768 : Shape := ⟨3, ![1, 1024, 768]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x6144, .f32⟩
  | .hbm, ⟨2, _⟩ => ⟨S1x4096x1024, .f32⟩
  | .hbm, ⟨3, _⟩ => ⟨S1x4096x1024, .bf16⟩
  | .hbm, ⟨4, _⟩ => ⟨S4096x8x768, .f32⟩
  | .hbm, ⟨5, _⟩ => ⟨S8x4096x768, .f32⟩
  | .hbm, ⟨6, _⟩ => ⟨S8x4096x768, .bf16⟩
  | .hbm, ⟨7, _⟩ => ⟨S8x1024x768, .bf16⟩
  | .local _ .vmem, ⟨0, _⟩ => ⟨S1x4096x1024, .bf16⟩
  | .local _ .vmem, ⟨1, _⟩ => ⟨S1x4096x768, .bf16⟩
  | .local _ .vmem, ⟨2, _⟩ => ⟨S1x4096x768, .bf16⟩
  | .local _ .vmem, ⟨3, _⟩ => ⟨S1x1024x768, .bf16⟩
  | .local _ .vmem, ⟨4, _⟩ => ⟨S1x1024x768, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2x2048x1024 : Shape := ⟨3, ![2, 2048, 1024]⟩
abbrev S2x2048x6144 : Shape := ⟨3, ![2, 2048, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x6144, .f32⟩
  | .hbm, ⟨2, _⟩ => ⟨S_, .f32⟩
  | .hbm, ⟨3, _⟩ => ⟨S1024x6144, .f32⟩
  | .hbm, ⟨4, _⟩ => ⟨S2x2048x6144, .f32⟩
  | .hbm, ⟨5, _⟩ => ⟨S6144x1024, .f32⟩
  | .hbm, ⟨6, _⟩ => ⟨S1024x6144, .f32⟩
  | .hbm, ⟨7, _⟩ => ⟨S1024x8x768, .f32⟩
  | .hbm, ⟨8, _⟩ => ⟨S8x1024x768, .f32⟩
  | .hbm, ⟨9, _⟩ => ⟨S8x1024x768, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2x2048x1024 : Shape := ⟨3, ![2, 2048, 1024]⟩
abbrev S2x2048x3072 : Shape := ⟨3, ![2, 2048, 3072]⟩
abbrev S1x4096x1024 : Shape := ⟨3, ![1, 4096, 1024]⟩
abbrev S4096x8x384 : Shape := ⟨3, ![4096, 8, 384]⟩
abbrev S8x4096x384 : Shape := ⟨3, ![8, 4096, 384]⟩
abbrev S8x1024x384 : Shape := ⟨3, ![8, 1024, 384]⟩
abbrev S1x4096x384 : Shape := ⟨3, ![1, 4096, 384]⟩
abbrev S1x1024x384 : Shape := ⟨3, ![1, 1024, 384]⟩
abbrev S4096x1024 : Shape := ⟨2, ![4096, 1024]⟩
abbrev S4096x384 : Shape := ⟨2, ![4096, 384]⟩
abbrev S1024x384 : Shape := ⟨2, ![1024, 384]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3072, .f32⟩
  | .hbm, ⟨2, _⟩ => ⟨S1x4096x1024, .f32⟩
  | .hbm, ⟨3, _⟩ => ⟨S1x4096x1024, .bf16⟩
  | .hbm, ⟨4, _⟩ => ⟨S4096x8x384, .f32⟩
  | .hbm, ⟨5, _⟩ => ⟨S8x4096x384, .f32⟩
  | .hbm, ⟨6, _⟩ => ⟨S8x4096x384, .bf16⟩
  | .hbm, ⟨7, _⟩ => ⟨S8x1024x384, .bf16⟩
  | .local _ .vmem, ⟨0, _⟩ => ⟨S1x4096x1024, .bf16⟩
  | .local _ .vmem, ⟨1, _⟩ => ⟨S1x4096x384, .bf16⟩
  | .local _ .vmem, ⟨2, _⟩ => ⟨S1x4096x384, .bf16⟩
  | .local _ .vmem, ⟨3, _⟩ => ⟨S1x1024x384, .bf16⟩
  | .local _ .vmem, ⟨4, _⟩ => ⟨S1x1024x384, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2x2048x1024 : Shape := ⟨3, ![2, 2048, 1024]⟩
abbrev S2x2048x3072 : Shape := ⟨3, ![2, 2048, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3072, .f32⟩
  | .hbm, ⟨2, _⟩ => ⟨S_, .f32⟩
  | .hbm, ⟨3, _⟩ => ⟨S1024x3072, .f32⟩
  | .hbm, ⟨4, _⟩ => ⟨S2x2048x3072, .f32⟩
  | .hbm, ⟨5, _⟩ => ⟨S3072x1024, .f32⟩
  | .hbm, ⟨6, _⟩ => ⟨S1024x3072, .f32⟩
  | .hbm, ⟨7, _⟩ => ⟨S1024x8x384, .f32⟩
  | .hbm, ⟨8, _⟩ => ⟨S8x1024x384, .f32⟩
  | .hbm, ⟨9, _⟩ => ⟨S8x1024x384, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2x2048x1024 : Shape := ⟨3, ![2, 2048, 1024]⟩
abbrev S2x2048x2048 : Shape := ⟨3, ![2, 2048, 2048]⟩
abbrev S1x4096x1024 : Shape := ⟨3, ![1, 4096, 1024]⟩
abbrev S4096x8x256 : Shape := ⟨3, ![4096, 8, 256]⟩
abbrev S8x4096x256 : Shape := ⟨3, ![8, 4096, 256]⟩
abbrev S8x1024x256 : Shape := ⟨3, ![8, 1024, 256]⟩
abbrev S1x4096x256 : Shape := ⟨3, ![1, 4096, 256]⟩
abbrev S1x1024x256 : Shape := ⟨3, ![1, 1024, 256]⟩
abbrev S4096x1024 : Shape := ⟨2, ![4096, 1024]⟩
abbrev S4096x256 : Shape := ⟨2, ![4096, 256]⟩
abbrev S1024x256 : Shape := ⟨2, ![1024, 256]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .f32⟩
  | .hbm, ⟨2, _⟩ => ⟨S1x4096x1024, .f32⟩
  | .hbm, ⟨3, _⟩ => ⟨S1x4096x1024, .bf16⟩
  | .hbm, ⟨4, _⟩ => ⟨S4096x8x256, .f32⟩
  | .hbm, ⟨5, _⟩ => ⟨S8x4096x256, .f32⟩
  | .hbm, ⟨6, _⟩ => ⟨S8x4096x256, .bf16⟩
  | .hbm, ⟨7, _⟩ => ⟨S8x1024x256, .bf16⟩
  | .local _ .vmem, ⟨0, _⟩ => ⟨S1x4096x1024, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x1024x256, .bf16⟩
  | .local _ .vmem, ⟨4, _⟩ => ⟨S1x1024x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S2x2048x1024 : Shape := ⟨3, ![2, 2048, 1024]⟩
abbrev S2x2048x2048 : Shape := ⟨3, ![2, 2048, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .f32⟩
  | .hbm, ⟨2, _⟩ => ⟨S_, .f32⟩
  | .hbm, ⟨3, _⟩ => ⟨S1024x2048, .f32⟩
  | .hbm, ⟨4, _⟩ => ⟨S2x2048x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2x2048x1024 : Shape := ⟨3, ![2, 2048, 1024]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 7
  | .vmem => 3
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x4096x1024, .f32⟩
  | .hbm, ⟨3, _⟩ => ⟨S1x4096x1024, .bf16⟩
  | .hbm, ⟨4, _⟩ => ⟨S1x4096x1024, .f32⟩
  | .hbm, ⟨5, _⟩ => ⟨S1x4096x1024, .bf16⟩
  | .hbm, ⟨6, _⟩ => ⟨S1x1024x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference7Ideal.lean ====
abbrev S2x2048x1024 : Shape := ⟨3, ![2, 2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S_, .f32⟩
  | .hbm, ⟨3, _⟩ => ⟨S1024x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2x2048x1024 : Shape := ⟨3, ![2, 2048, 1024]⟩
abbrev S1024x1024 : Shape := ⟨2, ![1024, 1024]⟩
abbrev S1x4096x1024 : Shape := ⟨3, ![1, 4096, 1024]⟩
abbrev S1x1x1024x1024 : Shape := ⟨4, ![1, 1, 1024, 1024]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1x4096x1024, .f32⟩
  | .hbm, ⟨3, _⟩ => ⟨S1x4096x1024, .bf16⟩
  | .hbm, ⟨4, _⟩ => ⟨S1x1x1024x1024, .f32⟩
  | .hbm, ⟨5, _⟩ => ⟨S1x1x1024x1024, .bf16⟩
  | .hbm, ⟨6, _⟩ => ⟨S1x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1024x1024, .f32⟩
  | .local _ .vmem, ⟨4, _⟩ => ⟨S1x1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2x2048x1024 : Shape := ⟨3, ![2, 2048, 1024]⟩
abbrev S1024x1024 : Shape := ⟨2, ![1024, 1024]⟩
abbrev S_ : Shape := ⟨0, ![]⟩
abbrev S1x4096x1024 : Shape := ⟨3, ![1, 4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S_, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S1x4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1024 : Shape := ⟨1, ![1024]⟩
abbrev S4096x4x704 : Shape := ⟨3, ![4096, 4, 704]⟩
abbrev S4x4096x704 : Shape := ⟨3, ![4, 4096, 704]⟩
abbrev S1x4x704x1024 : Shape := ⟨4, ![1, 4, 704, 1024]⟩
abbrev S_ : Shape := ⟨0, ![]⟩
abbrev S4096x1024 : Shape := ⟨2, ![4096, 1024]⟩
abbrev S1x1024 : Shape := ⟨2, ![1, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S1024, .f32⟩
  | .hbm, ⟨4, _⟩ => ⟨S4096x4x704, .f32⟩
  | .hbm, ⟨5, _⟩ => ⟨S4x4096x704, .f32⟩
  | .hbm, ⟨6, _⟩ => ⟨S4x4096x704, .bf16⟩
  | .hbm, ⟨7, _⟩ => ⟨S1x4x704x1024, .f32⟩
  | .hbm, ⟨8, _⟩ => ⟨S1x4x704x1024, .bf16⟩
  | .hbm, ⟨9, _⟩ => ⟨S_, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1x4x704x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S4096x1024, .f32⟩
  | .hbm, ⟨23, _⟩ => ⟨S4096x1024, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S2x2048x1024 : Shape := ⟨3, ![2, 2048, 1024]⟩
abbrev S1024x1024 : Shape := ⟨2, ![1024, 1024]⟩
abbrev S1024 : Shape := ⟨1, ![1024]⟩
abbrev S1x4096x1024 : Shape := ⟨3, ![1, 4096, 1024]⟩
abbrev S1x1x1024x1024 : Shape := ⟨4, ![1, 1, 1024, 1024]⟩
abbrev S4096x1024 : Shape := ⟨2, ![4096, 1024]⟩
abbrev S1x1024 : Shape := ⟨2, ![1, 1024]⟩
abbrev S1x1024x1024 : Shape := ⟨3, ![1, 1024, 1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S2x2048x1024, .f32⟩
  | .hbm, ⟨4, _⟩ => ⟨S1024, .f32⟩
  | .hbm, ⟨5, _⟩ => ⟨S1x4096x1024, .f32⟩
  | .hbm, ⟨6, _⟩ => ⟨S1x4096x1024, .bf16⟩
  | .hbm, ⟨7, _⟩ => ⟨S1x1x1024x1024, .f32⟩
  | .hbm, ⟨8, _⟩ => ⟨S1x1x1024x1024, .bf16⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S2x2048 : Shape := ⟨2, ![2, 2048]⟩
abbrev S2x2048x1 : Shape := ⟨3, ![2, 2048, 1]⟩
abbrev S4096x1024 : Shape := ⟨2, ![4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S1x1x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S4096x1024, .f32⟩
  | .hbm, ⟨27, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel11.lean ====
abbrev S2x2048x1024 : Shape := ⟨3, ![2, 2048, 1024]⟩
abbrev S1024 : Shape := ⟨1, ![1024]⟩
abbrev S1024x3072 : Shape := ⟨2, ![1024, 3072]⟩
abbrev S4096x1024 : Shape := ⟨2, ![4096, 1024]⟩
abbrev S1024x8x1x384 : Shape := ⟨4, ![1024, 8, 1, 384]⟩
abbrev S8x1x1024x384 : Shape := ⟨4, ![8, 1, 1024, 384]⟩
abbrev S1x1024 : Shape := ⟨2, ![1, 1024]⟩
abbrev S8x4096x384 : Shape := ⟨3, ![8, 4096, 384]⟩
abbrev S1024x1024 : Shape := ⟨2, ![1024, 1024]⟩
abbrev S8x1024x384 : Shape := ⟨3, ![8, 1024, 384]⟩
abbrev S1024x1 : Shape := ⟨2, ![1024, 1]⟩
abbrev S1x1x1024x384 : Shape := ⟨4, ![1, 1, 1024, 384]⟩
abbrev S1024x384 : Shape := ⟨2, ![1024, 384]⟩
abbrev S1x1024x384 : Shape := ⟨3, ![1, 1024, 384]⟩

abbrev nBuf : Space → Nat
  | .hbm => 10
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S1024x8x1x384, .f32⟩
  | .hbm, ⟨5, _⟩ => ⟨S8x1x1024x384, .f32⟩
  | .hbm, ⟨6, _⟩ => ⟨S8x1x1024x384, .bf16⟩
  | .hbm, ⟨7, _⟩ => ⟨S1x1024, .f32⟩
  | .hbm, ⟨8, _⟩ => ⟨S8x4096x384, .bf16⟩
  | .hbm, ⟨9, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1x1024x384, .bf16⟩
  | .local _ .vmem, ⟨4, _⟩ => ⟨S8x1024x384, .bf16⟩
  | .local _ .vmem, ⟨5, _⟩ => ⟨S8x1024x384, .bf16⟩
  | .local _ .vmem, ⟨6, _⟩ => ⟨S1024x1024, .bf16⟩
  | .local _ .vmem, ⟨7, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S8x1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S2x2048x1024 : Shape := ⟨3, ![2, 2048, 1024]⟩
abbrev S1024 : Shape := ⟨1, ![1024]⟩
abbrev S1024x3072 : Shape := ⟨2, ![1024, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3072 : Shape := ⟨3, ![2, 2048, 3072]⟩
abbrev S4096x8x384 : Shape := ⟨3, ![4096, 8, 384]⟩
abbrev S8x4096x384 : Shape := ⟨3, ![8, 4096, 384]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x3072, .f32⟩
  | .hbm, ⟨20, _⟩ => ⟨S4096x8x384, .f32⟩
  | .hbm, ⟨21, _⟩ => ⟨S8x4096x384, .f32⟩
  | .hbm, ⟨22, _⟩ => ⟨S8x4096x384, .bf16⟩
  | .hbm, ⟨23, _⟩ => ⟨S4096x1024, .f32⟩
  | .hbm, ⟨24, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel12.lean ====
abbrev S2x2048x1024 : Shape := ⟨3, ![2, 2048, 1024]⟩
abbrev S1024 : Shape := ⟨1, ![1024]⟩
abbrev S1024x2048 : Shape := ⟨2, ![1024, 2048]⟩
abbrev S2048 : Shape := ⟨1, ![2048]⟩
abbrev S4096x1024 : Shape := ⟨2, ![4096, 1024]⟩
abbrev S1024x8x1x256 : Shape := ⟨4, ![1024, 8, 1, 256]⟩
abbrev S8x1x1024x256 : Shape := ⟨4, ![8, 1, 1024, 256]⟩
abbrev S8x1x1x256 : Shape := ⟨4, ![8, 1, 1, 256]⟩
abbrev S1x1024 : Shape := ⟨2, ![1, 1024]⟩
abbrev S8x4096x256 : Shape := ⟨3, ![8, 4096, 256]⟩
abbrev S1024x1024 : Shape := ⟨2, ![1024, 1024]⟩
abbrev S8x1024x256 : Shape := ⟨3, ![8, 1024, 256]⟩
abbrev S1024x1 : Shape := ⟨2, ![1024, 1]⟩
abbrev S1x1x1024x256 : Shape := ⟨4, ![1, 1, 1024, 256]⟩
abbrev S1024x256 : Shape := ⟨2, ![1024, 256]⟩
abbrev S1x1x1x256 : Shape := ⟨4, ![1, 1, 1, 256]⟩
abbrev S1x256 : Shape := ⟨2, ![1, 256]⟩
abbrev S1x1024x256 : Shape := ⟨3, ![1, 1024, 256]⟩

abbrev nBuf : Space → Nat
  | .hbm => 12
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S4096x1024, .f32⟩
  | .hbm, ⟨5, _⟩ => ⟨S1024x8x1x256, .f32⟩
  | .hbm, ⟨6, _⟩ => ⟨S8x1x1024x256, .f32⟩
  | .hbm, ⟨7, _⟩ => ⟨S8x1x1024x256, .bf16⟩
  | .hbm, ⟨8, _⟩ => ⟨S8x1x1x256, .f32⟩
  | .hbm, ⟨9, _⟩ => ⟨S1x1024, .f32⟩
  | .hbm, ⟨10, _⟩ => ⟨S8x4096x256, .bf16⟩
  | .hbm, ⟨11, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1x1024x256, .bf16⟩
  | .local _ .vmem, ⟨4, _⟩ => ⟨S8x1x1x256, .f32⟩
  | .local _ .vmem, ⟨5, _⟩ => ⟨S8x1024x256, .bf16⟩
  | .local _ .vmem, ⟨6, _⟩ => ⟨S8x1024x256, .bf16⟩
  | .local _ .vmem, ⟨7, _⟩ => ⟨S1024x1024, .bf16⟩
  | .local _ .vmem, ⟨8, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S8x1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S8x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference12Ideal.lean ====
abbrev S2x2048x1024 : Shape := ⟨3, ![2, 2048, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S1x1x2048 : Shape := ⟨3, ![1, 1, 2048]⟩
abbrev S4096x8x256 : Shape := ⟨3, ![4096, 8, 256]⟩
abbrev S8x4096x256 : Shape := ⟨3, ![8, 4096, 256]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x2048, .f32⟩
  | .hbm, ⟨21, _⟩ => ⟨S1x1x2048, .f32⟩
  | .hbm, ⟨22, _⟩ => ⟨S2x2048x2048, .f32⟩
  | .hbm, ⟨23, _⟩ => ⟨S2x2048x2048, .f32⟩
  | .hbm, ⟨24, _⟩ => ⟨S4096x8x256, .f32⟩
  | .hbm, ⟨25, _⟩ => ⟨S8x4096x256, .f32⟩
  | .hbm, ⟨26, _⟩ => ⟨S8x4096x256, .bf16⟩
  | .hbm, ⟨27, _⟩ => ⟨S4096x1024, .f32⟩
  | .hbm, ⟨28, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.Lang.lean ====
/-
  A small language for straight-line kernel code over named buffers. A command loads from or stores to one of the
  kernel's nineteen memrefs; a program is a tree of commands. `Prog.tr` turns it into the kernel's own operations,
  `run` says in plain functions what it does to the contents of the buffers, and `wp_tr` says that the first does the second.
-/
module

public import proofs.«01_k».proof.Proof.Gen.KernelIdeal.Frame
public import proofs.«01_k».proof.Proof.Gen.KernelIdeal.Skeleton

@[expose] public section

set_option maxRecDepth 16384

noncomputable section

namespace Cert.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The kernel's buffers: eleven input windows, five output windows, three scratch buffers. -/
inductive Cell where
  | dy | dyn | wo | u | ag | agn | cw | wt | x | gain | res | du | ddw | ddb | dx | dg | dz | da | acc
  deriving DecidableEq

/-- A buffer's shape. -/
def Cell.sh : Cell → Shape
  | .dy => S1x512x1024 | .dyn => S1x16x1024 | .wo => S1x1x704x1024 | .u => S2x1x512x704 | .ag => S2x1x512x704
  | .agn => S2x1x16x704 | .cw => S2x1x1x3x704 | .wt => S2x1x704x1024 | .x => S512x1024 | .gain => S1x1024 | .res => S512x1024
  | .du => S2x1x512x704 | .ddw => S4x2x3x704 | .ddb => S4x2x1x704 | .dx => S512x1024 | .dg => S1x1024
  | .dz => S528x704 | .da => S2x3x528x704 | .acc => S512x1024

/-- A buffer's element type. -/
def Cell.el : Cell → EltTy
  | .dy => .bf16 | .dyn => .bf16 | .wo => .bf16 | .u => .bf16 | .ag => .bf16 | .agn => .bf16 | .cw => .f32 | .wt => .bf16
  | .x => .f32 | .gain => .f32 | .res => .f32 | .du => .bf16 | .ddw => .f32 | .ddb => .f32 | .dx => .f32 | .dg => .f32
  | .dz => .f32 | .da => .f32 | .acc => .f32

/-- The memrefs a point's body is handed. -/
structure Mems where
  m2 : Memref sig .tc .vmem S1x512x1024 .bf16
  w2 : m2.IsWhole
  m3 : Memref sig .tc .vmem S1x16x1024 .bf16
  w3 : m3.IsWhole
  m4 : Memref sig .tc .vmem S1x1x704x1024 .bf16
  w4 : m4.IsWhole
  m5 : Memref sig .tc .vmem S2x1x512x704 .bf16
  w5 : m5.IsWhole
  m6 : Memref sig .tc .vmem S2x1x512x704 .bf16
  w6 : m6.IsWhole
  m7 : Memref sig .tc .vmem S2x1x16x704 .bf16
  w7 : m7.IsWhole
  m8 : Memref sig .tc .vmem S2x1x1x3x704 .f32
  w8 : m8.IsWhole
  m9 : Memref sig .tc .vmem S2x1x704x1024 .bf16
  w9 : m9.IsWhole
  m10 : Memref sig .tc .vmem S512x1024 .f32
  w10 : m10.IsWhole
  m11 : Memref sig .tc .vmem S1x1024 .f32
  w11 : m11.IsWhole
  m12 : Memref sig .tc .vmem S512x1024 .f32
  w12 : m12.IsWhole
  m13 : Memref sig .tc .vmem S2x1x512x704 .bf16
  w13 : m13.IsWhole
  m14 : Memref sig .tc .vmem S4x2x3x704 .f32
  w14 : m14.IsWhole
  m15 : Memref sig .tc .vmem S4x2x1x704 .f32
  w15 : m15.IsWhole
  m16 : Memref sig .tc .vmem S512x1024 .f32
  w16 : m16.IsWhole
  m17 : Memref sig .tc .vmem S1x1024 .f32
  w17 : m17.IsWhole
  m18 : Memref sig .tc .vmem S528x704 .f32
  w18 : m18.IsWhole
  m19 : Memref sig .tc .vmem S2x3x528x704 .f32
  w19 : m19.IsWhole
  m20 : Memref sig .tc .vmem S512x1024 .f32
  w20 : m20.IsWhole

/-- The memref of a buffer. -/
def Mems.mem (M : Mems) : (b : Cell) → Memref sig .tc .vmem b.sh b.el
  | .dy => M.m2 | .dyn => M.m3 | .wo => M.m4 | .u => M.m5 | .ag => M.m6 | .agn => M.m7 | .cw => M.m8 | .wt => M.m9
  | .x => M.m10 | .gain => M.m11 | .res => M.m12 | .du => M.m13 | .ddw => M.m14 | .ddb => M.m15 | .dx => M.m16 | .dg => M.m17
  | .dz => M.m18 | .da => M.m19 | .acc => M.m20

/-- The contents of all buffers. -/
abbrev St (F : FTy → Type) := (b : Cell) → b.sh.Idx → Elt F b.el

/-- One command: a load from a rectangle of a buffer, or an unmasked store to one. -/
inductive Cmd (F : FTy → Type) (M : Mems) : Type → Type 1
  | ld (b : Cell) (r : Rect b.sh) (h : (M.mem b).view.LoadsAt r.toLoadRect) : Cmd F M (r.toLoadRect.shape.Idx → Elt F b.el)
  | st (b : Cell) (r : Rect b.sh) (w : r.shape.Idx → Elt F b.el) (h : ((M.mem b).access r).Stores Finset.univ) : Cmd F M PUnit

variable {M : Mems} {α β : Type}

/-- The kernel's operations for a program of commands. -/
def tr : Prog (Cmd F M) α → Prog (TpuEff nD τ sig (Elt F) Λ₀ .tc) α
  | .ret a => .ret a
  | .op (.ld b r h) k => .op (.load (M.mem b) r.toLoadRect h) (fun v => tr (k v))
  | .op (.st b r w h) k => .op (.store (M.mem b) r w Finset.univ h (.inl rfl)) (fun v => tr (k v))

/-- What a program of commands returns, and the contents it leaves. -/
def run : Prog (Cmd F M) α → St F → α × St F
  | .ret a, s => (a, s)
  | .op (.ld b r _) k, s => run (k (fun i => s b (r.emb i))) s
  | .op (.st b r w _) k, s => run (k ⟨⟩) (Function.update s b (r.overlay (s b) w))

theorem run_bind (p : Prog (Cmd F M) α) (k : α → Prog (Cmd F M) β) (s : St F) :
    run (p >>= k) s = run (k (run p s).1) (run p s).2 := by
  induction p generalizing s with
  | ret a => rfl
  | op e c ih =>
    cases e with
    | ld b r h => exact ih _ _
    | st b r w h => exact ih _ _

theorem tr_bind (p : Prog (Cmd F M) α) (k : α → Prog (Cmd F M) β) : tr (p >>= k) = tr p >>= fun a => tr (k a) := by
  induction p with
  | ret a => rfl
  | op e c ih =>
    cases e with
    | ld b r h => exact congrArg (Prog.op _) (funext fun v => ih v)
    | st b r w h => exact congrArg (Prog.op _) (funext fun v => ih v)

/-- All buffers owned whole at given contents. -/
def own (c : Dev nD) (M : Mems) (s : St F) : sProp 𝕄 :=
  iprop(owns (c : Thread nD τ) M.m2 fullShare (s .dy) ∗ owns (c : Thread nD τ) M.m3 fullShare (s .dyn) ∗ owns (c : Thread nD τ) M.m4 fullShare (s .wo)
    ∗ owns (c : Thread nD τ) M.m5 fullShare (s .u) ∗ owns (c : Thread nD τ) M.m6 fullShare (s .ag) ∗ owns (c : Thread nD τ) M.m7 fullShare (s .agn)
    ∗ owns (c : Thread nD τ) M.m8 fullShare (s .cw) ∗ owns (c : Thread nD τ) M.m9 fullShare (s .wt) ∗ owns (c : Thread nD τ) M.m10 fullShare (s .x)
    ∗ owns (c : Thread nD τ) M.m11 fullShare (s .gain) ∗ owns (c : Thread nD τ) M.m12 fullShare (s .res) ∗ owns (c : Thread nD τ) M.m13 fullShare (s .du)
    ∗ owns (c : Thread nD τ) M.m14 fullShare (s .ddw) ∗ owns (c : Thread nD τ) M.m15 fullShare (s .ddb) ∗ owns (c : Thread nD τ) M.m16 fullShare (s .dx)
    ∗ owns (c : Thread nD τ) M.m17 fullShare (s .dg) ∗ owns (c : Thread nD τ) M.m18 fullShare (s .dz) ∗ owns (c : Thread nD τ) M.m19 fullShare (s .da)
    ∗ owns (c : Thread nD τ) M.m20 fullShare (s .acc))

/-- One buffer taken out, to be given back at any contents. -/
theorem own_split (c : Dev nD) (M : Mems) (s : St F) (b : Cell) :
    own c M s ⊢ iprop(owns (c : Thread nD τ) (M.mem b) fullShare (s b)
      ∗ ∀ X, owns (c : Thread nD τ) (M.mem b) fullShare X -∗ own c M (Function.update s b X)) := by
  unfold own
  iintro ⟨H2, H3, H4, H5, H6, H7, H8, H9, H10, H11, H12, H13, H14, H15, H16, H17, H18, H19, H20⟩
  cases b <;> simp only [Function.update_self, ne_eq, reduceCtorEq, not_false_eq_true, Function.update_of_ne]
  · isplitl [H2]; · iexact H2
    iintro %X HX; iframe; iexact HX
  · isplitl [H3]; · iexact H3
    iintro %X HX; iframe; iexact HX
  · isplitl [H4]; · iexact H4
    iintro %X HX; iframe; iexact HX
  · isplitl [H5]; · iexact H5
    iintro %X HX; iframe; iexact HX
  · isplitl [H6]; · iexact H6
    iintro %X HX; iframe; iexact HX
  · isplitl [H7]; · iexact H7
    iintro %X HX; iframe; iexact HX
  · isplitl [H8]; · iexact H8
    iintro %X HX; iframe; iexact HX
  · isplitl [H9]; · iexact H9
    iintro %X HX; iframe; iexact HX
  · isplitl [H10]; · iexact H10
    iintro %X HX; iframe; iexact HX
  · isplitl [H11]; · iexact H11
    iintro %X HX; iframe; iexact HX
  · isplitl [H12]; · iexact H12
    iintro %X HX; iframe; iexact HX
  · isplitl [H13]; · iexact H13
    iintro %X HX; iframe; iexact HX
  · isplitl [H14]; · iexact H14
    iintro %X HX; iframe; iexact HX
  · isplitl [H15]; · iexact H15
    iintro %X HX; iframe; iexact HX
  · isplitl [H16]; · iexact H16
    iintro %X HX; iframe; iexact HX
  · isplitl [H17]; · iexact H17
    iintro %X HX; iframe; iexact HX
  · isplitl [H18]; · iexact H18
    iintro %X HX; iframe; iexact HX
  · isplitl [H19]; · iexact H19
    iintro %X HX; iframe; iexact HX
  · isplitl [H20]; · iexact H20
    iintro %X HX; iframe; iexact HX

variable (c : Dev nD) (E : Set ℕ)

/-- A load through an owned memref. -/
theorem wp_ld {sh : Shape} {e : EltTy} (m : Memref sig .tc .vmem sh e) (r : Rect sh) (h : m.view.LoadsAt r.toLoadRect) (X : sh.Idx → Elt F e)
    (k : (r.toLoadRect.shape.Idx → Elt F e) → Prog (TpuEff nD τ sig (Elt F) Λ₀ .tc) α) (K : α → sProp 𝕄) :
    owns (c : Thread nD τ) m fullShare X
      ⊢ iprop((owns (c : Thread nD τ) m fullShare X -∗ wp frame (wpE (defs₀ (F := F)) Variants.none c none) E (k (fun i => X (r.emb i))) K)
        -∗ wp frame (wpE (defs₀ (F := F)) Variants.none c none) E (.op (.load m r.toLoadRect h) k) K) := by
  unfold owns
  iintro ⟨%f, %hf, H⟩ Hk
  iapply (wp_load_rect (c := (c : Thread nD τ)) Variants.none none E (m := m) (r := r) (hl := h) (f := f) (S := m.view.set) (m.view.set_slice_subset r)) $$ H
  iintro H
  subst hf
  iapply Hk
  iexists f
  isplitr
  · ipureintro; rfl
  iexact H

/-- A store through an owned memref. -/
theorem wp_st {sh : Shape} {e : EltTy} (m : Memref sig .tc .vmem sh e) (r : Rect sh) (w : r.shape.Idx → Elt F e)
    (h : (m.access r).Stores Finset.univ) (X : sh.Idx → Elt F e)
    (k : PUnit → Prog (TpuEff nD τ sig (Elt F) Λ₀ .tc) α) (K : α → sProp 𝕄) :
    owns (c : Thread nD τ) m fullShare X
      ⊢ iprop((owns (c : Thread nD τ) m fullShare (r.overlay X w) -∗ wp frame (wpE (defs₀ (F := F)) Variants.none c none) E (k ⟨⟩) K)
        -∗ wp frame (wpE (defs₀ (F := F)) Variants.none c none) E (.op (.store m r w Finset.univ h (.inl rfl)) k) K) := by
  unfold owns
  iintro ⟨%f, %hf, H⟩ Hk
  iapply (wp_store_writes₀ (c := (c : Thread nD τ)) Variants.none none E (m := m) (r := r) (w := w) (hx := h) (hm := .inl rfl) (f := f) (S := m.view.set) (m.view.set_slice_subset r)) $$ H
  iintro H
  iapply Hk
  iexists _
  isplitr
  · ipureintro
    subst hf
    funext y
    by_cases hy : y ∈ r.set
    · obtain ⟨x, -, rfl⟩ := Finset.mem_map.mp ((Rect.map_emb_univ r).symm ▸ hy : y ∈ Finset.univ.map r.emb)
      rw [Rect.overlay_emb]; exact View.read_writes_cons_emb m.view f r w [] x
    · rw [Rect.overlay_of_not_mem _ _ _ hy]
      exact View.read_writes_cons_miss m.view f ⟨r, w⟩ [] y hy
  iexact H

/-- The kernel's operations for a program of commands do what `run` says. -/
theorem wp_tr (p : Prog (Cmd F M) α) (s : St F) (K : α → sProp 𝕄) :
    own c M s ⊢ iprop((own c M (run p s).2 -∗ K (run p s).1)
      -∗ wp frame (wpE (defs₀ (F := F)) Variants.none c none) E (tr p) K) := by
  induction p generalizing s with
  | ret a =>
    iintro H Hk
    simp only [tr, wp_ret, run]
    imodintro
    iapply Hk $$ H
  | op e k ih =>
    cases e with
    | ld b r h =>
      iintro H Hk
      ihave ⟨Hb, Hr⟩ := own_split c M s b $$ H
      iapply wp_ld c E (M.mem b) r h (s b) $$ Hb
      iintro Hb
      have hs : own c M s = own c M (Function.update s b (s b)) := by rw [Function.update_eq_self]
      iapply ih _ s $$ [Hr Hb]
      · rw [hs]; iapply Hr $$ Hb
      iexact Hk
    | st b r w h =>
      iintro H Hk
      ihave ⟨Hb, Hr⟩ := own_split c M s b $$ H
      iapply wp_st c E (M.mem b) r w h (s b) $$ Hb
      iintro Hb
      iapply ih _ (Function.update s b (r.overlay (s b) w)) $$ [Hr Hb]
      · iapply Hr $$ Hb
      iexact Hk

end Cert.FfnBwd
-- ==== Proof.Nice.lean ====
/-
  The layer's backward body written with loops, as a program of commands: the chunks of sixteen rows are one definition each,
  taken at a row number.
-/
module

public import proofs.«01_k».proof.Proof.Lang

@[expose] public section

set_option maxRecDepth 16384

noncomputable section

namespace Cert.FfnBwd

open Idealize.ShloMosaic Idealize.ShloMosaic.TcCoe Idealize.SL.Sem
open Cert.KernelIdeal Cert.KernelIdeal.Gen

variable {F : FTy → Type} [FloatOps F] {M : Mems}

/-! ## Places -/

theorem inb_dz {r : ℕ} (hr : r < 33) : ∀ a, (![16 * r, 0] : Fin 2 → ℕ) a + S16x704.size a ≤ S528x704.size a := by
  simp [Fin.forall_fin_succ]; omega

theorem inb_da {h s r : ℕ} (hh : h < 2) (hs : s < 3) (hr : r < 33) :
    ∀ a, (![h, s, 16 * r, 0] : Fin 4 → ℕ) a + S1x1x16x704.size a ≤ S2x3x528x704.size a := by
  simp [Fin.forall_fin_succ]; omega

theorem inb_daBig {h s r : ℕ} (hh : h < 2) (hs : s < 3) (hr : r < 17) :
    ∀ a, (![h, s, r, 0] : Fin 4 → ℕ) a + S1x1x512x704.size a ≤ S2x3x528x704.size a := by
  simp [Fin.forall_fin_succ]; omega

theorem inb_u {h r : ℕ} (hh : h < 2) (hr : r < 32) :
    ∀ a, (![h, 0, 16 * r, 0] : Fin 4 → ℕ) a + S1x1x16x704.size a ≤ S2x1x512x704.size a := by
  simp [Fin.forall_fin_succ]; omega

theorem inb_uBig {h : ℕ} (hh : h < 2) :
    ∀ a, (![h, 0, 0, 0] : Fin 4 → ℕ) a + S1x1x512x704.size a ≤ S2x1x512x704.size a := by
  simp [Fin.forall_fin_succ]; omega

theorem inb_agn {h : ℕ} (hh : h < 2) :
    ∀ a, (![h, 0, 0, 0] : Fin 4 → ℕ) a + S1x1x16x704.size a ≤ S2x1x16x704.size a := by
  simp [Fin.forall_fin_succ]; omega

theorem inb_cw {h k : ℕ} (hh : h < 2) (hk : k < 3) :
    ∀ a, (![h, 0, 0, k, 0] : Fin 5 → ℕ) a + S1x1x1x1x704.size a ≤ S2x1x1x3x704.size a := by
  simp [Fin.forall_fin_succ]; omega

theorem inb_wt {h : ℕ} (hh : h < 2) :
    ∀ a, (![h, 0, 0, 0] : Fin 4 → ℕ) a + S1x1x704x1024.size a ≤ S2x1x704x1024.size a := by
  simp [Fin.forall_fin_succ]; omega

/-- The shard's number, as the kernel computes it. -/
def shard (i : grid0.Coords) : ℕ := (Scalar.indexCast (BitVec.ofNat 32 (i 1).val) : Index).toNat

theorem shard_eq (i : grid0.Coords) : shard i = (i 1).val := by
  have h : (i 1).val < 4 := (i 1).isLt
  unfold shard
  generalize (i 1).val = n at h
  match n, h with
  | 0, _ => rfl
  | 1, _ => rfl
  | 2, _ => rfl
  | 3, _ => rfl

theorem inb_ddw (i : grid0.Coords) {h k : ℕ} (hh : h < 2) (hk : k < 3) :
    ∀ a, (![shard i, h, k, 0] : Fin 4 → ℕ) a + S1x1x1x704.size a ≤ S4x2x3x704.size a := by
  have h : (i 1).val < 4 := (i 1).isLt
  rw [shard_eq]; simp [Fin.forall_fin_succ]; omega

theorem inb_ddb (i : grid0.Coords) {h : ℕ} (hh : h < 2) :
    ∀ a, (![shard i, h, 0, 0] : Fin 4 → ℕ) a + S1x1x1x704.size a ≤ S4x2x1x704.size a := by
  have h : (i 1).val < 4 := (i 1).isLt
  rw [shard_eq]; simp [Fin.forall_fin_succ]; omega

theorem packed_u {h r : ℕ} (hh : h < 2) (hr : r < 32) :
    (Rect.unit (s := S2x1x512x704) ![h, 0, 16 * r, 0] S1x1x16x704.size (inb_u hh hr)).PackedRows (EltTy.packing .bf16) := by
  refine .inr ⟨by decide, rfl, .inl ⟨?_, ?_⟩⟩
  · show EltTy.packing .bf16 ∣ 16 * r
    exact Dvd.dvd.mul_right (by decide) r
  · show EltTy.packing .bf16 ∣ 16
    decide

/-! ## Loads and stores -/

abbrev Blk1 (F : FTy → Type) := Vec F S16x704 .f32

def ldDz (r : ℕ) (hr : r < 33) : Prog (Cmd F M) (Vec F S16x704 .f32) :=
  Prog.lift (.ld .dz (Rect.unit (s := S528x704) ![16 * r, 0] S16x704.size (inb_dz hr)) (View.loadsAt_vmem h_S16x704))
def stDz (r : ℕ) (hr : r < 33) (w : Vec F S16x704 .f32) : Prog (Cmd F M) PUnit :=
  Prog.lift (.st .dz (Rect.unit (s := S528x704) ![16 * r, 0] S16x704.size (inb_dz hr)) w (View.stores_vmem_bits_univ h_S16x704 rfl))
def ldAg (h r : ℕ) (hh : h < 2) (hr : r < 32) : Prog (Cmd F M) (Vec F S1x1x16x704 .bf16) :=
  Prog.lift (.ld .ag (Rect.unit (s := S2x1x512x704) ![h, 0, 16 * r, 0] S1x1x16x704.size (inb_u hh hr)) (View.loadsAt_vmem h_S1x1x16x704))
def ldAgn (h : ℕ) (hh : h < 2) : Prog (Cmd F M) (Vec F S1x1x16x704 .bf16) :=
  Prog.lift (.ld .agn (Rect.unit (s := S2x1x16x704) ![h, 0, 0, 0] S1x1x16x704.size (inb_agn hh)) (View.loadsAt_vmem h_S1x1x16x704))
def ldDa (h s r : ℕ) (hh : h < 2) (hs : s < 3) (hr : r < 33) : Prog (Cmd F M) (Vec F S1x1x16x704 .f32) :=
  Prog.lift (.ld .da (Rect.unit (s := S2x3x528x704) ![h, s, 16 * r, 0] S1x1x16x704.size (inb_da hh hs hr)) (View.loadsAt_vmem h_S1x1x16x704))
def stDa (h r : ℕ) (hh : h < 2) (hr : r < 33) (w : Vec F S1x1x16x704 .f32) : Prog (Cmd F M) PUnit :=
  Prog.lift (.st .da (Rect.unit (s := S2x3x528x704) ![h, 0, 16 * r, 0] S1x1x16x704.size (inb_da hh (by decide) hr)) w
    (View.stores_vmem_bits_univ h_S1x1x16x704 rfl))
def ldDaBig (h s r : ℕ) (hh : h < 2) (hs : s < 3) (hr : r < 17) : Prog (Cmd F M) (Vec F S1x1x512x704 .f32) :=
  Prog.lift (.ld .da (Rect.unit (s := S2x3x528x704) ![h, s, r, 0] S1x1x512x704.size (inb_daBig hh hs hr)) (View.loadsAt_vmem h_S1x1x512x704))
def stDaBig (h s : ℕ) (hh : h < 2) (hs : s < 3) (w : Vec F S1x1x512x704 .f32) : Prog (Cmd F M) PUnit :=
  Prog.lift (.st .da (Rect.unit (s := S2x3x528x704) ![h, s, 0, 0] S1x1x512x704.size (inb_daBig hh hs (by decide))) w
    (View.stores_vmem_bits_univ h_S1x1x512x704 rfl))
def ldU (h r : ℕ) (hh : h < 2) (hr : r < 32) : Prog (Cmd F M) (Vec F S1x1x16x704 .bf16) :=
  Prog.lift (.ld .u (Rect.unit (s := S2x1x512x704) ![h, 0, 16 * r, 0] S1x1x16x704.size (inb_u hh hr)) (View.loadsAt_vmem h_S1x1x16x704))
def ldCw (h k : ℕ) (hh : h < 2) (hk : k < 3) : Prog (Cmd F M) (Vec F S1x1x1x1x704 .f32) :=
  Prog.lift (.ld .cw (Rect.unit (s := S2x1x1x3x704) ![h, 0, 0, k, 0] S1x1x1x1x704.size (inb_cw hh hk)) (View.loadsAt_vmem h_S1x1x1x1x704))
def ldDu (h r : ℕ) (hh : h < 2) (hr : r < 32) : Prog (Cmd F M) (Vec F S1x1x16x704 .bf16) :=
  Prog.lift (.ld .du (Rect.unit (s := S2x1x512x704) ![h, 0, 16 * r, 0] S1x1x16x704.size (inb_u hh hr)) (View.loadsAt_vmem h_S1x1x16x704))
def stDu (h r : ℕ) (hh : h < 2) (hr : r < 32) (w : Vec F S1x1x16x704 .bf16) : Prog (Cmd F M) PUnit :=
  Prog.lift (.st .du (Rect.unit (s := S2x1x512x704) ![h, 0, 16 * r, 0] S1x1x16x704.size (inb_u hh hr)) w
    (View.stores_vmem h_S1x1x16x704 (M.w13.storeExact_slice rfl _ (packed_u hh hr)) (fun _ => rfl)))
def ldDdw (i : grid0.Coords) (h k : ℕ) (hh : h < 2) (hk : k < 3) : Prog (Cmd F M) (Vec F S1x1x1x704 .f32) :=
  Prog.lift (.ld .ddw (Rect.unit (s := S4x2x3x704) ![shard i, h, k, 0] S1x1x1x704.size (inb_ddw i hh hk)) (View.loadsAt_vmem h_S1x1x1x704))
def stDdw (i : grid0.Coords) (h k : ℕ) (hh : h < 2) (hk : k < 3) (w : Vec F S1x1x1x704 .f32) : Prog (Cmd F M) PUnit :=
  Prog.lift (.st .ddw (Rect.unit (s := S4x2x3x704) ![shard i, h, k, 0] S1x1x1x704.size (inb_ddw i hh hk)) w
    (View.stores_vmem_bits_univ h_S1x1x1x704 rfl))
def ldDdb (i : grid0.Coords) (h : ℕ) (hh : h < 2) : Prog (Cmd F M) (Vec F S1x1x1x704 .f32) :=
  Prog.lift (.ld .ddb (Rect.unit (s := S4x2x1x704) ![shard i, h, 0, 0] S1x1x1x704.size (inb_ddb i hh)) (View.loadsAt_vmem h_S1x1x1x704))
def stDdb (i : grid0.Coords) (h : ℕ) (hh : h < 2) (w : Vec F S1x1x1x704 .f32) : Prog (Cmd F M) PUnit :=
  Prog.lift (.st .ddb (Rect.unit (s := S4x2x1x704) ![shard i, h, 0, 0] S1x1x1x704.size (inb_ddb i hh)) w
    (View.stores_vmem_bits_univ h_S1x1x1x704 rfl))
def ldWo : Prog (Cmd F M) (Vec F S1x1x704x1024 .bf16) :=
  Prog.lift (.ld .wo (Rect.unit (s := S1x1x704x1024) ![0, 0, 0, 0] S1x1x704x1024.size inb_S1x1x704x1024_S1x1x704x1024_0_0_0_0) (View.loadsAt_vmem h_S1x1x704x1024))
def ldDuBig (h : ℕ) (hh : h < 2) : Prog (Cmd F M) (Vec F S1x1x512x704 .bf16) :=
  Prog.lift (.ld .du (Rect.unit (s := S2x1x512x704) ![h, 0, 0, 0] S1x1x512x704.size (inb_uBig hh)) (View.loadsAt_vmem h_S1x1x512x704))
def ldWt (h : ℕ) (hh : h < 2) : Prog (Cmd F M) (Vec F S1x1x704x1024 .bf16) :=
  Prog.lift (.ld .wt (Rect.unit (s := S2x1x704x1024) ![h, 0, 0, 0] S1x1x704x1024.size (inb_wt hh)) (View.loadsAt_vmem h_S1x1x704x1024))
def ldAcc : Prog (Cmd F M) (Vec F S512x1024 .f32) :=
  Prog.lift (.ld .acc (Rect.unit (s := S512x1024) ![0, 0] S512x1024.size inb_S512x1024_S512x1024_0_0) (View.loadsAt_vmem h_S512x1024))

/-! ## Block values -/

/-- A chunk of the gradient of the gate's two factors. -/
def daVal (dz : Vec F S16x704 .f32) (g : Vec F S1x1x16x704 .bf16) : FVec F S1x1x16x704 .f32 :=
  shapeCast S1x1x16x704 (mulf dz (extf .f32 (shapeCast S16x704 g shapeCasts_S1x1x16x704_S16x704) bitsLt_bf16_f32)) shapeCasts_S16x704_S1x1x16x704

/-- A row of conv weights, on sixteen rows. -/
def cwRows (v : Vec F S1x1x1x1x704 .f32) : FVec F S16x704 .f32 :=
  broadcastTo S16x704 (shapeCast S1x704 v shapeCasts_S1x1x1x1x704_S1x704) broadcasts_S1x704_S16x704

/-- A chunk without its unit axes. -/
def flat (v : Vec F S1x1x16x704 .f32) : FVec F S16x704 .f32 := shapeCast S16x704 v shapeCasts_S1x1x16x704_S16x704

/-- A chunk of `u` in the wide format. -/
def wide (v : Vec F S1x1x16x704 .bf16) : FVec F S16x704 .f32 :=
  extf .f32 (shapeCast S16x704 v shapeCasts_S1x1x16x704_S16x704) bitsLt_bf16_f32

/-- A chunk of the gradient of `u`. -/
def duVal (c0 c1 c2 : Vec F S1x1x1x1x704 .f32) (d2 d1 d0 : Vec F S1x1x16x704 .f32) : FVec F S1x1x16x704 .bf16 :=
  shapeCast S1x1x16x704 (truncf .bf16 (addf (addf (mulf (cwRows c0) (flat d2)) (mulf (cwRows c1) (flat d1))) (mulf (cwRows c2) (flat d0))) bitsLt_bf16_f32)
    shapeCasts_S16x704_S1x1x16x704

/-- A row of a gradient of the conv's parameters, with a chunk's columns summed onto it. -/
def rowVal (old : Vec F S1x1x1x704 .f32) (t : FVec F S16x704 .f32) : FVec F S1x1x1x704 .f32 :=
  shapeCast S1x1x1x704 (addf (shapeCast S1x704 old shapeCasts_S1x1x1x704_S1x704)
    (shapeCast S1x704 (multiReduction .add [0] S704 t 0x00000000#32 reduces_S16x704_S704 (.inl rfl) rfl) shapeCasts_S704_S1x704)) shapeCasts_S1x704_S1x1x1x704

/-- A slot's rows, reshaped there and back. -/
def slotFlat (v : Vec F S1x1x512x704 .f32) : FVec F S512x704 .f32 := shapeCast S512x704 v shapeCasts_S1x1x512x704_S512x704
def slotBack (v : FVec F S512x704 .f32) : FVec F S1x1x512x704 .f32 := shapeCast S1x1x512x704 v shapeCasts_S512x704_S1x1x512x704

/-- The halo rows' product, zero at a sequence's last tile. -/
def haloVal (last : BitVec 1) (dyn : FVec F S16x1024 .bf16) (wo : Vec F S1x1x704x1024 .bf16) : FVec F S16x704 .f32 :=
  shapeCast S16x704 (Scalar.select last (broadcast S16x704 (Scalar.ofBits .f32 0x00000000#32))
    (matmul dot_S16x1024_S704x1024_S16x704_1_1_0_0_n_n none dyn (shapeCast S704x1024 wo shapeCasts_S1x1x704x1024_S704x1024)
      (constant S16x704 .f32 0x00000000#32))) shapeCasts_S16x704_S16x704

/-- One half's part of the input's gradient. -/
def partVal (du : Vec F S1x1x512x704 .bf16) (wt : Vec F S1x1x704x1024 .bf16) : FVec F S512x1024 .f32 :=
  matmul dot_S512x704_S704x1024_S512x1024_1_0_0_1_n_n none (shapeCast S512x704 du shapeCasts_S1x1x512x704_S512x704)
    (shapeCast S704x1024 wt shapeCasts_S1x1x704x1024_S704x1024) (constant S512x1024 .f32 0x00000000#32)

/-! ## The loops -/

/-- `k` steps from step `r` on, with a carried value. -/
def loop {σ : Type} {N : ℕ} (f : (r : ℕ) → r < N → σ → Prog (Cmd F M) σ) : (k r : ℕ) → r + k = N → σ → Prog (Cmd F M) σ
  | 0, _, _, a => pure a
  | k + 1, r, h, a => f r (by omega) a >>= fun a' => loop f k (r + 1) (by omega) a'

/-- One chunk of the gradients of the gate's factors, both halves. -/
def chunkA (r : ℕ) (hr : r < 32) (_ : PUnit) : Prog (Cmd F M) PUnit := do
  let dz ← ldDz r (by omega)
  let g0 ← ldAg 0 r (by decide) hr
  let _ ← ldDa 0 0 r (by decide) (by decide) (by omega)
  stDa 0 r (by decide) (by omega) (daVal dz g0)
  let g1 ← ldAg 1 r (by decide) hr
  let _ ← ldDa 1 0 r (by decide) (by decide) (by omega)
  stDa 1 r (by decide) (by omega) (daVal dz g1)

/-- The halo's chunk of them. -/
def chunkHalo : Prog (Cmd F M) PUnit := do
  let dz ← ldDz 32 (by decide)
  let g0 ← ldAgn 0 (by decide)
  let _ ← ldDa 0 0 32 (by decide) (by decide) (by decide)
  stDa 0 32 (by decide) (by decide) (daVal dz g0)
  let g1 ← ldAgn 1 (by decide)
  let _ ← ldDa 1 0 32 (by decide) (by decide) (by decide)
  stDa 1 32 (by decide) (by decide) (daVal dz g1)

/-- The running sums over chunks: the three taps' and the bias's. -/
structure Sums (F : FTy → Type) [FloatOps F] where
  t0 : FVec F S16x704 .f32
  t1 : FVec F S16x704 .f32
  t2 : FVec F S16x704 .f32
  b : FVec F S16x704 .f32

/-- The sums at the start. -/
def zero16 : FVec F S16x704 .f32 := broadcast S16x704 (Scalar.ofBits .f32 0x00000000#32)

/-- The sums after one more chunk. -/
def Sums.step (a : Sums F) (x : Vec F S1x1x16x704 .bf16) (d2 d1 d0 : Vec F S1x1x16x704 .f32) : Sums F :=
  ⟨addf a.t0 (mulf (flat d2) (wide x)), addf a.t1 (mulf (flat d1) (wide x)), addf a.t2 (mulf (flat d0) (wide x)), addf a.b (flat d0)⟩

/-- One chunk of the conv's gradients, one half. -/
def chunkB (h : ℕ) (hh : h < 2) (r : ℕ) (hr : r < 32) (a : Sums F) : Prog (Cmd F M) (Sums F) := do
  let x ← ldU h r hh hr
  let d2 ← ldDa h 2 r hh (by decide) (by omega)
  let c0 ← ldCw h 0 hh (by decide)
  let d1 ← ldDa h 1 r hh (by decide) (by omega)
  let c1 ← ldCw h 1 hh (by decide)
  let d0 ← ldDa h 0 r hh (by decide) (by omega)
  let c2 ← ldCw h 2 hh (by decide)
  let _ ← ldDu h r hh hr
  stDu h r hh hr (duVal c0 c1 c2 d2 d1 d0)
  pure (a.step x d2 d1 d0)

/-- One row of the conv weights' gradient. -/
def addW (i : grid0.Coords) (h k : ℕ) (hh : h < 2) (hk : k < 3) (t : FVec F S16x704 .f32) : Prog (Cmd F M) PUnit := do
  let o ← ldDdw i h k hh hk
  let _ ← ldDdw i h k hh hk
  stDdw i h k hh hk (rowVal o t)

/-- One row of the conv bias's gradient. -/
def addB (i : grid0.Coords) (h : ℕ) (hh : h < 2) (t : FVec F S16x704 .f32) : Prog (Cmd F M) PUnit := do
  let o ← ldDdb i h hh
  let _ ← ldDdb i h hh
  stDdb i h hh (rowVal o t)

/-- The conv's gradients of one half, once the slots are filled. -/
def convHalf (i : grid0.Coords) (h : ℕ) (hh : h < 2) : Prog (Cmd F M) PUnit := do
  let a ← loop (chunkB h hh) 32 0 rfl ⟨zero16, zero16, zero16, zero16⟩
  addW i h 0 hh (by decide) a.t0
  addW i h 1 hh (by decide) a.t1
  addW i h 2 hh (by decide) a.t2
  addB i h hh a.b

/-- The first slot copied to slot one, a row further. -/
def shift1 (h : ℕ) (hh : h < 2) : Prog (Cmd F M) PUnit := do
  let v ← ldDaBig h 0 1 hh (by decide) (by decide)
  let _ ← ldDaBig h 1 0 hh (by decide) (by decide)
  stDaBig h 1 hh (by decide) (slotBack (slotFlat v))

/-- The first slot's rows two further, and their store to slot two. -/
def shift2a (h : ℕ) (hh : h < 2) : Prog (Cmd F M) (FVec F S512x704 .f32) := do
  let v ← ldDaBig h 0 2 hh (by decide) (by decide)
  pure (slotFlat v)
def shift2b (h : ℕ) (hh : h < 2) (v : FVec F S512x704 .f32) : Prog (Cmd F M) PUnit := do
  let _ ← ldDaBig h 2 0 hh (by decide) (by decide)
  stDaBig h 2 hh (by decide) (slotBack v)

/-- From the halo's product to the second half's second shift. -/
def midA (i : grid0.Coords) (last : BitVec 1) (dyn : FVec F S16x1024 .bf16) : Prog (Cmd F M) (FVec F S512x704 .f32) := do
  let wo ← ldWo
  let _ ← ldDz 32 (by decide)
  stDz 32 (by decide) (haloVal last dyn wo)
  loop chunkA 32 0 rfl ⟨⟩
  chunkHalo
  shift1 0 (by decide)
  let v ← shift2a 0 (by decide)
  shift2b 0 (by decide) v
  convHalf i 0 (by decide)
  shift1 1 (by decide)
  shift2a 1 (by decide)

/-- The rest up to the running sum of the input's gradient. -/
def midB (i : grid0.Coords) (v : FVec F S512x704 .f32) : Prog (Cmd F M) (FVec F S512x1024 .f32 × Vec F S512x1024 .f32) := do
  shift2b 1 (by decide) v
  convHalf i 1 (by decide)
  let d0 ← ldDuBig 0 (by decide)
  let w0 ← ldWt 0 (by decide)
  let d1 ← ldDuBig 1 (by decide)
  let w1 ← ldWt 1 (by decide)
  let a ← ldAcc
  pure (addf (partVal d0 w0) (partVal d1 w1), a)

end Cert.FfnBwd
-- ==== Proof.Bridge.lean ====
/-
  The printed body is the program of `Nice`: by unfolding both.
-/
module

public import proofs.«01_k».proof.Proof.Nice

@[expose] public section

set_option maxRecDepth 65536

noncomputable section

namespace Cert.FfnBwd

open Idealize.ShloMosaic Idealize.ShloMosaic.TcCoe Idealize.SL.Sem
open Cert.KernelIdeal Cert.KernelIdeal.Gen

variable {F : FTy → Type} [FloatOps F]

set_option maxHeartbeats 4000000 in
/-- The first printed stretch: its opening part, then `midA`. -/
theorem part101_eq (M : Mems) (i : grid0.Coords) :
    k0_part101 (F := F) i M.m2 M.w2 M.m3 M.w3 M.m4 M.w4 M.m5 M.w5 M.m6 M.w6 M.m7 M.w7 M.m8 M.w8 M.m9 M.w9 M.m10 M.w10 M.m11 M.w11 M.m12 M.w12 M.m13 M.w13 M.m14 M.w14 M.m15 M.w15 M.m16 M.w16 M.m17 M.w17 M.m18 M.w18 M.m19 M.w19 M.m20 M.w20
      = k0_part2 (F := F) i M.m2 M.w2 M.m3 M.w3 M.m4 M.w4 M.m5 M.w5 M.m6 M.w6 M.m7 M.w7 M.m8 M.w8 M.m9 M.w9 M.m10 M.w10 M.m11 M.w11 M.m12 M.w12 M.m13 M.w13 M.m14 M.w14 M.m15 M.w15 M.m16 M.w16 M.m17 M.w17 M.m18 M.w18 M.m19 M.w19 M.m20 M.w20 >>= fun r => tr (midA (M := M) i r.2.1 r.2.2) >>= fun v => pure ⟨r.1, v⟩ := rfl

set_option maxHeartbeats 4000000 in
/-- The second printed stretch is `midB`. -/
theorem part102_eq (M : Mems) (i : grid0.Coords) (arg1 : BitVec 32) (v : FVec F S512x704 .f32) :
    k0_part102 (F := F) i M.m2 M.w2 M.m3 M.w3 M.m4 M.w4 M.m5 M.w5 M.m6 M.w6 M.m7 M.w7 M.m8 M.w8 M.m9 M.w9 M.m10 M.w10 M.m11 M.w11 M.m12 M.w12 M.m13 M.w13 M.m14 M.w14 M.m15 M.w15 M.m16 M.w16 M.m17 M.w17 M.m18 M.w18 M.m19 M.w19 M.m20 M.w20 arg1 v
      = tr (midB (M := M) i v) >>= fun r => pure ⟨r.1, Scalar.cmpi .eq arg1 0#32, r.2⟩ := rfl

end Cert.FfnBwd
-- ==== Proof.Whole.lean ====
/-
  The whole body of a grid point as one program of commands, its three conditionals included.
-/
module

public import proofs.«01_k».proof.Proof.Bridge

@[expose] public section

set_option maxRecDepth 65536

noncomputable section

namespace Cert.FfnBwd

open Idealize.ShloMosaic Idealize.ShloMosaic.TcCoe Idealize.SL.Sem
open Cert.KernelIdeal Cert.KernelIdeal.Gen

variable {F : FTy → Type} [FloatOps F] {M : Mems} {α : Type}

/-- Whether the tile is its sequence's last, as the kernel computes it. -/
def lastBit (i : grid0.Coords) : BitVec 1 :=
  let arg0 : BitVec 32 := BitVec.ofNat 32 (i 0).val
  let v0 : BitVec 1 := Scalar.cmpi .eq 4#32 0#32
  let v1 : BitVec 32 := Scalar.select v0 1#32 4#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 3#32

/-- The gain's gradient set to zero. -/
def zeroDg : Prog (Cmd F M) PUnit := do
  let _ ← Prog.lift (.ld .dg (Rect.unit (s := S1x1024) ![0, 0] S1x1024.size inb_S1x1024_S1x1024_0_0) (View.loadsAt_vmem h_S1x1024))
  Prog.lift (.st .dg (Rect.unit (s := S1x1024) ![0, 0] S1x1024.size inb_S1x1024_S1x1024_0_0) (k0_pay7 (F := F)) (View.stores_vmem_bits_univ h_S1x1024 rfl))

/-- The shard's gradients of the conv's parameters set to zero. -/
def zeroConv (i : grid0.Coords) (h : k0_cond2 i = 1#1) : Prog (Cmd F M) PUnit := do
  let _ ← Prog.lift (.ld .ddw (Rect.unit (s := S4x2x3x704) (k0_off1 i) S1x2x3x704.size (k0_off1_inb i h)) (View.loadsAt_vmem h_S1x2x3x704))
  Prog.lift (.st .ddw (Rect.unit (s := S4x2x3x704) (k0_off1 i) S1x2x3x704.size (k0_off1_inb i h)) (k0_pay8 (F := F)) (View.stores_vmem_bits_univ h_S1x2x3x704 rfl))
  let _ ← Prog.lift (.ld .ddb (Rect.unit (s := S4x2x1x704) (k0_off2 i) S1x2x1x704.size (k0_off2_inb i h)) (View.loadsAt_vmem h_S1x2x1x704))
  Prog.lift (.st .ddb (Rect.unit (s := S4x2x1x704) (k0_off2 i) S1x2x1x704.size (k0_off2_inb i h)) (k0_pay9 (F := F)) (View.stores_vmem_bits_univ h_S1x2x1x704 rfl))

/-- The tile's product with the output weights, and the halo's rows read. -/
def opening : Prog (Cmd F M) (FVec F S16x1024 .bf16) := do
  let a ← Prog.lift (.ld .dy (Rect.unit (s := S1x512x1024) ![0, 0, 0] S1x512x1024.size inb_S1x512x1024_S1x512x1024_0_0_0) (View.loadsAt_vmem h_S1x512x1024))
  let n ← Prog.lift (.ld .dyn (Rect.unit (s := S1x16x1024) ![0, 0, 0] S1x16x1024.size inb_S1x16x1024_S1x16x1024_0_0_0) (View.loadsAt_vmem h_S1x16x1024))
  let w ← ldWo
  let _ ← Prog.lift (.ld .dz (Rect.unit (s := S528x704) ![0, 0] S512x704.size inb_S528x704_S512x704_0_0) (View.loadsAt_vmem h_S512x704))
  Prog.lift (.st .dz (Rect.unit (s := S528x704) ![0, 0] S512x704.size inb_S528x704_S512x704_0_0) (k0_pay11 a w) (View.stores_vmem_bits_univ h_S512x704 rfl))
  pure (k0_pay10 n)

/-- The running sum of the input's gradient stored. -/
def closing (i : grid0.Coords) (r : FVec F S512x1024 .f32 × Vec F S512x1024 .f32) : Prog (Cmd F M) PUnit := do
  let _ ← ldAcc
  Prog.lift (.st .acc (Rect.unit (s := S512x1024) ![0, 0] S512x1024.size inb_S512x1024_S512x1024_0_0)
    (k0_pay1 r.1 (Scalar.cmpi .eq (BitVec.ofNat 32 (i 1).val) 0#32) r.2) (View.stores_vmem_bits_univ h_S512x1024 rfl))

/-- The norm's backward pass on the tile. -/
def normBwd : Prog (Cmd F M) PUnit := do
  let x ← Prog.lift (.ld .x (Rect.unit (s := S512x1024) ![0, 0] S512x1024.size inb_S512x1024_S512x1024_0_0) (View.loadsAt_vmem h_S512x1024))
  let a ← ldAcc
  let g ← Prog.lift (.ld .gain (Rect.unit (s := S1x1024) ![0, 0] S1x1024.size inb_S1x1024_S1x1024_0_0) (View.loadsAt_vmem h_S1x1024))
  let r ← Prog.lift (.ld .res (Rect.unit (s := S512x1024) ![0, 0] S512x1024.size inb_S512x1024_S512x1024_0_0) (View.loadsAt_vmem h_S512x1024))
  let _ ← Prog.lift (.ld .dx (Rect.unit (s := S512x1024) ![0, 0] S512x1024.size inb_S512x1024_S512x1024_0_0) (View.loadsAt_vmem h_S512x1024))
  Prog.lift (.st .dx (Rect.unit (s := S512x1024) ![0, 0] S512x1024.size inb_S512x1024_S512x1024_0_0) (k0_pay5 x a g r) (View.stores_vmem_bits_univ h_S512x1024 rfl))
  let o ← Prog.lift (.ld .dg (Rect.unit (s := S1x1024) ![0, 0] S1x1024.size inb_S1x1024_S1x1024_0_0) (View.loadsAt_vmem h_S1x1024))
  let _ ← Prog.lift (.ld .dg (Rect.unit (s := S1x1024) ![0, 0] S1x1024.size inb_S1x1024_S1x1024_0_0) (View.loadsAt_vmem h_S1x1024))
  Prog.lift (.st .dg (Rect.unit (s := S1x1024) ![0, 0] S1x1024.size inb_S1x1024_S1x1024_0_0) (k0_pay6 x a o) (View.stores_vmem_bits_univ h_S1x1024 rfl))

/-- A point's work after the accumulators are opened. -/
def mainPart (i : grid0.Coords) : Prog (Cmd F M) PUnit := do
  let n ← opening
  let v ← midA i (lastBit i) n
  let r ← midB i v
  closing i r
  if k0_cond3 i = 1#1 then normBwd else pure ⟨⟩

/-- The body. -/
def whole (i : grid0.Coords) : Prog (Cmd F M) PUnit :=
  (if k0_cond1 i = 1#1 then zeroDg else pure ⟨⟩) >>= fun _ =>
  (if h : k0_cond2 i = 1#1 then zeroConv i h else pure ⟨⟩) >>= fun _ => mainPart i

theorem tr_pure (a : α) : tr (pure a : Prog (Cmd F M) α) = pure a := rfl

set_option maxHeartbeats 4000000 in
/-- The printed body is that program. -/
theorem body_eq (i : grid0.Coords) :
    cc0_ffn_bwd (F := F) i M.m2 M.w2 M.m3 M.w3 M.m4 M.w4 M.m5 M.w5 M.m6 M.w6 M.m7 M.w7 M.m8 M.w8 M.m9 M.w9 M.m10 M.w10 M.m11 M.w11 M.m12 M.w12 M.m13 M.w13 M.m14 M.w14 M.m15 M.w15 M.m16 M.w16 M.m17 M.w17 M.m18 M.w18 M.m19 M.w19 M.m20 M.w20
      = tr (whole (M := M) i) := by
  rw [cc0_ffn_bwd_eq_skeleton]
  unfold cc0_ffn_bwd_skel
  rw [part101_eq, k0_part2_eq_skeleton, k0_part1_eq_skeleton]
  simp only [part102_eq]
  unfold k0_part2_skel k0_part1_skel whole mainPart
  by_cases h1 : k0_cond1 i = 1#1 <;> by_cases h2 : k0_cond2 i = 1#1 <;> by_cases h3 : k0_cond3 i = 1#1 <;>
    simp only [dif_pos, dif_neg, if_pos, if_neg, h1, h2, h3, not_false_eq_true, tr_bind, bind_assoc, pure_bind, tr_pure] <;> rfl

end Cert.FfnBwd
-- ==== Proof.Keep.lean ====
/-
  Which buffers a program of commands leaves as they are; the body leaves its input windows as they are.
-/
module

public import proofs.«01_k».proof.Proof.Whole

@[expose] public section

set_option maxRecDepth 16384

noncomputable section

namespace Cert.FfnBwd

open Idealize.ShloMosaic Idealize.ShloMosaic.TcCoe Idealize.SL.Sem
open Cert.KernelIdeal Cert.KernelIdeal.Gen

variable {F : FTy → Type} [FloatOps F] {M : Mems} {α β : Type}

/-- The program leaves buffer `b` as it was. -/
def Keep (b : Cell) (p : Prog (Cmd F M) α) : Prop := ∀ s, (run p s).2 b = s b

theorem keep_bind {b : Cell} {p : Prog (Cmd F M) α} {k : α → Prog (Cmd F M) β} (hp : Keep b p) (hk : ∀ a, Keep b (k a)) : Keep b (p >>= k) := by
  intro s; rw [run_bind, hk, hp]

theorem keep_pure {b : Cell} (a : α) : Keep b (pure a : Prog (Cmd F M) α) := fun _ => rfl

theorem keep_ld {b : Cell} (b' : Cell) (r : Rect b'.sh) (h) : Keep b (Prog.lift (Cmd.ld (F := F) (M := M) b' r h)) := fun _ => rfl

theorem keep_st {b : Cell} (b' : Cell) (r : Rect b'.sh) (w) (h) (hb : b ≠ b') : Keep b (Prog.lift (Cmd.st (F := F) (M := M) b' r w h)) :=
  fun _ => Function.update_of_ne hb _ _

theorem keep_loop {b : Cell} {σ : Type} {N : ℕ} {f : (r : ℕ) → r < N → σ → Prog (Cmd F M) σ} (hf : ∀ r h a, Keep b (f r h a)) :
    ∀ (k r : ℕ) (h : r + k = N) (a : σ), Keep b (loop f k r h a)
  | 0, _, _, a => keep_pure a
  | k + 1, r, h, a => keep_bind (hf _ _ _) fun a' => keep_loop hf k (r + 1) (by omega) a'

theorem keep_chunkA {b : Cell} (hb : b ≠ .da) (r hr a) : Keep b (chunkA (F := F) (M := M) r hr a) :=
  keep_bind (keep_ld _ _ _) fun _ => keep_bind (keep_ld _ _ _) fun _ => keep_bind (keep_ld _ _ _) fun _ =>
  keep_bind (keep_st _ _ _ _ hb) fun _ => keep_bind (keep_ld _ _ _) fun _ => keep_bind (keep_ld _ _ _) fun _ => keep_st _ _ _ _ hb

theorem keep_chunkHalo {b : Cell} (hb : b ≠ .da) : Keep b (chunkHalo (F := F) (M := M)) :=
  keep_bind (keep_ld _ _ _) fun _ => keep_bind (keep_ld _ _ _) fun _ => keep_bind (keep_ld _ _ _) fun _ =>
  keep_bind (keep_st _ _ _ _ hb) fun _ => keep_bind (keep_ld _ _ _) fun _ => keep_bind (keep_ld _ _ _) fun _ => keep_st _ _ _ _ hb

theorem keep_chunkB {b : Cell} (hb : b ≠ .du) (h hh r hr a) : Keep b (chunkB (F := F) (M := M) h hh r hr a) :=
  keep_bind (keep_ld _ _ _) fun _ => keep_bind (keep_ld _ _ _) fun _ => keep_bind (keep_ld _ _ _) fun _ =>
  keep_bind (keep_ld _ _ _) fun _ => keep_bind (keep_ld _ _ _) fun _ => keep_bind (keep_ld _ _ _) fun _ =>
  keep_bind (keep_ld _ _ _) fun _ => keep_bind (keep_ld _ _ _) fun _ => keep_bind (keep_st _ _ _ _ hb) fun _ => keep_pure _

theorem keep_addW {b : Cell} (hb : b ≠ .ddw) (i h k hh hk t) : Keep b (addW (F := F) (M := M) i h k hh hk t) :=
  keep_bind (keep_ld _ _ _) fun _ => keep_bind (keep_ld _ _ _) fun _ => keep_st _ _ _ _ hb

theorem keep_addB {b : Cell} (hb : b ≠ .ddb) (i h hh t) : Keep b (addB (F := F) (M := M) i h hh t) :=
  keep_bind (keep_ld _ _ _) fun _ => keep_bind (keep_ld _ _ _) fun _ => keep_st _ _ _ _ hb

theorem keep_convHalf {b : Cell} (h1 : b ≠ .du) (h2 : b ≠ .ddw) (h3 : b ≠ .ddb) (i h hh) : Keep b (convHalf (F := F) (M := M) i h hh) :=
  keep_bind (keep_loop (fun _ _ _ => keep_chunkB h1 _ _ _ _ _) _ _ _ _) fun _ => keep_bind (keep_addW h2 _ _ _ _ _ _) fun _ =>
  keep_bind (keep_addW h2 _ _ _ _ _ _) fun _ => keep_bind (keep_addW h2 _ _ _ _ _ _) fun _ => keep_addB h3 _ _ _ _

theorem keep_shift1 {b : Cell} (hb : b ≠ .da) (h hh) : Keep b (shift1 (F := F) (M := M) h hh) :=
  keep_bind (keep_ld _ _ _) fun _ => keep_bind (keep_ld _ _ _) fun _ => keep_st _ _ _ _ hb

theorem keep_shift2a {b : Cell} (h hh) : Keep b (shift2a (F := F) (M := M) h hh) :=
  keep_bind (keep_ld _ _ _) fun _ => keep_pure _

theorem keep_shift2b {b : Cell} (hb : b ≠ .da) (h hh v) : Keep b (shift2b (F := F) (M := M) h hh v) :=
  keep_bind (keep_ld _ _ _) fun _ => keep_st _ _ _ _ hb

theorem keep_midA {b : Cell} (h0 : b ≠ .dz) (h1 : b ≠ .da) (h2 : b ≠ .du) (h3 : b ≠ .ddw) (h4 : b ≠ .ddb) (i l d) :
    Keep b (midA (F := F) (M := M) i l d) :=
  keep_bind (keep_ld _ _ _) fun _ => keep_bind (keep_ld _ _ _) fun _ => keep_bind (keep_st _ _ _ _ h0) fun _ =>
  keep_bind (keep_loop (fun _ _ _ => keep_chunkA h1 _ _ _) _ _ _ _) fun _ => keep_bind (keep_chunkHalo h1) fun _ =>
  keep_bind (keep_shift1 h1 _ _) fun _ => keep_bind (keep_shift2a _ _) fun _ => keep_bind (keep_shift2b h1 _ _ _) fun _ =>
  keep_bind (keep_convHalf h2 h3 h4 _ _ _) fun _ => keep_bind (keep_shift1 h1 _ _) fun _ => keep_shift2a _ _

theorem keep_midB {b : Cell} (h1 : b ≠ .da) (h2 : b ≠ .du) (h3 : b ≠ .ddw) (h4 : b ≠ .ddb) (i v) :
    Keep b (midB (F := F) (M := M) i v) :=
  keep_bind (keep_shift2b h1 _ _ _) fun _ => keep_bind (keep_convHalf h2 h3 h4 _ _ _) fun _ =>
  keep_bind (keep_ld _ _ _) fun _ => keep_bind (keep_ld _ _ _) fun _ => keep_bind (keep_ld _ _ _) fun _ => keep_bind (keep_ld _ _ _) fun _ =>
  keep_bind (keep_ld _ _ _) fun _ => keep_pure _

theorem keep_zeroDg {b : Cell} (hb : b ≠ .dg) : Keep b (zeroDg (F := F) (M := M)) :=
  keep_bind (keep_ld _ _ _) fun _ => keep_st _ _ _ _ hb

theorem keep_zeroConv {b : Cell} (h1 : b ≠ .ddw) (h2 : b ≠ .ddb) (i h) : Keep b (zeroConv (F := F) (M := M) i h) :=
  keep_bind (keep_ld _ _ _) fun _ => keep_bind (keep_st _ _ _ _ h1) fun _ => keep_bind (keep_ld _ _ _) fun _ => keep_st _ _ _ _ h2

theorem keep_opening {b : Cell} (hb : b ≠ .dz) : Keep b (opening (F := F) (M := M)) :=
  keep_bind (keep_ld _ _ _) fun _ => keep_bind (keep_ld _ _ _) fun _ => keep_bind (keep_ld _ _ _) fun _ => keep_bind (keep_ld _ _ _) fun _ =>
  keep_bind (keep_st _ _ _ _ hb) fun _ => keep_pure _

theorem keep_closing {b : Cell} (hb : b ≠ .acc) (i r) : Keep b (closing (F := F) (M := M) i r) :=
  keep_bind (keep_ld _ _ _) fun _ => keep_st _ _ _ _ hb

theorem keep_normBwd {b : Cell} (h1 : b ≠ .dx) (h2 : b ≠ .dg) : Keep b (normBwd (F := F) (M := M)) :=
  keep_bind (keep_ld _ _ _) fun _ => keep_bind (keep_ld _ _ _) fun _ => keep_bind (keep_ld _ _ _) fun _ => keep_bind (keep_ld _ _ _) fun _ =>
  keep_bind (keep_ld _ _ _) fun _ => keep_bind (keep_st _ _ _ _ h1) fun _ => keep_bind (keep_ld _ _ _) fun _ => keep_bind (keep_ld _ _ _) fun _ =>
  keep_st _ _ _ _ h2

/-- An input window's buffer. -/
def Cell.isIn : Cell → Bool
  | .dy | .dyn | .wo | .u | .ag | .agn | .cw | .wt | .x | .gain | .res => true
  | _ => false

/-- The body leaves its input windows as they are. -/
theorem keep_whole {b : Cell} (hb : b.isIn = true) (i : grid0.Coords) : Keep b (whole (F := F) (M := M) i) := by
  have n : ∀ b' : Cell, b'.isIn = false → b ≠ b' := fun b' h e => by rw [e, h] at hb; exact Bool.false_ne_true hb
  unfold whole mainPart
  refine keep_bind ?_ fun _ => keep_bind ?_ fun _ => keep_bind (keep_opening (F := F) (M := M) (n _ rfl)) fun _ =>
    keep_bind (keep_midA (F := F) (M := M) (n _ rfl) (n _ rfl) (n _ rfl) (n _ rfl) (n _ rfl) _ _ _) fun _ =>
    keep_bind (keep_midB (F := F) (M := M) (n _ rfl) (n _ rfl) (n _ rfl) (n _ rfl) _ _) fun _ =>
    keep_bind (keep_closing (F := F) (M := M) (n _ rfl) _ _) fun _ => ?_
  · split
    · exact keep_zeroDg (n _ rfl)
    · exact keep_pure _
  · split
    · exact keep_zeroConv (n _ rfl) (n _ rfl) _ _
    · exact keep_pure _
  · split
    · exact keep_normBwd (n _ rfl) (n _ rfl)
    · exact keep_pure _

end Cert.FfnBwd
-- ==== Proof.Region.lean ====
/-
  The pipeline's run for any claim about what the body leaves: the predicates on the output windows' buffers and on the carried
  running sum are parameters, and what is asked of them is one statement about `run (whole i)`, with no ownership in it.
-/
module

public import proofs.«01_k».proof.Proof.Keep
public import Idealize.ShloMosaic.Lib.Claim
public import Idealize.ShloMosaic.Lib.Pipeline.DatRel

@[expose] public section

set_option maxRecDepth 16384

noncomputable section

namespace Cert.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is claimed: of each output window's buffer after each point, and of the running sum before each point. -/
structure Spec (F : FTy → Type) where
  out : (w : Fin cfg0.W) → Fin cfg0.N → ((cfg0.win w).block.Idx → Elt F (cfg0.win w).elt) → Prop
  acc : ℕ → (S512x1024.Idx → Elt F .f32) → Prop

/-- The scratch buffers, and the core's generator, before point `t`. -/
def scratch (S : Spec F) (c : Dev nD) (t : ℕ) : sProp 𝕄 :=
  iprop((∃ d, owns (c : Thread nD τ) (Memref.whole cc0_scratch0 : Memref sig .tc .vmem S528x704 .f32) fullShare d)
    ∗ (∃ d, owns (c : Thread nD τ) (Memref.whole cc0_scratch1 : Memref sig .tc .vmem S2x3x528x704 .f32) fullShare d)
    ∗ (∃ d, ⌜S.acc t d⌝ ∗ owns (c : Thread nD τ) (Memref.whole cc0_scratch2 : Memref sig .tc .vmem S512x1024 .f32) fullShare d)
    ∗ (∃ r, prngReg c r))

theorem PhiA_eq (c : Dev nD) :
    (Pipeline.ΦA spec0 c : sProp 𝕄)
      = iprop(iprop((∃ d, owns (c : Thread nD τ) (Memref.whole cc0_scratch0 : Memref sig .tc .vmem S528x704 .f32) fullShare d)
          ∗ (∃ d, owns (c : Thread nD τ) (Memref.whole cc0_scratch1 : Memref sig .tc .vmem S2x3x528x704 .f32) fullShare d)
          ∗ (∃ d, owns (c : Thread nD τ) (Memref.whole cc0_scratch2 : Memref sig .tc .vmem S512x1024 .f32) fullShare d))
        ∗ (∃ r, prngReg c r)) := by
  unfold Pipeline.ΦA; rw [scopedRest0_eq]; simp only [owns_whole]; try rfl

/-- The proof data of the input windows: each at its block. -/
def dat (S : Spec F) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨n + 11, h⟩ => Pipeline.Dat.unnamed (cfg := cfg0) ⟨n + 11, h⟩ t
  Φ t := scratch S c t.val
  q w := Pipeline.shareOf spec0 w
  owed _ := 0

/-- The output windows. -/
def isOut (w : Fin cfg0.W) : Bool := decide (11 ≤ w.val)

/-- The pipeline's proof data. -/
def rdat (S : Spec F) (c : Dev nD) : RDat τ (Elt F) Unit ℕ (UR sig nD τ) ℕ cfg0 c := (dat m S c).toRRel isOut S.out

/-- The memrefs of a point. -/
def mems (t : Fin cfg0.N) : Mems where
  m2 := win0_0.stage (cfg0.slots t 0)
  w2 := hstage0_0 ((cfg0.slots t 0).cast nbuf0_0)
  m3 := win0_1.stage (cfg0.slots t 1)
  w3 := hstage0_1 ((cfg0.slots t 1).cast nbuf0_1)
  m4 := win0_2.stage (cfg0.slots t 2)
  w4 := hstage0_2 ((cfg0.slots t 2).cast nbuf0_2)
  m5 := win0_3.stage (cfg0.slots t 3)
  w5 := hstage0_3 ((cfg0.slots t 3).cast nbuf0_3)
  m6 := win0_4.stage (cfg0.slots t 4)
  w6 := hstage0_4 ((cfg0.slots t 4).cast nbuf0_4)
  m7 := win0_5.stage (cfg0.slots t 5)
  w7 := hstage0_5 ((cfg0.slots t 5).cast nbuf0_5)
  m8 := win0_6.stage (cfg0.slots t 6)
  w8 := hstage0_6 ((cfg0.slots t 6).cast nbuf0_6)
  m9 := win0_7.stage (cfg0.slots t 7)
  w9 := hstage0_7 ((cfg0.slots t 7).cast nbuf0_7)
  m10 := win0_8.stage (cfg0.slots t 8)
  w10 := hstage0_8 ((cfg0.slots t 8).cast nbuf0_8)
  m11 := win0_9.stage (cfg0.slots t 9)
  w11 := hstage0_9 ((cfg0.slots t 9).cast nbuf0_9)
  m12 := win0_10.stage (cfg0.slots t 10)
  w12 := hstage0_10 ((cfg0.slots t 10).cast nbuf0_10)
  m13 := win0_11.stage (cfg0.slots t 11)
  w13 := hstage0_11 ((cfg0.slots t 11).cast nbuf0_11)
  m14 := win0_12.stage (cfg0.slots t 12)
  w14 := hstage0_12 ((cfg0.slots t 12).cast nbuf0_12)
  m15 := win0_13.stage (cfg0.slots t 13)
  w15 := hstage0_13 ((cfg0.slots t 13).cast nbuf0_13)
  m16 := win0_14.stage (cfg0.slots t 14)
  w16 := hstage0_14 ((cfg0.slots t 14).cast nbuf0_14)
  m17 := win0_15.stage (cfg0.slots t 15)
  w17 := hstage0_15 ((cfg0.slots t 15).cast nbuf0_15)
  m18 := Memref.whole cc0_scratch0
  w18 := Memref.isWhole_whole _
  m19 := Memref.whole cc0_scratch1
  w19 := Memref.isWhole_whole _
  m20 := Memref.whole cc0_scratch2
  w20 := Memref.isWhole_whole _

/-- The contents at a point: the input windows at their blocks, the rest given. -/
def state (c : Dev nD) (t : Fin cfg0.N) (du : S2x1x512x704.Idx → Elt F .bf16) (ddw : S4x2x3x704.Idx → Elt F .f32) (ddb : S4x2x1x704.Idx → Elt F .f32)
    (dx : S512x1024.Idx → Elt F .f32) (dg : S1x1024.Idx → Elt F .f32) (dz : S528x704.Idx → Elt F .f32) (da : S2x3x528x704.Idx → Elt F .f32)
    (acc : S512x1024.Idx → Elt F .f32) : St F
  | .dy => iblk m c 0 t
  | .dyn => iblk m c 1 t
  | .wo => iblk m c 2 t
  | .u => iblk m c 3 t
  | .ag => iblk m c 4 t
  | .agn => iblk m c 5 t
  | .cw => iblk m c 6 t
  | .wt => iblk m c 7 t
  | .x => iblk m c 8 t
  | .gain => iblk m c 9 t
  | .res => iblk m c 10 t
  | .du => du
  | .ddw => ddw
  | .ddb => ddb
  | .dx => dx
  | .dg => dg
  | .dz => dz
  | .da => da
  | .acc => acc

/-- What is asked of a claim: the body, run from contents that meet it, leaves contents that meet it. -/
def Spec.Step (S : Spec F) (c : Dev nD) : Prop :=
  ∀ (t : Fin cfg0.N) (du : S2x1x512x704.Idx → Elt F .bf16) (ddw : S4x2x3x704.Idx → Elt F .f32) (ddb : S4x2x1x704.Idx → Elt F .f32)
    (dx : S512x1024.Idx → Elt F .f32) (dg : S1x1024.Idx → Elt F .f32) (dz : S528x704.Idx → Elt F .f32) (da : S2x3x528x704.Idx → Elt F .f32)
    (acc : S512x1024.Idx → Elt F .f32),
    (rdat m S c).Finds 12 t ddw → (rdat m S c).Finds 13 t ddb → (rdat m S c).Finds 15 t dg → S.acc t.val acc →
      S.out 11 t ((run (whole (M := mems t) (grid0.coords t)) (state m c t du ddw ddb dx dg dz da acc)).2 .du)
      ∧ S.out 12 t ((run (whole (M := mems t) (grid0.coords t)) (state m c t du ddw ddb dx dg dz da acc)).2 .ddw)
      ∧ S.out 13 t ((run (whole (M := mems t) (grid0.coords t)) (state m c t du ddw ddb dx dg dz da acc)).2 .ddb)
      ∧ S.out 14 t ((run (whole (M := mems t) (grid0.coords t)) (state m c t du ddw ddb dx dg dz da acc)).2 .dx)
      ∧ S.out 15 t ((run (whole (M := mems t) (grid0.coords t)) (state m c t du ddw ddb dx dg dz da acc)).2 .dg)
      ∧ S.acc (t.val + 1) ((run (whole (M := mems t) (grid0.coords t)) (state m c t du ddw ddb dx dg dz da acc)).2 .acc)

variable (S : Spec F) (c : Dev nD)

theorem A_eq (w : Fin cfg0.W) : (dat m S c).A w = V m c (Pipeline.arrRef spec0 w) := by dsimp only [dat]
theorem after_0 (t : Fin cfg0.N) : (dat m S c).after 0 t = iblk m c 0 t := by dsimp only [dat]
theorem after_1 (t : Fin cfg0.N) : (dat m S c).after 1 t = iblk m c 1 t := by dsimp only [dat]
theorem after_2 (t : Fin cfg0.N) : (dat m S c).after 2 t = iblk m c 2 t := by dsimp only [dat]
theorem after_3 (t : Fin cfg0.N) : (dat m S c).after 3 t = iblk m c 3 t := by dsimp only [dat]
theorem after_4 (t : Fin cfg0.N) : (dat m S c).after 4 t = iblk m c 4 t := by dsimp only [dat]
theorem after_5 (t : Fin cfg0.N) : (dat m S c).after 5 t = iblk m c 5 t := by dsimp only [dat]
theorem after_6 (t : Fin cfg0.N) : (dat m S c).after 6 t = iblk m c 6 t := by dsimp only [dat]
theorem after_7 (t : Fin cfg0.N) : (dat m S c).after 7 t = iblk m c 7 t := by dsimp only [dat]
theorem after_8 (t : Fin cfg0.N) : (dat m S c).after 8 t = iblk m c 8 t := by dsimp only [dat]
theorem after_9 (t : Fin cfg0.N) : (dat m S c).after 9 t = iblk m c 9 t := by dsimp only [dat]
theorem after_10 (t : Fin cfg0.N) : (dat m S c).after 10 t = iblk m c 10 t := by dsimp only [dat]

section Finds
variable {m S c} {t : Fin cfg0.N}
theorem finds_0 {Y} (h : (rdat m S c).Finds 0 t Y) : Y = iblk m c 0 t := by
  obtain ⟨d, h⟩ := (dat m S c).toRRel_finds (fgt := isOut) (Rl := S.out) (w := 0) rfl t Y h
  exact h.trans (before0_0_of m (dat m S c) (A_eq m S c 0) (after_0 m S c) t d)
theorem finds_1 {Y} (h : (rdat m S c).Finds 1 t Y) : Y = iblk m c 1 t := by
  obtain ⟨d, h⟩ := (dat m S c).toRRel_finds (fgt := isOut) (Rl := S.out) (w := 1) rfl t Y h
  exact h.trans (before0_1_of m (dat m S c) (A_eq m S c 1) (after_1 m S c) t d)
theorem finds_2 {Y} (h : (rdat m S c).Finds 2 t Y) : Y = iblk m c 2 t := by
  obtain ⟨d, h⟩ := (dat m S c).toRRel_finds (fgt := isOut) (Rl := S.out) (w := 2) rfl t Y h
  exact h.trans (before0_2_of m (dat m S c) (A_eq m S c 2) (after_2 m S c) t d)
theorem finds_3 {Y} (h : (rdat m S c).Finds 3 t Y) : Y = iblk m c 3 t := by
  obtain ⟨d, h⟩ := (dat m S c).toRRel_finds (fgt := isOut) (Rl := S.out) (w := 3) rfl t Y h
  exact h.trans (before0_3_of m (dat m S c) (A_eq m S c 3) (after_3 m S c) t d)
theorem finds_4 {Y} (h : (rdat m S c).Finds 4 t Y) : Y = iblk m c 4 t := by
  obtain ⟨d, h⟩ := (dat m S c).toRRel_finds (fgt := isOut) (Rl := S.out) (w := 4) rfl t Y h
  exact h.trans (before0_4_of m (dat m S c) (A_eq m S c 4) (after_4 m S c) t d)
theorem finds_5 {Y} (h : (rdat m S c).Finds 5 t Y) : Y = iblk m c 5 t := by
  obtain ⟨d, h⟩ := (dat m S c).toRRel_finds (fgt := isOut) (Rl := S.out) (w := 5) rfl t Y h
  exact h.trans (before0_5_of m (dat m S c) (A_eq m S c 5) (after_5 m S c) t d)
theorem finds_6 {Y} (h : (rdat m S c).Finds 6 t Y) : Y = iblk m c 6 t := by
  obtain ⟨d, h⟩ := (dat m S c).toRRel_finds (fgt := isOut) (Rl := S.out) (w := 6) rfl t Y h
  exact h.trans (before0_6_of m (dat m S c) (A_eq m S c 6) (after_6 m S c) t d)
theorem finds_7 {Y} (h : (rdat m S c).Finds 7 t Y) : Y = iblk m c 7 t := by
  obtain ⟨d, h⟩ := (dat m S c).toRRel_finds (fgt := isOut) (Rl := S.out) (w := 7) rfl t Y h
  exact h.trans (before0_7_of m (dat m S c) (A_eq m S c 7) (after_7 m S c) t d)
theorem finds_8 {Y} (h : (rdat m S c).Finds 8 t Y) : Y = iblk m c 8 t := by
  obtain ⟨d, h⟩ := (dat m S c).toRRel_finds (fgt := isOut) (Rl := S.out) (w := 8) rfl t Y h
  exact h.trans (before0_8_of m (dat m S c) (A_eq m S c 8) (after_8 m S c) t d)
theorem finds_9 {Y} (h : (rdat m S c).Finds 9 t Y) : Y = iblk m c 9 t := by
  obtain ⟨d, h⟩ := (dat m S c).toRRel_finds (fgt := isOut) (Rl := S.out) (w := 9) rfl t Y h
  exact h.trans (before0_9_of m (dat m S c) (A_eq m S c 9) (after_9 m S c) t d)
theorem finds_10 {Y} (h : (rdat m S c).Finds 10 t Y) : Y = iblk m c 10 t := by
  obtain ⟨d, h⟩ := (dat m S c).toRRel_finds (fgt := isOut) (Rl := S.out) (w := 10) rfl t Y h
  exact h.trans (before0_10_of m (dat m S c) (A_eq m S c 10) (after_10 m S c) t d)
end Finds

/-- An input window's block left in place is what the proof data says of it. -/
theorem leaves_in {w : Fin cfg0.W} (hw : isOut w = false) (hi : ∀ i, cfg0.idle w i = false) (hl : cfg0.loose w = false) (t : Fin cfg0.N) (Y X : (cfg0.win w).block.Idx → Elt F (cfg0.win w).elt)
    (hX : X = (dat m S c).after w t) : (rdat m S c).after w t Y X := by
  show ((dat m S c).toRRel isOut S.out).after w t Y X
  rw [(dat m S c).toRRel_after_of_eq_false hw]
  show (dat m S c).Leaves w t X
  rw [Pipeline.Dat.Leaves.live_iff _ (.inl (hi _))]
  simp only [hl]
  exact hX

theorem leaves_out {w : Fin cfg0.W} (hw : isOut w = true) (t : Fin cfg0.N) (Y X : (cfg0.win w).block.Idx → Elt F (cfg0.win w).elt)
    (hX : S.out w t X) : (rdat m S c).after w t Y X := by
  show ((dat m S c).toRRel isOut S.out).after w t Y X
  rw [(dat m S c).toRRel_after_of_eq_true hw]
  exact hX

theorem body_at (t : Fin cfg0.N) :
    defs₀ (F := F) .tc cfg0.body (cfg0.bodyArgs t (cfg0.slots t)) = tr (whole (M := mems t) (grid0.coords t)) := by
  rw [← body_eq]; unfold defs₀; rw [Defs.onTc_tc]; rfl

set_option maxHeartbeats 4000000 in
/-- The body meets the claim at every point. -/
theorem body_obligation (hS : S.Step m c) : (rdat m S c).BodyObligation (defs₀ (F := F)) Variants.none () Set.univ := by
  intro t Y hY
  rw [bigSep_W0, bigSep_W0, body_at]
  rw [finds_0 (hY 0), finds_1 (hY 1), finds_2 (hY 2), finds_3 (hY 3), finds_4 (hY 4), finds_5 (hY 5), finds_6 (hY 6), finds_7 (hY 7),
    finds_8 (hY 8), finds_9 (hY 9), finds_10 (hY 10)]
  show iprop(scratch S c t.val ∗ (rdat m S c).owesAt () t.castSucc ∗ _) ⊢ _
  rw [show (rdat m S c).Φ t.succ = scratch S c (t.val + 1) from rfl,
    show (rdat m S c).owesAt () t.succ = (rdat m S c).owesAt () t.castSucc from rfl]
  unfold scratch
  iintro ⟨⟨⟨%dz, HS0⟩, ⟨%da, HS1⟩, ⟨%acc, %hacc, HS2⟩, Hg⟩, Ho, H0, H1, H2, H3, H4, H5, H6, H7, H8, H9, H10, H11, H12, H13, H14, H15⟩
  have hs := hS t (Y 11) (Y 12) (Y 13) (Y 14) (Y 15) dz da acc (hY 12) (hY 13) (hY 15) hacc
  have hk : ∀ b : Cell, b.isIn = true → (run (whole (M := mems t) (grid0.coords t)) (state m c t (Y 11) (Y 12) (Y 13) (Y 14) (Y 15) dz da acc)).2 b
      = state m c t (Y 11) (Y 12) (Y 13) (Y 14) (Y 15) dz da acc b := fun b hb => keep_whole hb _ _
  iapply wp_tr c Set.univ (whole (M := mems t) (grid0.coords t)) (state m c t (Y 11) (Y 12) (Y 13) (Y 14) (Y 15) dz da acc)
    $$ [H0 H1 H2 H3 H4 H5 H6 H7 H8 H9 H10 H11 H12 H13 H14 H15 HS0 HS1 HS2]
  · unfold own
    simp only [state]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    iexact HS2
  iintro Hown
  generalize hr : run (whole (M := mems t) (grid0.coords t)) (state m c t (Y 11) (Y 12) (Y 13) (Y 14) (Y 15) dz da acc) = r at hs hk
  unfold own
  icases Hown with ⟨H0, H1, H2, H3, H4, H5, H6, H7, H8, H9, H10, H11, H12, H13, H14, H15, HS0, HS1, HS2⟩
  isplitl [HS0 HS1 HS2 Hg]
  · isplitl [HS0]
    · iexists _; iexact HS0
    isplitl [HS1]
    · iexists _; iexact HS1
    isplitl [HS2]
    · iexists _
      isplitr
      · ipureintro; exact hs.2.2.2.2.2
      · iexact HS2
    iexact Hg
  isplitl [Ho]; · iexact Ho
  isplitl [H0]
  · iexists _; isplitr
    · ipureintro; exact leaves_in m S c rfl (fun _ => rfl) rfl t _ _ ((hk .dy rfl).trans (after_0 m S c t).symm)
    · iexact H0
  isplitl [H1]
  · iexists _; isplitr
    · ipureintro; exact leaves_in m S c rfl (fun _ => rfl) rfl t _ _ ((hk .dyn rfl).trans (after_1 m S c t).symm)
    · iexact H1
  isplitl [H2]
  · iexists _; isplitr
    · ipureintro; exact leaves_in m S c rfl (fun _ => rfl) rfl t _ _ ((hk .wo rfl).trans (after_2 m S c t).symm)
    · iexact H2
  isplitl [H3]
  · iexists _; isplitr
    · ipureintro; exact leaves_in m S c rfl (fun _ => rfl) rfl t _ _ ((hk .u rfl).trans (after_3 m S c t).symm)
    · iexact H3
  isplitl [H4]
  · iexists _; isplitr
    · ipureintro; exact leaves_in m S c rfl (fun _ => rfl) rfl t _ _ ((hk .ag rfl).trans (after_4 m S c t).symm)
    · iexact H4
  isplitl [H5]
  · iexists _; isplitr
    · ipureintro; exact leaves_in m S c rfl (fun _ => rfl) rfl t _ _ ((hk .agn rfl).trans (after_5 m S c t).symm)
    · iexact H5
  isplitl [H6]
  · iexists _; isplitr
    · ipureintro; exact leaves_in m S c rfl (fun _ => rfl) rfl t _ _ ((hk .cw rfl).trans (after_6 m S c t).symm)
    · iexact H6
  isplitl [H7]
  · iexists _; isplitr
    · ipureintro; exact leaves_in m S c rfl (fun _ => rfl) rfl t _ _ ((hk .wt rfl).trans (after_7 m S c t).symm)
    · iexact H7
  isplitl [H8]
  · iexists _; isplitr
    · ipureintro; exact leaves_in m S c rfl (fun _ => rfl) rfl t _ _ ((hk .x rfl).trans (after_8 m S c t).symm)
    · iexact H8
  isplitl [H9]
  · iexists _; isplitr
    · ipureintro; exact leaves_in m S c rfl (fun _ => rfl) rfl t _ _ ((hk .gain rfl).trans (after_9 m S c t).symm)
    · iexact H9
  isplitl [H10]
  · iexists _; isplitr
    · ipureintro; exact leaves_in m S c rfl (fun _ => rfl) rfl t _ _ ((hk .res rfl).trans (after_10 m S c t).symm)
    · iexact H10
  isplitl [H11]
  · iexists _; isplitr
    · ipureintro; exact leaves_out m S c rfl t _ _ hs.1
    · iexact H11
  isplitl [H12]
  · iexists _; isplitr
    · ipureintro; exact leaves_out m S c rfl t _ _ hs.2.1
    · iexact H12
  isplitl [H13]
  · iexists _; isplitr
    · ipureintro; exact leaves_out m S c rfl t _ _ hs.2.2.1
    · iexact H13
  isplitl [H14]
  · iexists _; isplitr
    · ipureintro; exact leaves_out m S c rfl t _ _ hs.2.2.2.1
    · iexact H14
  iexists _; isplitr
  · ipureintro; exact leaves_out m S c rfl t _ _ hs.2.2.2.2.1
  · iexact H15

theorem scratch_out (t : ℕ) : scratch S c t ⊢ (Pipeline.ΦA spec0 c : sProp 𝕄) := by
  rw [PhiA_eq]; unfold scratch
  iintro ⟨H0, H1, ⟨%d, -, H2⟩, Hg⟩
  isplitr [Hg]
  · isplitl [H0]; · iexact H0
    isplitl [H1]; · iexact H1
    iexists d; iexact H2
  · iexact Hg

theorem scratch_in (h : ∀ d, S.acc 0 d) : (Pipeline.ΦA spec0 c : sProp 𝕄) ⊢ scratch S c 0 := by
  rw [PhiA_eq]; unfold scratch
  iintro ⟨⟨H0, H1, ⟨%d, H2⟩⟩, Hg⟩
  isplitl [H0]; · iexact H0
  isplitl [H1]; · iexact H1
  isplitl [H2]
  · iexists d; isplitr
    · ipureintro; exact h d
    · iexact H2
  · iexact Hg

set_option backward.isDefEq.respectTransparency.types false in
/-- The run: every fair execution ends, with the arrays at contents that the claim admits and every counter at zero. -/
theorem run_region (hS : ∀ c, S.Step m c) (h0 : ∀ d, S.acc 0 d) :
    θ_run defs (onTc (τ := τ) (main (F := F))) (s₀ m ρ) (fun r => Pipeline.RDat.FramePost (cfgs 0) (fun c => rdat m S c) (V m) r ∧ r.2.sem = fun _ => 0) :=
  Pipeline.RDat.θ_run_frame_track_shared (Q' := _) cfgs (0 : Fin 1) launch₀0 defs₀ Variants.none (fun c => rdat m S c) m ρ main
    (fun c => body_obligation m S c (hS c)) (fun _ _ _ => rfl) (fun _ _ => rfl) (V m) (hmain m Variants.none) (fun c w => A_eq m S c w)
    (fun c => scratch_in S c h0) (fun c => scratch_out S c _) (fun _ h => h)

end Cert.FfnBwd
-- ==== Proof.Frames.lean ====
/-
  The frames: the run with no claim on the outputs, read at the argument arrays.
-/
module

public import proofs.«01_k».proof.Proof.Region
public import proofs.«01_k».proof.Defs

@[expose] public section

set_option maxRecDepth 16384

noncomputable section

namespace Cert.FfnBwd

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The final state's argument arrays are the initial ones. -/
def ArgsKept (r : PUnit × MemSt nD τ sig (Elt F)) : Prop :=
  ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)

/-- A run that meets a claim keeps the arguments. -/
theorem args_kept (S : Spec F) (r : PUnit × MemSt nD τ sig (Elt F))
    (h : Pipeline.RDat.FramePost (cfgs 0) (fun c => rdat m S c) (V m) r ∧ r.2.sem = fun _ => 0) : ArgsKept m r := fun c =>
  ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩

/-- No claim. -/
def anything : Spec F := ⟨fun _ _ _ => True, fun _ _ => True⟩

theorem anything_step (c : Dev nD) : (anything (F := F)).Step m c :=
  fun _ _ _ _ _ _ _ _ _ _ _ _ _ => ⟨trivial, trivial, trivial, trivial, trivial, trivial⟩

/-- Over any float values: the program ends, its arguments kept and every counter at zero. -/
theorem run_frame : θ_run defs (onTc (τ := τ) (main (F := F))) (s₀ m ρ) (fun r => ArgsKept m r ∧ r.2.sem = fun _ => 0) :=
  (θ_run defs _ _).mono (fun r h => ⟨args_kept m anything r h, h.2⟩)
    (run_region m ρ anything (fun c => anything_step m c) fun _ => trivial)

theorem frame_kernelIdeal : Cert.quiescent_KernelIdeal := fun m ρ _ => run_frame (F := Ideal) m ρ

end Cert.FfnBwd
-- ==== Proof.FrameKernel.lean ====
/-
  The printed kernel's frame: its text is the idealized program's, so the run over any float values is its run too.
-/
module

public import proofs.«01_k».proof.Proof.Frames
public import proofs.«01_k».proof.Proof.Gen.Kernel

@[expose] public section

set_option maxRecDepth 65536

noncomputable section

namespace Cert.FfnBwd

open Idealize.ShloMosaic Idealize.ShloMosaic.TcCoe Idealize.SL.Sem

set_option maxHeartbeats 40000000 in
theorem main_same : Cert.Kernel.main (F := Bits) = Cert.KernelIdeal.main (F := Bits) := rfl

set_option maxHeartbeats 40000000 in
theorem body_same : (Cert.Kernel.cc0_ffn_bwd (F := Bits)) = Cert.KernelIdeal.cc0_ffn_bwd := rfl

set_option maxHeartbeats 40000000 in
theorem table_same : (Cert.Kernel.defs₀ (F := Bits)) = Cert.KernelIdeal.defs₀ := by
  unfold Cert.Kernel.defs₀ Cert.KernelIdeal.defs₀
  refine congrArg Defs.onTc (funext fun l => funext fun x => ?_)
  match l, x with
  | 0, (t, s) => rw [body_same]; rfl
  | ⟨n + 1, h⟩, _ => exact absurd h (Nat.not_lt.2 (Nat.le_add_left _ _))

set_option maxHeartbeats 40000000 in
theorem defs_same : Cert.Kernel.defs (F := Bits) = Cert.KernelIdeal.defs (F := Bits) :=
  congrArg (Pipeline.defs (Cert.KernelIdeal.pcfgs (F := Bits))) table_same

set_option maxHeartbeats 40000000 in
theorem frame_kernel : Cert.quiescent_Kernel := fun m ρ _ => by
  have h := run_frame (F := Bits) m ρ
  rw [← defs_same, ← main_same] at h
  exact h

end Cert.FfnBwd
-- ==== Proof.Math.lean ====
/-
  The layer's backward pass as functions of the arguments at an index, over the extended reals.
-/
module

public import Idealize.ShloMosaic.PureOps.Ideal
public import Idealize.ShloMosaic.PureOps.Ideal.Laws

@[expose] public section

noncomputable section

namespace Cert.FfnBwd

open Idealize.ShloMosaic

/-- A channel of its half, shard and column; a column of its shard; a row's sequence and its place in it. -/
def ch (a : Fin 2) (j : Fin 4) (l : Fin 704) : Fin 5632 := ⟨(a.val * 4 + j.val) * 704 + l.val, by omega⟩
def col (j : Fin 4) (l : Fin 704) : Fin 2816 := ⟨j.val * 704 + l.val, by omega⟩
def rb (R : Fin 4096) : Fin 2 := ⟨R.val / 2048, by omega⟩
def rs (R : Fin 4096) : Fin 2048 := ⟨R.val % 2048, by omega⟩

structure Args where
  x : Fin 2 → Fin 2048 → Fin 1024 → EReal
  gain : Fin 1024 → EReal
  wi : Fin 1024 → Fin 5632 → EReal
  cw : Fin 3 → Fin 5632 → EReal
  cb : Fin 5632 → EReal
  wo : Fin 2816 → Fin 1024 → EReal
  dy : Fin 2 → Fin 2048 → Fin 1024 → EReal
  res : Fin 2 → Fin 2048 → Fin 1024 → EReal

/-- The reciprocal root of a row's mean square. -/
def rinv (x : Fin 1024 → EReal) : EReal :=
  Ideal.rsqrt (Ideal.div (∑ d : Fin 1024, x d * x d) (Ideal.ofBits .f32 1149239296#32) + Ideal.ofBits .f32 897988541#32)

/-- The RMS norm's gradient of a row, added to the residual's. -/
def nrm (x a g r : Fin 1024 → EReal) (d : Fin 1024) : EReal :=
  r d + rinv x * (a d * g d - x d * rinv x * Ideal.div (∑ e : Fin 1024, a e * g e * (x e * rinv x)) (Ideal.ofBits .f32 1149239296#32))

def sg (v : EReal) : EReal := Ideal.div 1 (1 + Ideal.exp (-v))

def lo (e : Fin 2816) : Fin 5632 := ⟨e.val, by omega⟩
def hi (e : Fin 2816) : Fin 5632 := ⟨2816 + e.val, by omega⟩

namespace Args
variable (A : Args)

def rv (b : Fin 2) (s : Fin 2048) : EReal := rinv (A.x b s)
def U (b : Fin 2) (s : Fin 2048) (c : Fin 5632) : EReal := ∑ d : Fin 1024, A.x b s d * A.rv b s * A.gain d * A.wi d c
/-- `u` after two rows of zeros. -/
def UP (b : Fin 2) (p : Fin 2050) (c : Fin 5632) : EReal := if h : p.val < 2 then 0 else A.U b ⟨p.val - 2, by omega⟩ c
def C (b : Fin 2) (s : Fin 2048) (c : Fin 5632) : EReal :=
  A.UP b ⟨s.val, by omega⟩ c * A.cw 0 c + A.UP b ⟨1 + s.val, by omega⟩ c * A.cw 1 c + A.U b s c * A.cw 2 c + A.cb c
def Z (b : Fin 2) (s : Fin 2048) (e : Fin 2816) : EReal := ∑ d : Fin 1024, A.dy b s d * A.wo e d
def sig (b : Fin 2) (s : Fin 2048) (e : Fin 2816) : EReal := sg (A.C b s (hi e))

/-- The gate's two factors, as the kernel is handed them. -/
def AG (a : Fin 2) (b : Fin 2) (s : Fin 2048) (e : Fin 2816) : EReal :=
  if a.val = 0 then A.C b s (hi e) * A.sig b s e
  else A.C b s (lo e) * (A.sig b s e * (1 + A.C b s (hi e) * (1 - A.sig b s e)))

/-- The convolution's cotangent. -/
def D (b : Fin 2) (s : Fin 2048) (c : Fin 5632) : EReal :=
  if h : c.val < 2816 then A.C b s (hi ⟨c.val, h⟩) * A.sig b s ⟨c.val, h⟩ * A.Z b s ⟨c.val, h⟩
  else
    A.Z b s ⟨c.val - 2816, by omega⟩ * A.C b s (lo ⟨c.val - 2816, by omega⟩) * A.sig b s ⟨c.val - 2816, by omega⟩
      + A.C b s (hi ⟨c.val - 2816, by omega⟩) * (A.Z b s ⟨c.val - 2816, by omega⟩ * A.C b s (lo ⟨c.val - 2816, by omega⟩))
        * (A.sig b s ⟨c.val - 2816, by omega⟩ * (1 - A.sig b s ⟨c.val - 2816, by omega⟩))
/-- The cotangent, zero past the sequence's end. -/
def DE (b : Fin 2) (p : ℕ) (c : Fin 5632) : EReal := if h : p < 2048 then A.D b ⟨p, h⟩ c else 0

def DU (b : Fin 2) (s : Fin 2048) (c : Fin 5632) : EReal :=
  A.cw 0 c * A.DE b (s.val + 2) c + A.cw 1 c * A.DE b (s.val + 1) c + A.cw 2 c * A.DE b s.val c
def DW (k : Fin 3) (c : Fin 5632) : EReal := ∑ b : Fin 2, ∑ s : Fin 2048, A.DE b (s.val + (2 - k.val)) c * A.U b s c
def DB (c : Fin 5632) : EReal := ∑ b : Fin 2, ∑ s : Fin 2048, A.D b s c
def H (b : Fin 2) (s : Fin 2048) (d : Fin 1024) : EReal := ∑ c : Fin 5632, A.DU b s c * A.wi d c
def DX (b : Fin 2) (s : Fin 2048) (d : Fin 1024) : EReal := nrm (A.x b s) (A.H b s) A.gain (A.res b s) d
def DG (d : Fin 1024) : EReal := ∑ b : Fin 2, ∑ s : Fin 2048, A.H b s d * (A.x b s d * A.rv b s)

end Args

end Cert.FfnBwd
-- ==== Proof.RefVal.lean ====
/-
  The reference's operations at an index, as the layer's functions.
-/
module

public import proofs.«01_k».proof.Proof.Math
public import proofs.«01_k».proof.Proof.Gen.ReferenceIdeal.Run
public import Idealize.ShloMosaic.Lib.Pointwise

@[expose] public section

set_option maxRecDepth 16384

noncomputable section

namespace Cert.FfnBwd.Ref

open Idealize.ShloMosaic Idealize.ShloMosaic.TcCoe Idealize.ShloMosaic.Tactic Idealize.SL.Sem
open Idealize.ShloMosaic.StableHlo
open Cert.ReferenceIdeal Cert.ReferenceIdeal.Gen Cert.ReferenceIdeal.Value

/-- A sum over the first two axes of three. -/
theorem rows_sum {n0 n1 n2 : Nat} (h : (⟨3, ![n0, n1, n2]⟩ : Shape).ReducesTo [0, 1] ⟨1, ![n2]⟩) (v : (⟨3, ![n0, n1, n2]⟩ : Shape).Idx → EReal)
    (init : EReal) (c : Fin n2) : Ideal.hostReduceAdd h v init (ix1 c) = init + ∑ b : Fin n0, ∑ s : Fin n1, v (ix3 b s c) := by
  unfold Ideal.hostReduceAdd
  have hd : ∀ i, h.drop i = ix1 c → i 2 = c := fun i e => Fin.ext (congrArg Fin.val (congrFun e 0))
  refine congrArg (init + ·) ((Finset.sum_nbij' (fun i => ((i 0, i 1) : Fin n0 × Fin n1)) (fun k => ix3 k.1 k.2 c) (fun _ _ => Finset.mem_univ _)
    (fun k _ => ?_) (fun i hi => ?_) (fun _ _ => rfl) (fun i hi => ?_)).trans (Fintype.sum_prod_type fun k : Fin n0 × Fin n1 => v (ix3 k.1 k.2 c)))
  · refine Finset.mem_filter.mpr ⟨Finset.mem_univ _, ?_⟩
    funext b
    obtain rfl : b = 0 := Subsingleton.elim b 0
    rfl
  · have := hd i (Finset.mem_filter.mp hi).2
    subst this
    exact (eq_ix3 i).symm
  · have := hd i (Finset.mem_filter.mp hi).2
    subst this
    exact congrArg v (eq_ix3 i)

theorem add_both {u v w z : EReal} (h : u = v) (k : w = z) : u + w = v + z := h ▸ k ▸ rfl
theorem all3 {P : Fin 3 → Prop} (h0 : P 0) (h1 : P 1) (h2 : P 2) : ∀ a, P a
  | ⟨0, _⟩ => h0
  | ⟨1, _⟩ => h1
  | ⟨2, _⟩ => h2
theorem all2 {P : Fin 2 → Prop} (h0 : P 0) (h1 : P 1) : ∀ a, P a
  | ⟨0, _⟩ => h0
  | ⟨1, _⟩ => h1
/-- A coordinate that a pad without gaps takes from its operand. -/
theorem inside {o n j : ℕ} (h : o ≤ j) (k : j - o < n) : o ≤ j ∧ (j - o) % (0 + 1) = 0 ∧ (j - o) / (0 + 1) < n :=
  ⟨h, Nat.mod_one _, (Nat.div_one _).trans_lt k⟩
theorem within {o n j : ℕ} (h : (j - o) / (0 + 1) < n) : j - o < n := (Nat.div_one _).symm.trans_lt h

variable (f : Valuation τ sig (Elt Ideal))

/-- The arguments, as functions of an index. -/
def argsOf : Args where
  x b s d := f (Proc.devRef .tc main_arg0) (ix3 b s d)
  gain d := f (Proc.devRef .tc main_arg1) (ix1 d)
  wi d c := f (Proc.devRef .tc main_arg2) (ix2 d c)
  cw k c := f (Proc.devRef .tc main_arg3) (ix2 k c)
  cb c := f (Proc.devRef .tc main_arg4) (ix1 c)
  wo e d := f (Proc.devRef .tc main_arg5) (ix2 e d)
  dy b s d := f (Proc.devRef .tc main_arg6) (ix3 b s d)
  res b s d := f (Proc.devRef .tc main_arg7) (ix3 b s d)

/-- A row's mean square, and the constant added to it. -/
def q (x : Fin 1024 → EReal) : EReal := Ideal.div (∑ d : Fin 1024, x d * x d) (Ideal.ofBits .f32 1149239296#32) + Ideal.ofBits .f32 897988541#32

theorem v6_at (b : Fin 2) (s : Fin 2048) : res_main_v6 f (ix3 b s (0 : Fin 1)) = q ((argsOf f).x b s) := by
  unfold res_main_v6
  pointwise
  unfold q argsOf
  simp [pointwise]
theorem v7_at (b : Fin 2) (s : Fin 2048) : res_main_v7 f (ix3 b s (0 : Fin 1)) = (argsOf f).rv b s := by
  unfold res_main_v7
  pointwise
  rw [v6_at]
  rfl
theorem v12_at (b : Fin 2) (s : Fin 2048) (d : Fin 1024) : res_main_v12 f (ix3 b s d) = (argsOf f).x b s d * (argsOf f).rv b s := by
  unfold res_main_v12
  pointwise
  rw [v7_at]
  rfl
theorem v13_at (d : Fin 1024) : res_main_v13 f (ix3 (0 : Fin 1) (0 : Fin 1) d) = (argsOf f).gain d := by
  unfold res_main_v13
  pointwise
  rfl
theorem v18_at (b : Fin 2) (p : Fin 2050) (c : Fin 5632) : res_main_v18 f (ix3 b p c) = (argsOf f).UP b p c := by
  unfold res_main_v18
  pointwise
  simp only [v12_at, v13_at]
  rfl
theorem v20_at (b : Fin 2) (s : Fin 2048) (c : Fin 5632) : res_main_v20 f (ix3 b s c) = (argsOf f).UP b ⟨s.val, by omega⟩ c := by
  unfold res_main_v20
  pointwise
  rw [v18_at]
theorem v26_at (b : Fin 2) (s : Fin 2048) (c : Fin 5632) : res_main_v26 f (ix3 b s c) = (argsOf f).UP b ⟨1 + s.val, by omega⟩ c := by
  unfold res_main_v26
  pointwise
  rw [v18_at]
theorem v33_at (b : Fin 2) (s : Fin 2048) (c : Fin 5632) : res_main_v33 f (ix3 b s c) = (argsOf f).U b s c := by
  unfold res_main_v33
  pointwise
  rw [v18_at]
  unfold Args.UP
  rw [dif_neg (by show ¬ 2 + s.val < 2; omega)]
  exact congrArg (fun s => (argsOf f).U b s c) (Fin.ext (by show 2 + s.val - 2 = s.val; omega))
theorem v42_at (b : Fin 2) (s : Fin 2048) (c : Fin 5632) : res_main_v42 f (ix3 b s c) = (argsOf f).C b s c := by
  unfold res_main_v42 res_main_v23 res_main_v29 res_main_v36
  pointwise
  rw [v20_at, v26_at, v33_at]
  unfold Args.C
  rfl
theorem v43_at (b : Fin 2) (s : Fin 2048) (e : Fin 2816) : res_main_v43 f (ix3 b s e) = (argsOf f).C b s (lo e) := by
  unfold res_main_v43
  pointwise
  rw [v42_at]
  rfl
theorem v44_at (b : Fin 2) (s : Fin 2048) (e : Fin 2816) : res_main_v44 f (ix3 b s e) = (argsOf f).C b s (hi e) := by
  unfold res_main_v44
  pointwise
  rw [v42_at]
  rfl
theorem v45_at (b : Fin 2) (s : Fin 2048) (e : Fin 2816) : res_main_v45_2 f (ix3 b s e) = (argsOf f).sig b s e := by
  unfold res_main_v45_2
  pointwise
  rw [v44_at]
  rfl
theorem v48_at (b : Fin 2) (s : Fin 2048) (e : Fin 2816) : res_main_v48 f (ix3 b s e) = (argsOf f).Z b s e := by
  unfold res_main_v48
  pointwise
  rfl
theorem v54_at (b : Fin 2) (s : Fin 2048) (c : Fin 5632) : res_main_v54 f (ix3 b s c) = (argsOf f).D b s c := by
  have hb := b.isLt
  have hs := s.isLt
  have hc := c.isLt
  unfold res_main_v54 res_main_v45_0 res_main_v50
  pointwise
  unfold Args.D
  by_cases h : c.val < 2816
  · rw [dif_pos h]
    refine (add_both (dif_neg fun e => ?_) (dif_pos ?_)).trans (zero_add _ |>.trans ?_)
    · have h2 : 2816 ≤ c.val := (e (2 : Fin 3)).1
      omega
    · exact all3 (inside (Nat.zero_le _) hb) (inside (Nat.zero_le _) hs) (inside (Nat.zero_le _) h)
    · rw [v44_at, v45_at, v48_at]
  · rw [dif_neg h]
    refine (add_both (dif_pos ?_) (dif_neg fun e => ?_)).trans (add_zero _ |>.trans ?_)
    · exact all3 (inside (Nat.zero_le _) hb) (inside (Nat.zero_le _) hs) (inside (Nat.not_lt.mp h) (show c.val - 2816 < 2816 by omega))
    · have h2 : c.val - 0 < 2816 := within (e (2 : Fin 3)).2.2
      omega
    · rw [v44_at, v45_at, v48_at, v43_at]
theorem v90_at (b : Fin 2) (s : Fin 2048) (c : Fin 5632) : res_main_v90 f (ix3 b s c) = (argsOf f).DU b s c := by
  have hb := b.isLt
  have hs := s.isLt
  have hc := c.isLt
  unfold res_main_v90 res_main_v88 res_main_v23 res_main_v29 res_main_v36
  pointwise
  unfold Args.DU
  rw [add_assoc ((argsOf f).cw 0 c * _), add_comm ((argsOf f).cw 0 c * _), add_comm ((argsOf f).cw 1 c * _)]
  refine add_both (add_both ?_ ?_) ?_
  · refine (dif_pos ?_).trans ?_
    · exact all3 (inside (Nat.zero_le _) hb) (inside (show 2 ≤ 2 + s.val by omega) (show 2 + s.val - 2 < 2048 by omega)) (inside (Nat.zero_le _) hc)
    · unfold Args.DE
      rw [dif_pos hs, v54_at, mul_comm]
      rfl
  · unfold Args.DE
    by_cases h : s.val + 1 < 2048
    · refine (dif_pos ?_).trans ?_
      · exact all3 (inside (Nat.zero_le _) hb) (inside (show 1 ≤ 2 + s.val by omega) (show 2 + s.val - 1 < 2048 by omega)) (inside (Nat.zero_le _) hc)
      · rw [dif_pos h, v54_at, mul_comm]
        exact congrArg (fun s => (argsOf f).cw 1 c * (argsOf f).D b s c) (Fin.ext (by show 2 + s.val - 1 = s.val + 1; omega))
    · refine (dif_neg fun e => ?_).trans ?_
      · have h2 : 2 + s.val - 1 < 2048 := within (e (1 : Fin 3)).2.2
        omega
      · rw [dif_neg h, mul_zero]
  · unfold Args.DE
    by_cases h : s.val + 2 < 2048
    · refine (dif_pos ?_).trans ?_
      · exact all3 (inside (Nat.zero_le _) hb) (inside (Nat.zero_le _) (show 2 + s.val - 0 < 2048 by omega)) (inside (Nat.zero_le _) hc)
      · rw [dif_pos h, v54_at, mul_comm]
        exact congrArg (fun s => (argsOf f).cw 0 c * (argsOf f).D b s c) (Fin.ext (by show 2 + s.val = s.val + 2; omega))
    · refine (dif_neg fun e => ?_).trans ?_
      · have h2 : 2 + s.val - 0 < 2048 := within (e (1 : Fin 3)).2.2
        omega
      · rw [dif_neg h, mul_zero]
theorem v91_at (b : Fin 2) (s : Fin 2048) (d : Fin 1024) : res_main_v91 f (ix3 b s d) = (argsOf f).H b s d := by
  unfold res_main_v91
  pointwise
  simp only [v90_at]
  rfl
theorem v96_at (b : Fin 2) (s : Fin 2048) (d : Fin 1024) : res_main_v96 f (ix3 b s d) = (argsOf f).H b s d * (argsOf f).gain d := by
  unfold res_main_v96 res_main_v13
  pointwise
  rw [v91_at]
  rfl
/-- The part of the norm's gradient that goes through the mean square, halved. -/
def half (A : Args) (b : Fin 2) (s : Fin 2048) : EReal :=
  Ideal.div ((∑ e : Fin 1024, A.x b s e * (A.H b s e * A.gain e)) * (Ideal.ofBits .f32 3204448256#32 * Ideal.div (A.rv b s) (q (A.x b s))))
    (Ideal.ofBits .f32 1149239296#32)

theorem v107_at (b : Fin 2) (s : Fin 2048) (d : Fin 1024) : res_main_v107 f (ix3 b s d) = half (argsOf f) b s := by
  unfold res_main_v107
  pointwise
  rw [Fin.sum_univ_one, v7_at, v6_at]
  simp only [v96_at]
  rfl

/-! ## The results -/

/-- A sum over the sequences and their rows, kept as one row and summed over that. -/
theorem twice5632 (x : FVec Ideal S2x2048x5632 .f32) (c : Fin 5632) :
    Ideal.hostReduceAdd reducesTo_S1x1x5632_S5632_d0_1 (shapeCast S1x1x5632 (Host.reduceAdd x (constant S_ .f32 0#32) reducesTo_S2x2048x5632_S5632_d0_1 h_S_)
      shapeCasts_S5632_S1x1x5632) 0 (ix1 c) = ∑ b : Fin 2, ∑ s : Fin 2048, x (ix3 b s c) := by
  refine (rows_sum _ _ _ _).trans ?_
  rw [Fin.sum_univ_one, Fin.sum_univ_one, zero_add]
  pointwise
  exact (rows_sum _ _ _ _).trans (zero_add _)
theorem twice1024 (x : FVec Ideal S2x2048x1024 .f32) (c : Fin 1024) :
    Ideal.hostReduceAdd reducesTo_S1x1x1024_S1024_d0_1 (shapeCast S1x1x1024 (Host.reduceAdd x (constant S_ .f32 0#32) reducesTo_S2x2048x1024_S1024_d0_1 h_S_)
      shapeCasts_S1024_S1x1x1024) 0 (ix1 c) = ∑ b : Fin 2, ∑ s : Fin 2048, x (ix3 b s c) := by
  refine (rows_sum _ _ _ _).trans ?_
  rw [Fin.sum_univ_one, Fin.sum_univ_one, zero_add]
  pointwise
  exact (rows_sum _ _ _ _).trans (zero_add _)

theorem ch_at (a : Fin 2) (j : Fin 4) (l : Fin 704) (h : a.val * 2816 + j.val * 704 + l.val < 5632) :
    (⟨a.val * 2816 + j.val * 704 + l.val, h⟩ : Fin 5632) = ch a j l := Fin.ext (by simp only [ch]; omega)

theorem du_at (a : Fin 2) (j : Fin 4) (R : Fin 4096) (l : Fin 704) :
    (truncf .bf16 (transpose S2x4x4096x704 [1, 2, 0, 3] (shapeCast _ (res_main_v90 f) shapeCasts_S2x2048x5632_S4096x2x4x704)
      transposes_S4096x2x4x704_S2x4x4096x704_1_2_0_3) bitsLt_bf16_f32 : FVec Ideal S2x4x4096x704 .bf16) (ix4 a j R l)
      = (argsOf f).DU (rb R) (rs R) (ch a j l) := by
  pointwise
  refine (v90_at f _ _ _).trans ?_
  rw [ch_at]
  rfl
/-- The rows' gradient as the reference sums it. -/
def DXr (A : Args) (b : Fin 2) (s : Fin 2048) (d : Fin 1024) : EReal :=
  A.H b s d * A.gain d * A.rv b s + A.x b s d * half A b s + half A b s * A.x b s d + A.res b s d
theorem dx_at (R : Fin 4096) (d : Fin 1024) :
    (shapeCast _ (addf (addf (addf (mulf (res_main_v96 f) (broadcastInDim S2x2048x1024 ![0, 1, 2] bcast_S2x2048x1_S2x2048x1024_0_1_2 (res_main_v7 f)))
      (mulf (f (Proc.devRef .tc main_arg0)) (res_main_v107 f))) (mulf (res_main_v107 f) (f (Proc.devRef .tc main_arg0)))) (f (Proc.devRef .tc main_arg7)))
      shapeCasts_S2x2048x1024_S4096x1024 : FVec Ideal S4096x1024 .f32) (ix2 R d) = DXr (argsOf f) (rb R) (rs R) d := by
  pointwise
  rw [v96_at, v7_at, v107_at]
  rfl
theorem db_at (j : Fin 4) (a : Fin 2) (l : Fin 704) :
    (transpose S4x2x1x704 [1, 0, 2, 3] (shapeCast _ (Host.reduceAdd (shapeCast _ (Host.reduceAdd (res_main_v54 f) (constant S_ .f32 0x00000000#32)
      reducesTo_S2x2048x5632_S5632_d0_1 h_S_) shapeCasts_S5632_S1x1x5632) (constant S_ .f32 0x00000000#32) reducesTo_S1x1x5632_S5632_d0_1 h_S_)
      shapeCasts_S5632_S2x4x1x704) transposes_S2x4x1x704_S4x2x1x704_1_0_2_3 : FVec Ideal S4x2x1x704 .f32) (ix4 j a (0 : Fin 1) l) = (argsOf f).DB (ch a j l) := by
  pointwise
  refine (twice5632 _ _).trans ?_
  rw [ch_at]
  exact Finset.sum_congr rfl fun b _ => Finset.sum_congr rfl fun s _ => v54_at f b s _
theorem dg_at (d : Fin 1024) :
    (shapeCast _ (Host.reduceAdd (shapeCast _ (Host.reduceAdd (mulf (res_main_v12 f) (res_main_v91 f)) (constant S_ .f32 0x00000000#32)
      reducesTo_S2x2048x1024_S1024_d0_1 h_S_) shapeCasts_S1024_S1x1x1024) (constant S_ .f32 0x00000000#32) reducesTo_S1x1x1024_S1024_d0_1 h_S_)
      shapeCasts_S1024_S1x1024 : FVec Ideal S1x1024 .f32) (ix2 (0 : Fin 1) d) = (argsOf f).DG d := by
  pointwise
  refine (twice1024 _ _).trans ?_
  refine Finset.sum_congr rfl fun b _ => Finset.sum_congr rfl fun s _ => ?_
  pointwise
  rw [v12_at, v91_at, mul_comm]

/-- The rows before, against the cotangent, are the rows against the cotangent after. -/
theorem shift (A : Args) (b : Fin 2) (c : Fin 5632) (o : ℕ) (ho : o ≤ 2) :
    (∑ s : Fin 2048, A.UP b ⟨o + s.val, by omega⟩ c * A.D b s c) = ∑ s : Fin 2048, A.DE b (s.val + (2 - o)) c * A.U b s c := by
  let E : ℕ → EReal := fun p => if h : p < 2048 then A.U b ⟨p, h⟩ c else 0
  have e1 : ∀ s : Fin 2048, A.UP b ⟨o + s.val, by omega⟩ c * A.D b s c = (fun p : ℕ => (if p < 2 - o then 0 else E (p - (2 - o))) * A.DE b p c) s.val := by
    intro s
    unfold Args.UP Args.DE
    simp only [dif_pos s.isLt]
    refine congrArg (· * A.D b s c) ?_
    by_cases h : s.val < 2 - o
    · rw [dif_pos (by show o + s.val < 2; omega), if_pos h]
    · rw [dif_neg (by show ¬ o + s.val < 2; omega), if_neg h]
      have hs := s.isLt
      refine Eq.trans ?_ (dif_pos (show s.val - (2 - o) < 2048 by omega)).symm
      exact congrArg (fun s => A.U b s c) (Fin.ext (by show o + s.val - 2 = s.val - (2 - o); omega))
  have e2 : ∀ s : Fin 2048, A.DE b (s.val + (2 - o)) c * A.U b s c = (fun p : ℕ => A.DE b (p + (2 - o)) c * E p) s.val := by
    intro s
    have e : A.U b s c = E s.val := by show _ = dite _ _ _; rw [dif_pos s.isLt]
    exact congrArg (A.DE b (s.val + (2 - o)) c * ·) e
  rw [Finset.sum_congr rfl fun s _ => e1 s, Finset.sum_congr rfl fun s _ => e2 s,
    Fin.sum_univ_eq_sum_range (fun p : ℕ => (if p < 2 - o then 0 else E (p - (2 - o))) * A.DE b p c) 2048,
    Fin.sum_univ_eq_sum_range (fun p : ℕ => A.DE b (p + (2 - o)) c * E p) 2048]
  have n1 : 2048 = (2 - o) + (2048 - (2 - o)) := by omega
  have n2 : 2048 = (2048 - (2 - o)) + (2 - o) := by omega
  rw [show Finset.range 2048 = Finset.range ((2 - o) + (2048 - (2 - o))) from congrArg Finset.range n1, Finset.sum_range_add,
    Finset.sum_eq_zero fun p hp => by rw [if_pos (Finset.mem_range.mp hp), zero_mul], zero_add]
  rw [show Finset.range ((2 - o) + (2048 - (2 - o))) = Finset.range ((2048 - (2 - o)) + (2 - o)) from congrArg Finset.range (by omega), Finset.sum_range_add,
    Finset.sum_eq_zero (s := Finset.range (2 - o)) fun p hp => by unfold Args.DE; rw [dif_neg (by omega), zero_mul], add_zero]
  refine Finset.sum_congr rfl fun p _ => ?_
  rw [if_neg (by omega), Nat.add_sub_cancel_left, mul_comm, add_comm]

theorem dw_at (j : Fin 4) (a : Fin 2) (k : Fin 3) (l : Fin 704) :
    (transpose S4x2x3x704 [2, 1, 0, 3] (shapeCast _ (addf (addf (pad S3x5632 ![2, 0] ![0, 0] ![0, 0] (broadcastInDim S1x5632 ![1] bcast_S5632_S1x5632_1 (Host.reduceAdd (shapeCast _ (Host.reduceAdd (mulf (res_main_v33 f) (res_main_v54 f)) (constant S_ .f32 0x00000000#32) reducesTo_S2x2048x5632_S5632_d0_1 h_S_) shapeCasts_S5632_S1x1x5632) (constant S_ .f32 0x00000000#32) reducesTo_S1x1x5632_S5632_d0_1 h_S_)) (constant S_ .f32 0x00000000#32) pads_S1x5632_S3x5632_200_000 h_S_) (pad S3x5632 ![1, 0] ![1, 0] ![0, 0] (broadcastInDim S1x5632 ![1] bcast_S5632_S1x5632_1 (Host.reduceAdd (shapeCast _ (Host.reduceAdd (mulf (res_main_v26 f) (res_main_v54 f)) (constant S_ .f32 0x00000000#32) reducesTo_S2x2048x5632_S5632_d0_1 h_S_) shapeCasts_S5632_S1x1x5632) (constant S_ .f32 0x00000000#32) reducesTo_S1x1x5632_S5632_d0_1 h_S_)) (constant S_ .f32 0x00000000#32) pads_S1x5632_S3x5632_110_000 h_S_)) (pad S3x5632 ![0, 0] ![2, 0] ![0, 0] (broadcastInDim S1x5632 ![1] bcast_S5632_S1x5632_1 (Host.reduceAdd (shapeCast _ (Host.reduceAdd (mulf (res_main_v20 f) (res_main_v54 f)) (constant S_ .f32 0x00000000#32) reducesTo_S2x2048x5632_S5632_d0_1 h_S_) shapeCasts_S5632_S1x1x5632) (constant S_ .f32 0x00000000#32) reducesTo_S1x1x5632_S5632_d0_1 h_S_)) (constant S_ .f32 0x00000000#32) pads_S1x5632_S3x5632_020_000 h_S_)) shapeCasts_S3x5632_S3x2x4x704) transposes_S3x2x4x704_S4x2x3x704_2_1_0_3 : FVec Ideal S4x2x3x704 .f32) (ix4 j a k l)
      = (argsOf f).DW k (ch a j l) := by
  have hc := (ch a j l).isLt
  simp only [ch] at hc
  have hc : a.val * 2816 + j.val * 704 + l.val < 5632 := by omega
  have w : (∑ b : Fin 2, ∑ s : Fin 2048, mulf (res_main_v33 f) (res_main_v54 f) (ix3 b s (ch a j l))) = (argsOf f).DW 2 (ch a j l) := by
    refine Finset.sum_congr rfl fun b _ => (Finset.sum_congr rfl fun s _ => ?_ : _ = _)
    pointwise
    rw [v33_at, v54_at, mul_comm]
    have e : (argsOf f).DE b s.val (ch a j l) = (argsOf f).D b s (ch a j l) := by unfold Args.DE; rw [dif_pos s.isLt]
    exact congrArg (· * (argsOf f).U b s (ch a j l)) e.symm
  have w1 : (∑ b : Fin 2, ∑ s : Fin 2048, mulf (res_main_v26 f) (res_main_v54 f) (ix3 b s (ch a j l))) = (argsOf f).DW 1 (ch a j l) := by
    refine Finset.sum_congr rfl fun b _ => (Finset.sum_congr rfl fun s _ => ?_).trans (shift (argsOf f) b (ch a j l) 1 (by omega))
    pointwise
    rw [v26_at, v54_at]
  have w0 : (∑ b : Fin 2, ∑ s : Fin 2048, mulf (res_main_v20 f) (res_main_v54 f) (ix3 b s (ch a j l))) = (argsOf f).DW 0 (ch a j l) := by
    refine Finset.sum_congr rfl fun b _ => (Finset.sum_congr rfl fun s _ => ?_).trans (shift (argsOf f) b (ch a j l) 0 (by omega))
    pointwise
    rw [v20_at, v54_at]
  pointwise
  have z : (ix1 (⟨a.val * 2816 + j.val * 704 + l.val, hc⟩ : Fin 5632)) = ix1 (ch a j l) := congrArg ix1 (ch_at a j l hc)
  obtain ⟨k, hk⟩ := k
  interval_cases k
  · refine (add_both (add_both (dif_neg fun e => absurd e.1.1 (by dsimp only; decide)) (dif_neg fun e => absurd e.1.1 (by dsimp only; decide)))
      ((dif_pos ⟨by dsimp only; decide, hc⟩).trans ((congrArg _ z).trans ((twice5632 _ _).trans w0)))).trans ?_
    rw [zero_add, zero_add]; rfl
  · refine (add_both (add_both (dif_neg fun e => absurd e.1.1 (by dsimp only; decide)) ((dif_pos ⟨⟨by dsimp only; decide, by dsimp only; decide⟩, hc⟩).trans ((congrArg _ z).trans ((twice5632 _ _).trans w1))))
      (dif_neg fun e => absurd e.1 (by dsimp only; decide))).trans ?_
    rw [zero_add, add_zero]; rfl
  · refine (add_both (add_both ((dif_pos ⟨⟨by dsimp only; decide, by dsimp only; decide⟩, hc⟩).trans ((congrArg _ z).trans ((twice5632 _ _).trans w))) (dif_neg fun e => absurd e.1.2 (by dsimp only; decide)))
      (dif_neg fun e => absurd e.1 (by dsimp only; decide))).trans ?_
    rw [add_zero, add_zero]; rfl
end Cert.FfnBwd.Ref
-- ==== Proof.Sem.lean ====
/-
  What the body's commands read and write, element by element: the buffers' contents at coordinates, each load's and store's
  effect there, and the block values at coordinates.
-/
module

public import proofs.«01_k».proof.Proof.Keep
public import Idealize.ShloMosaic.Lib.Pointwise

@[expose] public section

set_option maxRecDepth 16384

noncomputable section

namespace Cert.FfnBwd

open Idealize.ShloMosaic Idealize.ShloMosaic.TcCoe Idealize.SL.Sem
open Cert.KernelIdeal Cert.KernelIdeal.Gen

variable {M : Mems}

/-! ## Rectangles of unit stride -/

theorem overlay_in {sh : Shape} {α : Type} {off size : Fin sh.rank → ℕ} {inb : ∀ a, off a + size a ≤ sh.size a} (X : sh.Idx → α)
    (w : (Rect.unit off size inb).shape.Idx → α) (y : sh.Idx) (x : (Rect.unit off size inb).shape.Idx) (h : ∀ a, (y a).val = off a + (x a).val) :
    (Rect.unit off size inb).overlay X w y = w x := by
  have e : y = (Rect.unit off size inb).emb x := by
    funext a; apply Fin.ext; rw [h a]; simp
  rw [e, Rect.overlay_emb]

theorem overlay_out {sh : Shape} {α : Type} {off size : Fin sh.rank → ℕ} {inb : ∀ a, off a + size a ≤ sh.size a} (X : sh.Idx → α)
    (w : (Rect.unit off size inb).shape.Idx → α) (y : sh.Idx) (h : ∃ a, (y a).val < off a ∨ off a + size a ≤ (y a).val) :
    (Rect.unit off size inb).overlay X w y = X y := by
  refine Rect.overlay_of_not_mem _ _ _ fun hy => ?_
  obtain ⟨a, ha⟩ := h
  have := Rect.mem_set_unit.mp hy a
  omega

theorem overlay4_in {α : Type} {n0 n1 n2 n3 o0 o1 o2 o3 z0 z1 z2 z3 : ℕ}
    {inb : ∀ a, (![o0, o1, o2, o3] : Fin 4 → ℕ) a + (![z0, z1, z2, z3] : Fin 4 → ℕ) a ≤ (⟨4, ![n0, n1, n2, n3]⟩ : Shape).size a}
    (X : (⟨4, ![n0, n1, n2, n3]⟩ : Shape).Idx → α) (w : (⟨4, ![z0, z1, z2, z3]⟩ : Shape).Idx → α)
    (a : Fin n0) (b : Fin n1) (c : Fin n2) (e : Fin n3) (a' : Fin z0) (b' : Fin z1) (c' : Fin z2) (e' : Fin z3)
    (ha : a.val = o0 + a'.val) (hb : b.val = o1 + b'.val) (hc : c.val = o2 + c'.val) (he : e.val = o3 + e'.val) :
    (Rect.unit (s := ⟨4, ![n0, n1, n2, n3]⟩) ![o0, o1, o2, o3] ![z0, z1, z2, z3] inb).overlay X w (ix4 a b c e) = w (ix4 a' b' c' e') := by
  refine overlay_in (sh := ⟨4, ![n0, n1, n2, n3]⟩) X w (ix4 a b c e) (ix4 a' b' c' e') ?_
  show ∀ x : Fin 4, _
  intro x; fin_cases x
  exacts [ha, hb, hc, he]

theorem overlay4_out {α : Type} {n0 n1 n2 n3 o0 o1 o2 o3 z0 z1 z2 z3 : ℕ}
    {inb : ∀ a, (![o0, o1, o2, o3] : Fin 4 → ℕ) a + (![z0, z1, z2, z3] : Fin 4 → ℕ) a ≤ (⟨4, ![n0, n1, n2, n3]⟩ : Shape).size a}
    (X : (⟨4, ![n0, n1, n2, n3]⟩ : Shape).Idx → α) (w : (⟨4, ![z0, z1, z2, z3]⟩ : Shape).Idx → α)
    (a : Fin n0) (b : Fin n1) (c : Fin n2) (e : Fin n3)
    (h : ¬ ((o0 ≤ a.val ∧ a.val < o0 + z0) ∧ (o1 ≤ b.val ∧ b.val < o1 + z1) ∧ (o2 ≤ c.val ∧ c.val < o2 + z2) ∧ (o3 ≤ e.val ∧ e.val < o3 + z3))) :
    (Rect.unit (s := ⟨4, ![n0, n1, n2, n3]⟩) ![o0, o1, o2, o3] ![z0, z1, z2, z3] inb).overlay X w (ix4 a b c e) = X (ix4 a b c e) := by
  refine Rect.overlay_of_not_mem _ _ _ fun hy => h ?_
  have hm := Rect.mem_set_unit.mp hy
  exact ⟨hm 0, hm 1, hm 2, hm 3⟩

/-! ## The contents at coordinates -/

section Get
variable (s : St Ideal)

def gDy (r : Fin 512) (d : Fin 1024) : EReal := s .dy (ix3 (0 : Fin 1) r d)
def gDyn (r : Fin 16) (d : Fin 1024) : EReal := s .dyn (ix3 (0 : Fin 1) r d)
def gWo (l : Fin 704) (d : Fin 1024) : EReal := s .wo (ix4 (0 : Fin 1) (0 : Fin 1) l d)
def gU (h : Fin 2) (r : Fin 512) (l : Fin 704) : EReal := s .u (ix4 h (0 : Fin 1) r l)
def gAg (h : Fin 2) (r : Fin 512) (l : Fin 704) : EReal := s .ag (ix4 h (0 : Fin 1) r l)
def gAgn (h : Fin 2) (r : Fin 16) (l : Fin 704) : EReal := s .agn (ix4 h (0 : Fin 1) r l)
def gCw (h : Fin 2) (k : Fin 3) (l : Fin 704) : EReal := s .cw (ix5 h (0 : Fin 1) (0 : Fin 1) k l)
def gWt (h : Fin 2) (l : Fin 704) (d : Fin 1024) : EReal := s .wt (ix4 h (0 : Fin 1) l d)
def gX (r : Fin 512) (d : Fin 1024) : EReal := s .x (ix2 r d)
def gGain (d : Fin 1024) : EReal := s .gain (ix2 (0 : Fin 1) d)
def gRes (r : Fin 512) (d : Fin 1024) : EReal := s .res (ix2 r d)
def gDu (h : Fin 2) (r : Fin 512) (l : Fin 704) : EReal := s .du (ix4 h (0 : Fin 1) r l)
def gDdw (j : Fin 4) (h : Fin 2) (k : Fin 3) (l : Fin 704) : EReal := s .ddw (ix4 j h k l)
def gDdb (j : Fin 4) (h : Fin 2) (l : Fin 704) : EReal := s .ddb (ix4 j h (0 : Fin 1) l)
def gDx (r : Fin 512) (d : Fin 1024) : EReal := s .dx (ix2 r d)
def gDg (d : Fin 1024) : EReal := s .dg (ix2 (0 : Fin 1) d)
def gDz (r : Fin 528) (l : Fin 704) : EReal := s .dz (ix2 r l)
def gDa (h : Fin 2) (k : Fin 3) (r : Fin 528) (l : Fin 704) : EReal := s .da (ix4 h k r l)
def gAcc (r : Fin 512) (d : Fin 1024) : EReal := s .acc (ix2 r d)

end Get

/-! ## Loads -/

section Loads
variable (s : St Ideal)

theorem get_at (b : Cell) (s : St Ideal) (off size : Fin b.sh.rank → ℕ) (inb : ∀ a, off a + size a ≤ b.sh.size a)
    (h : (M.mem b).view.LoadsAt (Rect.unit off size inb).toLoadRect) (x : (Rect.unit off size inb).shape.Idx) (y : b.sh.Idx)
    (hxy : ∀ a, (y a).val = off a + (x a).val) :
    (run (Prog.lift (Cmd.ld (F := Ideal) (M := M) b (Rect.unit off size inb) h)) s).1 x = s b y := by
  have e : y = (Rect.unit off size inb).emb x := by
    funext a; apply Fin.ext; rw [hxy a]; simp
  rw [e]; rfl

theorem run_ldDz (r : ℕ) (hr : r < 33) (p : Fin 16) (l : Fin 704) :
    (run (ldDz (M := M) r hr) s).1 (ix2 p l) = gDz s ⟨16 * r + p, by omega⟩ l :=
  get_at .dz s _ _ _ _ _ _ fun a => by fin_cases a <;> first | rfl | exact (Nat.zero_add _).symm

theorem run_ldAg (h r : ℕ) (hh : h < 2) (hr : r < 32) (p : Fin 16) (l : Fin 704) :
    (run (ldAg (M := M) h r hh hr) s).1 (ix4 (0 : Fin 1) (0 : Fin 1) p l) = gAg s ⟨h, hh⟩ ⟨16 * r + p, by omega⟩ l :=
  get_at .ag s _ _ _ _ _ _ fun a => by fin_cases a <;> first | rfl | exact (Nat.zero_add _).symm

theorem run_ldAgn (h : ℕ) (hh : h < 2) (p : Fin 16) (l : Fin 704) :
    (run (ldAgn (M := M) h hh) s).1 (ix4 (0 : Fin 1) (0 : Fin 1) p l) = gAgn s ⟨h, hh⟩ p l :=
  get_at .agn s _ _ _ _ _ _ fun a => by fin_cases a <;> first | rfl | exact (Nat.zero_add _).symm

theorem run_ldDa (h k r : ℕ) (hh : h < 2) (hk : k < 3) (hr : r < 33) (p : Fin 16) (l : Fin 704) :
    (run (ldDa (M := M) h k r hh hk hr) s).1 (ix4 (0 : Fin 1) (0 : Fin 1) p l) = gDa s ⟨h, hh⟩ ⟨k, hk⟩ ⟨16 * r + p, by omega⟩ l :=
  get_at .da s _ _ _ _ _ _ fun a => by fin_cases a <;> first | rfl | exact (Nat.zero_add _).symm

theorem run_ldDaBig (h k r : ℕ) (hh : h < 2) (hk : k < 3) (hr : r < 17) (p : Fin 512) (l : Fin 704) :
    (run (ldDaBig (M := M) h k r hh hk hr) s).1 (ix4 (0 : Fin 1) (0 : Fin 1) p l) = gDa s ⟨h, hh⟩ ⟨k, hk⟩ ⟨r + p, by omega⟩ l :=
  get_at .da s _ _ _ _ _ _ fun a => by fin_cases a <;> first | rfl | exact (Nat.zero_add _).symm

theorem run_ldU (h r : ℕ) (hh : h < 2) (hr : r < 32) (p : Fin 16) (l : Fin 704) :
    (run (ldU (M := M) h r hh hr) s).1 (ix4 (0 : Fin 1) (0 : Fin 1) p l) = gU s ⟨h, hh⟩ ⟨16 * r + p, by omega⟩ l :=
  get_at .u s _ _ _ _ _ _ fun a => by fin_cases a <;> first | rfl | exact (Nat.zero_add _).symm

theorem run_ldCw (h k : ℕ) (hh : h < 2) (hk : k < 3) (l : Fin 704) :
    (run (ldCw (M := M) h k hh hk) s).1 (ix5 (0 : Fin 1) (0 : Fin 1) (0 : Fin 1) (0 : Fin 1) l) = gCw s ⟨h, hh⟩ ⟨k, hk⟩ l :=
  get_at .cw s _ _ _ _ _ _ fun a => by fin_cases a <;> first | rfl | exact (Nat.zero_add _).symm

theorem run_ldDdw (i : grid0.Coords) (h k : ℕ) (hh : h < 2) (hk : k < 3) (l : Fin 704) :
    (run (ldDdw (M := M) i h k hh hk) s).1 (ix4 (0 : Fin 1) (0 : Fin 1) (0 : Fin 1) l) = gDdw s (i 1) ⟨h, hh⟩ ⟨k, hk⟩ l :=
  get_at .ddw s _ _ _ _ _ _ fun a => by fin_cases a <;> first | rfl | exact (Nat.zero_add _).symm | exact (shard_eq i).symm

theorem run_ldDdb (i : grid0.Coords) (h : ℕ) (hh : h < 2) (l : Fin 704) :
    (run (ldDdb (M := M) i h hh) s).1 (ix4 (0 : Fin 1) (0 : Fin 1) (0 : Fin 1) l) = gDdb s (i 1) ⟨h, hh⟩ l :=
  get_at .ddb s _ _ _ _ _ _ fun a => by fin_cases a <;> first | rfl | exact (Nat.zero_add _).symm | exact (shard_eq i).symm

theorem run_ldWo (l : Fin 704) (d : Fin 1024) :
    (run (ldWo (M := M)) s).1 (ix4 (0 : Fin 1) (0 : Fin 1) l d) = gWo s l d :=
  get_at .wo s _ _ _ _ _ _ fun a => by fin_cases a <;> first | rfl | exact (Nat.zero_add _).symm

theorem run_ldDuBig (h : ℕ) (hh : h < 2) (r : Fin 512) (l : Fin 704) :
    (run (ldDuBig (M := M) h hh) s).1 (ix4 (0 : Fin 1) (0 : Fin 1) r l) = gDu s ⟨h, hh⟩ r l :=
  get_at .du s _ _ _ _ _ _ fun a => by fin_cases a <;> first | rfl | exact (Nat.zero_add _).symm

theorem run_ldWt (h : ℕ) (hh : h < 2) (l : Fin 704) (d : Fin 1024) :
    (run (ldWt (M := M) h hh) s).1 (ix4 (0 : Fin 1) (0 : Fin 1) l d) = gWt s ⟨h, hh⟩ l d :=
  get_at .wt s _ _ _ _ _ _ fun a => by fin_cases a <;> first | rfl | exact (Nat.zero_add _).symm

theorem run_ldAcc (r : Fin 512) (d : Fin 1024) : (run (ldAcc (M := M)) s).1 (ix2 r d) = gAcc s r d :=
  get_at .acc s _ _ _ _ _ _ fun a => by fin_cases a <;> first | rfl | exact (Nat.zero_add _).symm

/-! ## Stores -/

theorem put_at (b : Cell) (s : St Ideal) (r : Rect b.sh) (h : ((M.mem b).access r).Stores Finset.univ) (w : r.shape.Idx → Elt Ideal b.el) (x : b.sh.Idx) :
    (run (Prog.lift (Cmd.st (M := M) b r w h)) s).2 b x = r.overlay (s b) w x := by
  have e : (run (Prog.lift (Cmd.st (M := M) b r w h)) s).2 = Function.update s b (r.overlay (s b) w) := rfl
  rw [e, Function.update_self]

theorem run_stDa (h r : ℕ) (hh : h < 2) (hr : r < 33) (w : Vec Ideal S1x1x16x704 .f32) (a : Fin 2) (k : Fin 3) (y : Fin 528) (l : Fin 704) :
    gDa (run (stDa (M := M) h r hh hr w) s).2 a k y l
      = if hy : (a.val = h ∧ k.val = 0) ∧ 16 * r ≤ y.val ∧ y.val < 16 * r + 16 then w (ix4 (0 : Fin 1) (0 : Fin 1) (⟨y.val - 16 * r, by omega⟩ : Fin 16) l)
        else gDa s a k y l := by
  have e := put_at (M := M) .da s (Rect.unit (s := S2x3x528x704) ![h, 0, 16 * r, 0] S1x1x16x704.size (inb_da hh (by decide) hr)) (View.stores_vmem_bits_univ h_S1x1x16x704 rfl) w (ix4 a k y l)
  by_cases hy : (a.val = h ∧ k.val = 0) ∧ 16 * r ≤ y.val ∧ y.val < 16 * r + 16
  · rw [dif_pos hy]
    refine e.trans (overlay4_in _ _ a k y l (0 : Fin 1) (0 : Fin 1) (⟨y.val - 16 * r, by omega⟩ : Fin 16) l ?_ ?_ ?_ ?_) <;> simp <;> omega
  · rw [dif_neg hy]
    refine e.trans (overlay4_out _ _ a k y l ?_)
    omega

theorem run_stDaBig (h j : ℕ) (hh : h < 2) (hj : j < 3) (w : Vec Ideal S1x1x512x704 .f32) (a : Fin 2) (k : Fin 3) (y : Fin 528) (l : Fin 704) :
    gDa (run (stDaBig (M := M) h j hh hj w) s).2 a k y l
      = if hy : (a.val = h ∧ k.val = j) ∧ y.val < 512 then w (ix4 (0 : Fin 1) (0 : Fin 1) (⟨y.val, by omega⟩ : Fin 512) l)
        else gDa s a k y l := by
  have e := put_at (M := M) .da s (Rect.unit (s := S2x3x528x704) ![h, j, 0, 0] S1x1x512x704.size (inb_daBig hh hj (by decide))) (View.stores_vmem_bits_univ h_S1x1x512x704 rfl) w (ix4 a k y l)
  by_cases hy : (a.val = h ∧ k.val = j) ∧ y.val < 512
  · rw [dif_pos hy]
    refine e.trans (overlay4_in _ _ a k y l (0 : Fin 1) (0 : Fin 1) (⟨y.val, by omega⟩ : Fin 512) l ?_ ?_ ?_ ?_) <;> simp <;> omega
  · rw [dif_neg hy]
    refine e.trans (overlay4_out _ _ a k y l ?_)
    omega

theorem run_stDu (h r : ℕ) (hh : h < 2) (hr : r < 32) (w : Vec Ideal S1x1x16x704 .bf16) (a : Fin 2) (y : Fin 512) (l : Fin 704) :
    gDu (run (stDu (M := M) h r hh hr w) s).2 a y l
      = if hy : a.val = h ∧ 16 * r ≤ y.val ∧ y.val < 16 * r + 16 then w (ix4 (0 : Fin 1) (0 : Fin 1) (⟨y.val - 16 * r, by omega⟩ : Fin 16) l)
        else gDu s a y l := by
  have e := put_at (M := M) .du s (Rect.unit (s := S2x1x512x704) ![h, 0, 16 * r, 0] S1x1x16x704.size (inb_u hh hr)) (View.stores_vmem h_S1x1x16x704 (M.w13.storeExact_slice rfl _ (packed_u hh hr)) (fun _ => rfl)) w (ix4 a (0 : Fin 1) y l)
  by_cases hy : a.val = h ∧ 16 * r ≤ y.val ∧ y.val < 16 * r + 16
  · rw [dif_pos hy]
    refine e.trans (overlay4_in _ _ a (0 : Fin 1) y l (0 : Fin 1) (0 : Fin 1) (⟨y.val - 16 * r, by omega⟩ : Fin 16) l ?_ ?_ ?_ ?_) <;> simp <;> omega
  · rw [dif_neg hy]
    refine e.trans (overlay4_out _ _ a (0 : Fin 1) y l ?_)
    omega

theorem run_stDdw (i : grid0.Coords) (h k : ℕ) (hh : h < 2) (hk : k < 3) (w : Vec Ideal S1x1x1x704 .f32) (j : Fin 4) (a : Fin 2) (b : Fin 3) (l : Fin 704) :
    gDdw (run (stDdw (M := M) i h k hh hk w) s).2 j a b l
      = if j.val = (i 1).val ∧ a.val = h ∧ b.val = k then w (ix4 (0 : Fin 1) (0 : Fin 1) (0 : Fin 1) l) else gDdw s j a b l := by
  have e := put_at (M := M) .ddw s (Rect.unit (s := S4x2x3x704) ![shard i, h, k, 0] S1x1x1x704.size (inb_ddw i hh hk)) (View.stores_vmem_bits_univ h_S1x1x1x704 rfl) w (ix4 j a b l)
  by_cases hy : j.val = (i 1).val ∧ a.val = h ∧ b.val = k
  · rw [if_pos hy]
    refine e.trans (overlay4_in _ _ j a b l (0 : Fin 1) (0 : Fin 1) (0 : Fin 1) l ?_ ?_ ?_ ?_) <;> simp [shard_eq] <;> omega
  · rw [if_neg hy]
    refine e.trans (overlay4_out _ _ j a b l ?_)
    rw [shard_eq]; omega

theorem run_stDdb (i : grid0.Coords) (h : ℕ) (hh : h < 2) (w : Vec Ideal S1x1x1x704 .f32) (j : Fin 4) (a : Fin 2) (l : Fin 704) :
    gDdb (run (stDdb (M := M) i h hh w) s).2 j a l
      = if j.val = (i 1).val ∧ a.val = h then w (ix4 (0 : Fin 1) (0 : Fin 1) (0 : Fin 1) l) else gDdb s j a l := by
  have e := put_at (M := M) .ddb s (Rect.unit (s := S4x2x1x704) ![shard i, h, 0, 0] S1x1x1x704.size (inb_ddb i hh)) (View.stores_vmem_bits_univ h_S1x1x1x704 rfl) w (ix4 j a (0 : Fin 1) l)
  by_cases hy : j.val = (i 1).val ∧ a.val = h
  · rw [if_pos hy]
    refine e.trans (overlay4_in _ _ j a (0 : Fin 1) l (0 : Fin 1) (0 : Fin 1) (0 : Fin 1) l ?_ ?_ ?_ ?_) <;> simp [shard_eq] <;> omega
  · rw [if_neg hy]
    refine e.trans (overlay4_out _ _ j a (0 : Fin 1) l ?_)
    rw [shard_eq]; omega

end Loads

/-! ## Block values at coordinates -/

theorem daVal_at (dz : Vec Ideal S16x704 .f32) (g : Vec Ideal S1x1x16x704 .bf16) (p : Fin 16) (l : Fin 704) :
    daVal dz g (ix4 (0 : Fin 1) (0 : Fin 1) p l) = (dz (ix2 p l) * g (ix4 (0 : Fin 1) (0 : Fin 1) p l) : EReal) := by
  pointwise [daVal]

theorem flat_at (v : Vec Ideal S1x1x16x704 .f32) (p : Fin 16) (l : Fin 704) :
    flat v (ix2 p l) = v (ix4 (0 : Fin 1) (0 : Fin 1) p l) := by
  pointwise [flat]

theorem wide_at (v : Vec Ideal S1x1x16x704 .bf16) (p : Fin 16) (l : Fin 704) :
    wide v (ix2 p l) = v (ix4 (0 : Fin 1) (0 : Fin 1) p l) := by
  pointwise [wide]

theorem duVal_at (c0 c1 c2 : Vec Ideal S1x1x1x1x704 .f32) (d2 d1 d0 : Vec Ideal S1x1x16x704 .f32) (p : Fin 16) (l : Fin 704) :
    duVal c0 c1 c2 d2 d1 d0 (ix4 (0 : Fin 1) (0 : Fin 1) p l)
      = (c0 (ix5 (0 : Fin 1) (0 : Fin 1) (0 : Fin 1) (0 : Fin 1) l) * d2 (ix4 (0 : Fin 1) (0 : Fin 1) p l)
        + c1 (ix5 (0 : Fin 1) (0 : Fin 1) (0 : Fin 1) (0 : Fin 1) l) * d1 (ix4 (0 : Fin 1) (0 : Fin 1) p l)
        + c2 (ix5 (0 : Fin 1) (0 : Fin 1) (0 : Fin 1) (0 : Fin 1) l) * d0 (ix4 (0 : Fin 1) (0 : Fin 1) p l) : EReal) := by
  pointwise [duVal, cwRows, flat]

theorem rowVal_at (old : Vec Ideal S1x1x1x704 .f32) (t : FVec Ideal S16x704 .f32) (l : Fin 704) :
    rowVal old t (ix4 (0 : Fin 1) (0 : Fin 1) (0 : Fin 1) l)
      = (old (ix4 (0 : Fin 1) (0 : Fin 1) (0 : Fin 1) l) + ∑ p : Fin 16, t (ix2 p l) : EReal) := by
  pointwise [rowVal]

theorem slot_at (v : Vec Ideal S1x1x512x704 .f32) (p : Fin 512) (l : Fin 704) :
    slotBack (slotFlat v) (ix4 (0 : Fin 1) (0 : Fin 1) p l) = v (ix4 (0 : Fin 1) (0 : Fin 1) p l) := by
  pointwise [slotBack, slotFlat]

theorem sel_pos {α : Type} (c : BitVec 1) (x y : α) (h : c = 1#1) : Scalar.select c x y = x := if_pos h
theorem sel_neg {α : Type} (c : BitVec 1) (x y : α) (h : ¬ c = 1#1) : Scalar.select c x y = y := if_neg h

theorem haloVal_at (last : BitVec 1) (dyn : FVec Ideal S16x1024 .bf16) (wo : Vec Ideal S1x1x704x1024 .bf16) (p : Fin 16) (l : Fin 704) :
    haloVal last dyn wo (ix2 p l)
      = if last = 1#1 then 0 else (∑ d : Fin 1024, dyn (ix2 p d) * wo (ix4 (0 : Fin 1) (0 : Fin 1) l d) : EReal) := by
  unfold haloVal
  by_cases h : last = 1#1
  · rw [if_pos h, sel_pos _ _ _ h]; pointwise
  · rw [if_neg h, sel_neg _ _ _ h]; pointwise

theorem partVal_at (du : Vec Ideal S1x1x512x704 .bf16) (wt : Vec Ideal S1x1x704x1024 .bf16) (r : Fin 512) (d : Fin 1024) :
    partVal du wt (ix2 r d)
      = (∑ l : Fin 704, du (ix4 (0 : Fin 1) (0 : Fin 1) r l) * wt (ix4 (0 : Fin 1) (0 : Fin 1) l d) : EReal) := by
  pointwise [partVal]

theorem pay11_at (a : Vec Ideal S1x512x1024 .bf16) (w : Vec Ideal S1x1x704x1024 .bf16) (r : Fin 512) (l : Fin 704) :
    k0_pay11 a w (ix2 r l) = (∑ d : Fin 1024, a (ix3 (0 : Fin 1) r d) * w (ix4 (0 : Fin 1) (0 : Fin 1) l d) : EReal) := by
  pointwise [k0_pay11]

theorem pay10_at (n : Vec Ideal S1x16x1024 .bf16) (r : Fin 16) (d : Fin 1024) :
    k0_pay10 n (ix2 r d) = n (ix3 (0 : Fin 1) r d) := by
  pointwise [k0_pay10]

end Cert.FfnBwd
-- ==== Proof.Loops.lean ====
/-
  What the body's loops leave: the gradient of the gate's factors in its first slot, the two shifted copies, and one half's
  conv gradients as sums over all the tile's rows.
-/
module

public import proofs.«01_k».proof.Proof.Sem

@[expose] public section

set_option maxRecDepth 16384

noncomputable section

namespace Cert.FfnBwd

open Idealize.ShloMosaic Idealize.ShloMosaic.TcCoe Idealize.SL.Sem
open Cert.KernelIdeal Cert.KernelIdeal.Gen

variable {M : Mems}

/-- Row `y` of the tile, `k` rows further, among the tile's and the halo's rows. -/
abbrev row (y : Fin 512) (k : ℕ) (hk : k < 17 := by decide) : Fin 528 := ⟨y.val + k, by omega⟩

/-! ## A loop's invariant -/

theorem loop_ind {σ : Type} {N : ℕ} {f : (r : ℕ) → r < N → σ → Prog (Cmd Ideal M) σ} (I : ℕ → σ → St Ideal → Prop)
    (step : ∀ r h a s, I r a s → I (r + 1) (run (f r h a) s).1 (run (f r h a) s).2) :
    ∀ (k r : ℕ) (h : r + k = N) (a : σ) (s : St Ideal), I r a s → I N (run (loop f k r h a) s).1 (run (loop f k r h a) s).2
  | 0, r, h, a, s, hI => by
    have : r = N := by omega
    subst this; exact hI
  | k + 1, r, h, a, s, hI => by
    have e : run (loop f (k + 1) r h a) s = run (loop f k (r + 1) (by omega) (run (f r (by omega) a) s).1) (run (f r (by omega) a) s).2 :=
      run_bind _ _ _
    rw [e]
    exact loop_ind I step k (r + 1) _ _ _ (step r _ a s hI)

/-! ## The gate's factors -/

section A
variable (s : St Ideal)

theorem run_chunkA (r : ℕ) (hr : r < 32) (u : PUnit) :
    (run (chunkA (M := M) r hr u) s).2
      = (run (stDa (M := M) 1 r (by decide) (by omega) (daVal (run (ldDz (M := M) r (by omega)) s).1 (run (ldAg (M := M) 1 r (by decide) hr) s).1))
          (run (stDa (M := M) 0 r (by decide) (by omega) (daVal (run (ldDz (M := M) r (by omega)) s).1 (run (ldAg (M := M) 0 r (by decide) hr) s).1)) s).2).2 := by
  unfold chunkA; simp only [run_bind]; rfl

theorem chunkA_in (r : ℕ) (hr : r < 32) (u : PUnit) (a : Fin 2) (y : Fin 512) (l : Fin 704) (h : 16 * r ≤ y.val ∧ y.val < 16 * r + 16) :
    gDa (run (chunkA (M := M) r hr u) s).2 a 0 (row y 0) l = gDz s (row y 0) l * gAg s a y l := by
  have e : 16 * r + (y.val - 16 * r) = y.val := by omega
  rw [run_chunkA, run_stDa]
  match a with
  | ⟨0, _⟩ =>
    rw [dif_neg (by simp), run_stDa, dif_pos ⟨⟨rfl, rfl⟩, h⟩, daVal_at, run_ldDz, run_ldAg]
    congr 2 <;> exact Fin.ext e
  | ⟨1, _⟩ =>
    rw [dif_pos ⟨⟨rfl, rfl⟩, h⟩, daVal_at, run_ldDz, run_ldAg]
    congr 2 <;> exact Fin.ext e

theorem chunkA_out (r : ℕ) (hr : r < 32) (u : PUnit) (a : Fin 2) (k : Fin 3) (y : Fin 528) (l : Fin 704) (h : ¬ (16 * r ≤ y.val ∧ y.val < 16 * r + 16)) :
    gDa (run (chunkA (M := M) r hr u) s).2 a k y l = gDa s a k y l := by
  rw [run_chunkA, run_stDa, dif_neg (fun e => h e.2), run_stDa, dif_neg (fun e => h e.2)]

theorem loopA (a : Fin 2) (y : Fin 512) (l : Fin 704) :
    gDa (run (loop (chunkA (M := M)) 32 0 rfl ⟨⟩) s).2 a 0 (row y 0) l = gDz s (row y 0) l * gAg s a y l := by
  have H := loop_ind (M := M) (f := chunkA)
    (fun r _ s' => (s' .dz = s .dz ∧ s' .ag = s .ag) ∧ ∀ (a : Fin 2) (y : Fin 512) (l : Fin 704), y.val < 16 * r → gDa s' a 0 (row y 0) l = gDz s (row y 0) l * gAg s a y l)
    (fun r h u s' hI => by
      obtain ⟨⟨hz, hg⟩, hI⟩ := hI
      refine ⟨⟨(keep_chunkA (by decide) _ _ _ _).trans hz, (keep_chunkA (by decide) _ _ _ _).trans hg⟩, fun a y l hy => ?_⟩
      by_cases hc : 16 * r ≤ y.val
      · rw [chunkA_in s' r h u a y l ⟨hc, by omega⟩]
        unfold gDz gAg; rw [hz, hg]
      · rw [chunkA_out s' r h u a 0 (row y 0) l (by simp; omega)]
        exact hI a y l (by omega))
    32 0 rfl ⟨⟩ s ⟨⟨rfl, rfl⟩, fun _ _ _ h => absurd h (by omega)⟩
  exact H.2 a y l (by omega)

theorem run_chunkHalo :
    (run (chunkHalo (F := Ideal) (M := M)) s).2
      = (run (stDa (M := M) 1 32 (by decide) (by omega) (daVal (run (ldDz (M := M) 32 (by omega)) s).1 (run (ldAgn (M := M) 1 (by decide)) s).1))
          (run (stDa (M := M) 0 32 (by decide) (by omega) (daVal (run (ldDz (M := M) 32 (by omega)) s).1 (run (ldAgn (M := M) 0 (by decide)) s).1)) s).2).2 := by
  unfold chunkHalo; simp only [run_bind]; rfl

theorem halo_in (a : Fin 2) (p : Fin 16) (l : Fin 704) :
    gDa (run (chunkHalo (M := M)) s).2 a 0 ⟨512 + p.val, by omega⟩ l = gDz s ⟨512 + p.val, by omega⟩ l * gAgn s a p l := by
  have h : 16 * 32 ≤ 512 + p.val ∧ 512 + p.val < 16 * 32 + 16 := by omega
  have e : (⟨512 + p.val - 16 * 32, by omega⟩ : Fin 16) = p := Fin.ext (by simp)
  rw [run_chunkHalo, run_stDa]
  match a with
  | ⟨0, _⟩ =>
    rw [dif_neg (by simp), run_stDa, dif_pos ⟨⟨rfl, rfl⟩, h⟩, daVal_at, run_ldDz, run_ldAgn]
    congr 2
    exact Fin.ext (by simp)
  | ⟨1, _⟩ =>
    rw [dif_pos ⟨⟨rfl, rfl⟩, h⟩, daVal_at, run_ldDz, run_ldAgn]
    congr 2
    exact Fin.ext (by simp)

theorem halo_out (a : Fin 2) (k : Fin 3) (y : Fin 528) (l : Fin 704) (h : y.val < 512) :
    gDa (run (chunkHalo (M := M)) s).2 a k y l = gDa s a k y l := by
  rw [run_chunkHalo, run_stDa, dif_neg (fun e => by omega), run_stDa, dif_neg (fun e => by omega)]

/-! ## The shifted copies -/

theorem shift1_at (h : ℕ) (hh : h < 2) (a : Fin 2) (k : Fin 3) (y : Fin 512) (l : Fin 704) :
    gDa (run (shift1 (M := M) h hh) s).2 a k (row y 0) l = if a.val = h ∧ k.val = 1 then gDa s a 0 (row y 1) l else gDa s a k (row y 0) l := by
  have e : (run (shift1 (F := Ideal) (M := M) h hh) s).2
      = (run (stDaBig (M := M) h 1 hh (by decide) (slotBack (slotFlat (run (ldDaBig (M := M) h 0 1 hh (by decide) (by decide)) s).1))) s).2 := by
    unfold shift1; simp only [run_bind]; rfl
  rw [e, run_stDaBig]
  by_cases hy : a.val = h ∧ k.val = 1
  · rw [if_pos hy, dif_pos ⟨hy, y.isLt⟩, slot_at, run_ldDaBig]
    have : a = ⟨h, hh⟩ := Fin.ext hy.1
    subst this
    congr 1
    exact Fin.ext (by simp; omega)
  · rw [if_neg hy, dif_neg (fun e => hy e.1)]

theorem shift1_slot0 (h : ℕ) (hh : h < 2) (a : Fin 2) (y : Fin 528) (l : Fin 704) :
    gDa (run (shift1 (M := M) h hh) s).2 a 0 y l = gDa s a 0 y l := by
  have e : (run (shift1 (F := Ideal) (M := M) h hh) s).2
      = (run (stDaBig (M := M) h 1 hh (by decide) (slotBack (slotFlat (run (ldDaBig (M := M) h 0 1 hh (by decide) (by decide)) s).1))) s).2 := by
    unfold shift1; simp only [run_bind]; rfl
  rw [e, run_stDaBig, dif_neg (by simp)]

theorem shift2a_snd (h : ℕ) (hh : h < 2) : (run (shift2a (F := Ideal) (M := M) h hh) s).2 = s := rfl

theorem shift2b_at (h : ℕ) (hh : h < 2) (v : FVec Ideal S512x704 .f32) (a : Fin 2) (k : Fin 3) (y : Fin 512) (l : Fin 704)
    (hv : ∀ y l, slotBack v (ix4 (0 : Fin 1) (0 : Fin 1) y l) = gDa s ⟨h, hh⟩ 0 (row y 2) l) :
    gDa (run (shift2b (M := M) h hh v) s).2 a k (row y 0) l = if a.val = h ∧ k.val = 2 then gDa s a 0 (row y 2) l else gDa s a k (row y 0) l := by
  have e : (run (shift2b (F := Ideal) (M := M) h hh v) s).2 = (run (stDaBig (M := M) h 2 hh (by decide) (slotBack v)) s).2 := by
    unfold shift2b; simp only [run_bind]; rfl
  rw [e, run_stDaBig]
  by_cases hy : a.val = h ∧ k.val = 2
  · rw [if_pos hy, dif_pos ⟨hy, y.isLt⟩, hv]
    have : a = ⟨h, hh⟩ := Fin.ext hy.1
    subst this
    rfl
  · rw [if_neg hy, dif_neg (fun e => hy e.1)]

theorem shift2b_slot0 (h : ℕ) (hh : h < 2) (v : FVec Ideal S512x704 .f32) (a : Fin 2) (y : Fin 528) (l : Fin 704) :
    gDa (run (shift2b (M := M) h hh v) s).2 a 0 y l = gDa s a 0 y l := by
  have e : (run (shift2b (F := Ideal) (M := M) h hh v) s).2 = (run (stDaBig (M := M) h 2 hh (by decide) (slotBack v)) s).2 := by
    unfold shift2b; simp only [run_bind]; rfl
  rw [e, run_stDaBig, dif_neg (by simp)]

theorem shift2a_fst (h : ℕ) (hh : h < 2) (y : Fin 512) (l : Fin 704) :
    slotBack (run (shift2a (M := M) h hh) s).1 (ix4 (0 : Fin 1) (0 : Fin 1) y l) = gDa s ⟨h, hh⟩ 0 (row y 2) l := by
  have e : (run (shift2a (F := Ideal) (M := M) h hh) s).1 = slotFlat (run (ldDaBig (M := M) h 0 2 hh (by decide) (by decide)) s).1 := rfl
  rw [e, slot_at, run_ldDaBig]
  congr 1
  exact Fin.ext (by simp; omega)

end A

/-! ## One half's conv gradients -/

section B
variable (s : St Ideal)

/-- The gradient of `u` at a row, from the three slots. -/
def duAt (h : Fin 2) (y : Fin 512) (l : Fin 704) : EReal :=
  gCw s h 0 l * gDa s h 2 (row y 0) l + gCw s h 1 l * gDa s h 1 (row y 0) l + gCw s h 2 l * gDa s h 0 (row y 0) l

/-- A tap's term at a row, and the bias's. -/
def tapAt (h : Fin 2) (k : Fin 3) (n : ℕ) (l : Fin 704) : EReal :=
  if hn : n < 512 then gDa s h k ⟨n, by omega⟩ l * gU s h ⟨n, hn⟩ l else 0
def biasAt (h : Fin 2) (n : ℕ) (l : Fin 704) : EReal :=
  if hn : n < 512 then gDa s h 0 ⟨n, by omega⟩ l else 0

theorem run_chunkB_snd (h : ℕ) (hh : h < 2) (r : ℕ) (hr : r < 32) (a : Sums Ideal) :
    (run (chunkB (M := M) h hh r hr a) s).2
      = (run (stDu (M := M) h r hh hr (duVal (run (ldCw (M := M) h 0 hh (by decide)) s).1 (run (ldCw (M := M) h 1 hh (by decide)) s).1 (run (ldCw (M := M) h 2 hh (by decide)) s).1
          (run (ldDa (M := M) h 2 r hh (by decide) (by omega)) s).1 (run (ldDa (M := M) h 1 r hh (by decide) (by omega)) s).1 (run (ldDa (M := M) h 0 r hh (by decide) (by omega)) s).1)) s).2 := by
  unfold chunkB; simp only [run_bind]; rfl

theorem run_chunkB_fst (h : ℕ) (hh : h < 2) (r : ℕ) (hr : r < 32) (a : Sums Ideal) :
    (run (chunkB (M := M) h hh r hr a) s).1
      = a.step (run (ldU (M := M) h r hh hr) s).1 (run (ldDa (M := M) h 2 r hh (by decide) (by omega)) s).1
          (run (ldDa (M := M) h 1 r hh (by decide) (by omega)) s).1 (run (ldDa (M := M) h 0 r hh (by decide) (by omega)) s).1 := by
  unfold chunkB; simp only [run_bind]; rfl

theorem chunkB_du (h : ℕ) (hh : h < 2) (r : ℕ) (hr : r < 32) (a : Sums Ideal) (b : Fin 2) (y : Fin 512) (l : Fin 704) :
    gDu (run (chunkB (M := M) h hh r hr a) s).2 b y l
      = if b.val = h ∧ 16 * r ≤ y.val ∧ y.val < 16 * r + 16 then duAt s ⟨h, hh⟩ y l else gDu s b y l := by
  rw [run_chunkB_snd, run_stDu]
  by_cases hy : b.val = h ∧ 16 * r ≤ y.val ∧ y.val < 16 * r + 16
  · have e : (⟨16 * r + (y.val - 16 * r), by omega⟩ : Fin 528) = row y 0 := Fin.ext (by simp; omega)
    rw [dif_pos hy, if_pos hy, duVal_at, run_ldCw, run_ldCw, run_ldCw, run_ldDa, run_ldDa, run_ldDa]
    unfold duAt
    simp only [e]; rfl
  · rw [dif_neg hy, if_neg hy]

theorem tap_term (h : ℕ) (hh : h < 2) (k r : ℕ) (hk : k < 3) (hr : r < 32) (p : Fin 16) (l : Fin 704) :
    mulf (flat (run (ldDa (M := M) h k r hh hk (by omega)) s).1) (wide (run (ldU (M := M) h r hh hr) s).1) (ix2 p l)
      = tapAt s ⟨h, hh⟩ ⟨k, hk⟩ (16 * r + p.val) l := by
  rw [mulf_apply, flat_at, wide_at, run_ldDa, run_ldU]
  unfold tapAt; rw [dif_pos (by omega)]; rfl

theorem bias_term (h : ℕ) (hh : h < 2) (r : ℕ) (hr : r < 32) (p : Fin 16) (l : Fin 704) :
    flat (run (ldDa (M := M) h 0 r hh (by decide) (by omega)) s).1 (ix2 p l) = biasAt s ⟨h, hh⟩ (16 * r + p.val) l := by
  rw [flat_at, run_ldDa]
  unfold biasAt; rw [dif_pos (by omega)]; rfl

/-- What the loop over a half's chunks returns and leaves. -/
def loopRun (M : Mems) (s : St Ideal) (h : ℕ) (hh : h < 2) : Sums Ideal × St Ideal :=
  run (loop (chunkB (M := M) h hh) 32 0 rfl ⟨zero16, zero16, zero16, zero16⟩) s

/-- What holds before chunk `r` of a half. -/
def InvB (h : ℕ) (hh : h < 2) (r : ℕ) (a : Sums Ideal) (s' : St Ideal) : Prop :=
  (s' .da = s .da ∧ s' .u = s .u ∧ s' .cw = s .cw)
    ∧ (∀ (b : Fin 2) (y : Fin 512) (l : Fin 704), gDu s' b y l = if b.val = h ∧ y.val < 16 * r then duAt s ⟨h, hh⟩ y l else gDu s b y l)
    ∧ ∀ (p : Fin 16) (l : Fin 704),
      a.t0 (ix2 p l) = ∑ q ∈ Finset.range r, tapAt s ⟨h, hh⟩ 2 (16 * q + p.val) l
      ∧ a.t1 (ix2 p l) = ∑ q ∈ Finset.range r, tapAt s ⟨h, hh⟩ 1 (16 * q + p.val) l
      ∧ a.t2 (ix2 p l) = ∑ q ∈ Finset.range r, tapAt s ⟨h, hh⟩ 0 (16 * q + p.val) l
      ∧ a.b (ix2 p l) = ∑ q ∈ Finset.range r, biasAt s ⟨h, hh⟩ (16 * q + p.val) l

theorem invB_step (h : ℕ) (hh : h < 2) (r : ℕ) (hr : r < 32) (a : Sums Ideal) (s' : St Ideal) (hI : InvB s h hh r a s') :
    InvB s h hh (r + 1) (run (chunkB (M := M) h hh r hr a) s').1 (run (chunkB (M := M) h hh r hr a) s').2 := by
  obtain ⟨⟨hd, hu, hc⟩, hI, hS⟩ := hI
  have edu : ∀ y l, duAt s' ⟨h, hh⟩ y l = duAt s ⟨h, hh⟩ y l := fun y l => by unfold duAt gCw gDa; rw [hd, hc]
  have etap : ∀ k n l, tapAt s' ⟨h, hh⟩ k n l = tapAt s ⟨h, hh⟩ k n l := fun k n l => by unfold tapAt gDa gU; rw [hd, hu]
  have eb : ∀ n l, biasAt s' ⟨h, hh⟩ n l = biasAt s ⟨h, hh⟩ n l := fun n l => by unfold biasAt gDa; rw [hd]
  refine ⟨⟨(keep_chunkB (by decide) _ _ _ _ _ _).trans hd, (keep_chunkB (by decide) _ _ _ _ _ _).trans hu, (keep_chunkB (by decide) _ _ _ _ _ _).trans hc⟩, fun b y l => ?_, fun p l => ?_⟩
  · rw [chunkB_du, edu, hI]
    by_cases h1 : b.val = h ∧ 16 * r ≤ y.val ∧ y.val < 16 * r + 16
    · rw [if_pos h1, if_pos ⟨h1.1, by omega⟩]
    · rw [if_neg h1]
      by_cases h2 : b.val = h ∧ y.val < 16 * r
      · rw [if_pos h2, if_pos ⟨h2.1, by omega⟩]
      · rw [if_neg h2, if_neg (by omega)]
  · obtain ⟨h0, h1, h2, h3⟩ := hS p l
    rw [run_chunkB_fst]
    refine ⟨?_, ?_, ?_, ?_⟩
    · show addf a.t0 _ (ix2 p l) = _
      rw [addf_apply, tap_term, etap, h0, Finset.sum_range_succ]; rfl
    · show addf a.t1 _ (ix2 p l) = _
      rw [addf_apply, tap_term, etap, h1, Finset.sum_range_succ]; rfl
    · show addf a.t2 _ (ix2 p l) = _
      rw [addf_apply, tap_term, etap, h2, Finset.sum_range_succ]; rfl
    · show addf a.b _ (ix2 p l) = _
      rw [addf_apply, bias_term s' h hh r hr, eb, h3, Finset.sum_range_succ]; rfl

theorem zero16_at (p : Fin 16) (l : Fin 704) : (zero16 : FVec Ideal S16x704 .f32) (ix2 p l) = (0 : EReal) := by pointwise [zero16]

theorem invB_zero (h : ℕ) (hh : h < 2) : InvB s h hh 0 ⟨zero16, zero16, zero16, zero16⟩ s := by
  refine ⟨⟨rfl, rfl, rfl⟩, fun b y l => ?_, fun p l => ?_⟩
  · rw [if_neg (by omega)]
  · simp only [Finset.sum_range_zero]
    exact ⟨zero16_at p l, zero16_at p l, zero16_at p l, zero16_at p l⟩

theorem loopB (h : ℕ) (hh : h < 2) : InvB s h hh 32 (loopRun M s h hh).1 (loopRun M s h hh).2 := by
  unfold loopRun
  exact loop_ind (InvB s h hh) (invB_step s h hh) 32 0 rfl _ s (invB_zero s h hh)

theorem sum_chunks (f : ℕ → EReal) : ∑ p : Fin 16, ∑ q ∈ Finset.range 32, f (16 * q + p.val) = ∑ y : Fin 512, f y.val := by
  rw [Finset.sum_comm, Finset.sum_range, Fin.sum_univ_tiles 32 16 rfl]
  refine Finset.sum_congr rfl fun j _ => Finset.sum_congr rfl fun t _ => ?_
  rw [Nat.mul_comm]

theorem addW_at (i : grid0.Coords) (h k : ℕ) (hh : h < 2) (hk : k < 3) (t : FVec Ideal S16x704 .f32) (j : Fin 4) (a : Fin 2) (b : Fin 3) (l : Fin 704) :
    gDdw (run (addW (M := M) i h k hh hk t) s).2 j a b l
      = if j.val = (i 1).val ∧ a.val = h ∧ b.val = k then gDdw s j a b l + ∑ p : Fin 16, t (ix2 p l) else gDdw s j a b l := by
  have e : (run (addW (M := M) i h k hh hk t) s).2 = (run (stDdw (M := M) i h k hh hk (rowVal (run (ldDdw (M := M) i h k hh hk) s).1 t)) s).2 := by
    unfold addW; simp only [run_bind]; rfl
  rw [e, run_stDdw]
  by_cases hy : j.val = (i 1).val ∧ a.val = h ∧ b.val = k
  · rw [if_pos hy, if_pos hy, rowVal_at, run_ldDdw]
    have e0 : j = i 1 := Fin.ext hy.1
    have e1 : a = ⟨h, hh⟩ := Fin.ext hy.2.1
    have e2 : b = ⟨k, hk⟩ := Fin.ext hy.2.2
    rw [e0, e1, e2]
  · rw [if_neg hy, if_neg hy]

theorem addB_at (i : grid0.Coords) (h : ℕ) (hh : h < 2) (t : FVec Ideal S16x704 .f32) (j : Fin 4) (a : Fin 2) (l : Fin 704) :
    gDdb (run (addB (M := M) i h hh t) s).2 j a l
      = if j.val = (i 1).val ∧ a.val = h then gDdb s j a l + ∑ p : Fin 16, t (ix2 p l) else gDdb s j a l := by
  have e : (run (addB (M := M) i h hh t) s).2 = (run (stDdb (M := M) i h hh (rowVal (run (ldDdb (M := M) i h hh) s).1 t)) s).2 := by
    unfold addB; simp only [run_bind]; rfl
  rw [e, run_stDdb]
  by_cases hy : j.val = (i 1).val ∧ a.val = h
  · rw [if_pos hy, if_pos hy, rowVal_at, run_ldDdb]
    have e0 : j = i 1 := Fin.ext hy.1
    have e1 : a = ⟨h, hh⟩ := Fin.ext hy.2
    rw [e0, e1]
  · rw [if_neg hy, if_neg hy]

/-- A tap's sum over the tile's rows, and the bias's. -/
def tapSum (h : Fin 2) (k : Fin 3) (l : Fin 704) : EReal := ∑ y : Fin 512, gDa s h k (row y 0) l * gU s h y l
def biasSum (h : Fin 2) (l : Fin 704) : EReal := ∑ y : Fin 512, gDa s h 0 (row y 0) l

theorem sum_tap (h : Fin 2) (k : Fin 3) (l : Fin 704) : ∑ y : Fin 512, tapAt s h k y.val l = tapSum s h k l :=
  Finset.sum_congr rfl fun y _ => dif_pos y.isLt
theorem sum_bias (h : Fin 2) (l : Fin 704) : ∑ y : Fin 512, biasAt s h y.val l = biasSum s h l :=
  Finset.sum_congr rfl fun y _ => dif_pos y.isLt

theorem run_convHalf (i : grid0.Coords) (h : ℕ) (hh : h < 2) :
    (run (convHalf (M := M) i h hh) s).2
      = (run (addB (M := M) i h hh (loopRun M s h hh).1.b) (run (addW (M := M) i h 2 hh (by decide) (loopRun M s h hh).1.t2)
          (run (addW (M := M) i h 1 hh (by decide) (loopRun M s h hh).1.t1) (run (addW (M := M) i h 0 hh (by decide) (loopRun M s h hh).1.t0)
            (loopRun M s h hh).2).2).2).2).2 := by
  unfold convHalf loopRun; simp only [run_bind]

theorem loopRun_keep (b : Cell) (hb : b ≠ .du) (h : ℕ) (hh : h < 2) : (loopRun M s h hh).2 b = s b := by
  unfold loopRun
  exact keep_loop (fun _ _ _ => keep_chunkB hb _ _ _ _ _) 32 0 rfl _ s

theorem convHalf_du (i : grid0.Coords) (h : ℕ) (hh : h < 2) (b : Fin 2) (y : Fin 512) (l : Fin 704) :
    gDu (run (convHalf (M := M) i h hh) s).2 b y l = if b.val = h then duAt s ⟨h, hh⟩ y l else gDu s b y l := by
  have hl : gDu (loopRun M s h hh).2 b y l = if b.val = h then duAt s ⟨h, hh⟩ y l else gDu s b y l := by
    rw [(loopB (M := M) s h hh).2.1 b y l]
    by_cases h1 : b.val = h
    · rw [if_pos ⟨h1, by omega⟩, if_pos h1]
    · rw [if_neg (fun e => h1 e.1), if_neg h1]
  rw [run_convHalf]
  generalize loopRun M s h hh = r at hl ⊢
  rw [← hl]
  unfold gDu
  rw [keep_addB (by decide), keep_addW (by decide), keep_addW (by decide), keep_addW (by decide)]

theorem convHalf_ddw (i : grid0.Coords) (h : ℕ) (hh : h < 2) (j : Fin 4) (a : Fin 2) (b : Fin 3) (l : Fin 704) :
    gDdw (run (convHalf (M := M) i h hh) s).2 j a b l
      = if j.val = (i 1).val ∧ a.val = h then gDdw s j a b l + tapSum s ⟨h, hh⟩ b.rev l else gDdw s j a b l := by
  have hl := (loopB (M := M) s h hh).2.2
  have ek : gDdw (loopRun M s h hh).2 j a b l = gDdw s j a b l := by
    unfold gDdw; rw [loopRun_keep (M := M) s .ddw (by decide)]
  rw [run_convHalf]
  generalize loopRun M s h hh = r at hl ek ⊢
  have eb : ∀ (t : FVec Ideal S16x704 .f32) (s' : St Ideal), gDdw (run (addB (M := M) i h hh t) s').2 j a b l = gDdw s' j a b l :=
    fun t s' => by unfold gDdw; rw [keep_addB (by decide)]
  rw [eb, addW_at, addW_at, addW_at, ek]
  by_cases hy : j.val = (i 1).val ∧ a.val = h
  · rw [if_pos hy]
    match b with
    | ⟨0, _⟩ =>
      rw [if_neg (by simp), if_neg (by simp), if_pos ⟨hy.1, hy.2, rfl⟩, Finset.sum_congr rfl fun p _ => (hl p l).1, sum_chunks fun n => tapAt s ⟨h, hh⟩ 2 n l, sum_tap]; rfl
    | ⟨1, _⟩ =>
      rw [if_neg (by simp), if_pos ⟨hy.1, hy.2, rfl⟩, if_neg (by simp), Finset.sum_congr rfl fun p _ => (hl p l).2.1, sum_chunks fun n => tapAt s ⟨h, hh⟩ 1 n l, sum_tap]; rfl
    | ⟨2, _⟩ =>
      rw [if_pos ⟨hy.1, hy.2, rfl⟩, if_neg (by simp), if_neg (by simp), Finset.sum_congr rfl fun p _ => (hl p l).2.2.1, sum_chunks fun n => tapAt s ⟨h, hh⟩ 0 n l, sum_tap]; rfl
  · rw [if_neg hy, if_neg (fun e => hy ⟨e.1, e.2.1⟩), if_neg (fun e => hy ⟨e.1, e.2.1⟩), if_neg (fun e => hy ⟨e.1, e.2.1⟩)]

theorem convHalf_ddb (i : grid0.Coords) (h : ℕ) (hh : h < 2) (j : Fin 4) (a : Fin 2) (l : Fin 704) :
    gDdb (run (convHalf (M := M) i h hh) s).2 j a l
      = if j.val = (i 1).val ∧ a.val = h then gDdb s j a l + biasSum s ⟨h, hh⟩ l else gDdb s j a l := by
  have hl := (loopB (M := M) s h hh).2.2
  have ek : gDdb (loopRun M s h hh).2 j a l = gDdb s j a l := by
    unfold gDdb; rw [loopRun_keep (M := M) s .ddb (by decide)]
  rw [run_convHalf]
  generalize loopRun M s h hh = r at hl ek ⊢
  have ew : ∀ (k : ℕ) (hk : k < 3) (t : FVec Ideal S16x704 .f32) (s' : St Ideal), gDdb (run (addW (M := M) i h k hh hk t) s').2 j a l = gDdb s' j a l :=
    fun k hk t s' => by unfold gDdb; rw [keep_addW (by decide)]
  rw [addB_at, ew, ew, ew, ek]
  by_cases hy : j.val = (i 1).val ∧ a.val = h
  · rw [if_pos hy, if_pos hy, Finset.sum_congr rfl fun p _ => (hl p l).2.2.2, sum_chunks fun n => biasAt s ⟨h, hh⟩ n l, sum_bias]
  · rw [if_neg hy, if_neg hy]

end B

end Cert.FfnBwd
-- ==== Proof.Mid.lean ====
/-
  What the body's middle leaves: the gradient of `u`, its part of the conv's gradients, from the product with the output weights to
  the second half's sums, in closed form.
-/
module

public import proofs.«01_k».proof.Proof.Loops

@[expose] public section

set_option maxRecDepth 16384

noncomputable section

namespace Cert.FfnBwd

open Idealize.ShloMosaic Idealize.ShloMosaic.TcCoe Idealize.SL.Sem
open Cert.KernelIdeal Cert.KernelIdeal.Gen

variable {M : Mems}

/-! ## Stores of two axes -/

theorem overlay2_in {α : Type} {n0 n1 o0 o1 z0 z1 : ℕ}
    {inb : ∀ a, (![o0, o1] : Fin 2 → ℕ) a + (![z0, z1] : Fin 2 → ℕ) a ≤ (⟨2, ![n0, n1]⟩ : Shape).size a}
    (X : (⟨2, ![n0, n1]⟩ : Shape).Idx → α) (w : (⟨2, ![z0, z1]⟩ : Shape).Idx → α)
    (a : Fin n0) (b : Fin n1) (a' : Fin z0) (b' : Fin z1) (ha : a.val = o0 + a'.val) (hb : b.val = o1 + b'.val) :
    (Rect.unit (s := ⟨2, ![n0, n1]⟩) ![o0, o1] ![z0, z1] inb).overlay X w (ix2 a b) = w (ix2 a' b') := by
  refine overlay_in (sh := ⟨2, ![n0, n1]⟩) X w (ix2 a b) (ix2 a' b') ?_
  show ∀ x : Fin 2, _
  intro x; fin_cases x
  exacts [ha, hb]

theorem overlay2_out {α : Type} {n0 n1 o0 o1 z0 z1 : ℕ}
    {inb : ∀ a, (![o0, o1] : Fin 2 → ℕ) a + (![z0, z1] : Fin 2 → ℕ) a ≤ (⟨2, ![n0, n1]⟩ : Shape).size a}
    (X : (⟨2, ![n0, n1]⟩ : Shape).Idx → α) (w : (⟨2, ![z0, z1]⟩ : Shape).Idx → α) (a : Fin n0) (b : Fin n1)
    (h : ¬ ((o0 ≤ a.val ∧ a.val < o0 + z0) ∧ (o1 ≤ b.val ∧ b.val < o1 + z1))) :
    (Rect.unit (s := ⟨2, ![n0, n1]⟩) ![o0, o1] ![z0, z1] inb).overlay X w (ix2 a b) = X (ix2 a b) := by
  refine Rect.overlay_of_not_mem _ _ _ fun hy => h ?_
  have hm := Rect.mem_set_unit.mp hy
  exact ⟨hm 0, hm 1⟩

theorem run_stDz (s : St Ideal) (r : ℕ) (hr : r < 33) (w : Vec Ideal S16x704 .f32) (y : Fin 528) (l : Fin 704) :
    gDz (run (stDz (M := M) r hr w) s).2 y l
      = if hy : 16 * r ≤ y.val ∧ y.val < 16 * r + 16 then w (ix2 (⟨y.val - 16 * r, by omega⟩ : Fin 16) l) else gDz s y l := by
  have e := put_at (M := M) .dz s (Rect.unit (s := S528x704) ![16 * r, 0] S16x704.size (inb_dz hr)) (View.stores_vmem_bits_univ h_S16x704 rfl) w (ix2 y l)
  by_cases hy : 16 * r ≤ y.val ∧ y.val < 16 * r + 16
  · rw [dif_pos hy]
    refine e.trans (overlay2_in _ _ y l (⟨y.val - 16 * r, by omega⟩ : Fin 16) l ?_ ?_)
    · show y.val = 16 * r + (y.val - 16 * r); omega
    · simp
  · rw [dif_neg hy]
    refine e.trans (overlay2_out _ _ y l ?_)
    omega

/-! ## Loads leave the buffers -/

theorem snd_ldWo (s : St Ideal) : (run (ldWo (M := M)) s).2 = s := rfl
theorem snd_ldDz (r : ℕ) (hr : r < 33) (s : St Ideal) : (run (ldDz (M := M) r hr) s).2 = s := rfl
theorem snd_ldDuBig (h : ℕ) (hh : h < 2) (s : St Ideal) : (run (ldDuBig (M := M) h hh) s).2 = s := rfl
theorem snd_ldWt (h : ℕ) (hh : h < 2) (s : St Ideal) : (run (ldWt (M := M) h hh) s).2 = s := rfl
theorem snd_ldAcc (s : St Ideal) : (run (ldAcc (M := M)) s).2 = s := rfl

/-! ## The middle's states -/

section Mid
variable (M) (i : grid0.Coords) (last : BitVec 1) (n : FVec Ideal S16x1024 .bf16) (s : St Ideal)

def st1 : St Ideal := (run (stDz (M := M) 32 (by decide) (haloVal last n (run (ldWo (M := M)) s).1)) s).2
def st2 : St Ideal := (run (loop (chunkA (M := M)) 32 0 rfl ⟨⟩) (st1 M last n s)).2
def st3 : St Ideal := (run (chunkHalo (M := M)) (st2 M last n s)).2
def st4 : St Ideal := (run (shift1 (M := M) 0 (by decide)) (st3 M last n s)).2
def st5 : St Ideal := (run (shift2b (M := M) 0 (by decide) (run (shift2a (M := M) 0 (by decide)) (st4 M last n s)).1) (st4 M last n s)).2
def st6 : St Ideal := (run (convHalf (M := M) i 0 (by decide)) (st5 M last n s)).2
def st7 : St Ideal := (run (shift1 (M := M) 1 (by decide)) (st6 M i last n s)).2
def st8 : St Ideal := (run (shift2b (M := M) 1 (by decide) (run (shift2a (M := M) 1 (by decide)) (st7 M i last n s)).1) (st7 M i last n s)).2
def st9 : St Ideal := (run (convHalf (M := M) i 1 (by decide)) (st8 M i last n s)).2

theorem run_midA : run (midA (M := M) i last n) s = ((run (shift2a (M := M) 1 (by decide)) (st7 M i last n s)).1, st7 M i last n s) := by
  have h1 : (run (stDz (M := M) 32 (by decide) (haloVal last n (run (ldWo (M := M)) s).1)) (run (ldDz (M := M) 32 (by decide)) (run (ldWo (M := M)) s).2).2).2 = st1 M last n s := rfl
  have h2 : (run (loop (chunkA (M := M)) 32 0 rfl ⟨⟩) (st1 M last n s)).2 = st2 M last n s := rfl
  have h3 : (run (chunkHalo (M := M)) (st2 M last n s)).2 = st3 M last n s := rfl
  have h4 : (run (shift1 (M := M) 0 (by decide)) (st3 M last n s)).2 = st4 M last n s := rfl
  have h4' : (run (shift2a (M := M) 0 (by decide)) (st4 M last n s)).2 = st4 M last n s := shift2a_snd (M := M) _ 0 (by decide)
  have h5 : (run (shift2b (M := M) 0 (by decide) (run (shift2a (M := M) 0 (by decide)) (st4 M last n s)).1) (st4 M last n s)).2 = st5 M last n s := rfl
  have h6 : (run (convHalf (M := M) i 0 (by decide)) (st5 M last n s)).2 = st6 M i last n s := rfl
  have h7 : (run (shift1 (M := M) 1 (by decide)) (st6 M i last n s)).2 = st7 M i last n s := rfl
  unfold midA
  simp only [run_bind]
  rw [h1, h2, h3, h4, h4', h5, h6, h7]
  exact Prod.ext rfl (shift2a_snd (M := M) _ 1 (by decide))

theorem run_midB (v : FVec Ideal S512x704 .f32) :
    run (midB (M := M) i v) s
      = ((addf (partVal (run (ldDuBig (M := M) 0 (by decide)) (run (convHalf (M := M) i 1 (by decide)) (run (shift2b (M := M) 1 (by decide) v) s).2).2).1
              (run (ldWt (M := M) 0 (by decide)) (run (convHalf (M := M) i 1 (by decide)) (run (shift2b (M := M) 1 (by decide) v) s).2).2).1)
            (partVal (run (ldDuBig (M := M) 1 (by decide)) (run (convHalf (M := M) i 1 (by decide)) (run (shift2b (M := M) 1 (by decide) v) s).2).2).1
              (run (ldWt (M := M) 1 (by decide)) (run (convHalf (M := M) i 1 (by decide)) (run (shift2b (M := M) 1 (by decide) v) s).2).2).1),
          (run (ldAcc (M := M)) (run (convHalf (M := M) i 1 (by decide)) (run (shift2b (M := M) 1 (by decide) v) s).2).2).1),
          (run (convHalf (M := M) i 1 (by decide)) (run (shift2b (M := M) 1 (by decide) v) s).2).2) := by
  unfold midB
  simp only [run_bind, snd_ldDuBig, snd_ldWt, snd_ldAcc]
  rfl

theorem st1_keep (b : Cell) (h : b ≠ .dz) : st1 M last n s b = s b := keep_st _ _ _ _ h s
theorem st2_keep (b : Cell) (h : b ≠ .da) : st2 M last n s b = st1 M last n s b := by
  unfold st2
  exact keep_loop (fun _ _ _ => keep_chunkA h _ _ _) _ _ _ _ _
theorem st3_keep (b : Cell) (h : b ≠ .da) : st3 M last n s b = st1 M last n s b :=
  (keep_chunkHalo h _).trans (st2_keep M last n s b h)
theorem st5_keep (b : Cell) (h : b ≠ .da) : st5 M last n s b = st1 M last n s b :=
  (keep_shift2b h _ _ _ _).trans ((keep_shift1 h _ _ _).trans (st3_keep M last n s b h))
theorem st6_keep (b : Cell) (h1 : b ≠ .du) (h2 : b ≠ .ddw) (h3 : b ≠ .ddb) : st6 M i last n s b = st5 M last n s b :=
  keep_convHalf h1 h2 h3 _ _ _ _
theorem st8_keep (b : Cell) (h : b ≠ .da) : st8 M i last n s b = st6 M i last n s b :=
  (keep_shift2b h _ _ _ _).trans (keep_shift1 h _ _ _)
theorem st9_keep (b : Cell) (h1 : b ≠ .du) (h2 : b ≠ .ddw) (h3 : b ≠ .ddb) : st9 M i last n s b = st8 M i last n s b :=
  keep_convHalf h1 h2 h3 _ _ _ _

/-- A buffer the middle doesn't write. -/
theorem st9_same (b : Cell) (h1 : b ≠ .du) (h2 : b ≠ .ddw) (h3 : b ≠ .ddb) (h4 : b ≠ .da) (h5 : b ≠ .dz) : st9 M i last n s b = s b :=
  (st9_keep M i last n s b h1 h2 h3).trans <| (st8_keep M i last n s b h4).trans <| (st6_keep M i last n s b h1 h2 h3).trans <|
    (st5_keep M last n s b h4).trans (st1_keep M last n s b h5)

/-- The gradient of the gate's factors, at the tile's and the halo's rows. -/
def daAt (a : Fin 2) (y : Fin 528) (l : Fin 704) : EReal :=
  if h : y.val < 512 then gDz s y l * gAg s a ⟨y.val, h⟩ l
  else (if last = 1#1 then 0 else ∑ d : Fin 1024, n (ix2 (⟨y.val - 512, by omega⟩ : Fin 16) d) * gWo s l d) * gAgn s a ⟨y.val - 512, by omega⟩ l

theorem st1_halo (p : Fin 16) (l : Fin 704) :
    gDz (st1 M last n s) ⟨512 + p.val, by omega⟩ l = if last = 1#1 then 0 else ∑ d : Fin 1024, n (ix2 p d) * gWo s l d := by
  have h : 16 * 32 ≤ 512 + p.val ∧ 512 + p.val < 16 * 32 + 16 := by omega
  have ep : (⟨512 + p.val - 16 * 32, by omega⟩ : Fin 16) = p := Fin.ext (by simp)
  unfold st1
  rw [run_stDz, dif_pos h, ep, haloVal_at]
  simp only [run_ldWo]

theorem st3_slot0 (a : Fin 2) (y : Fin 528) (l : Fin 704) : gDa (st3 M last n s) a 0 y l = daAt last n s a y l := by
  unfold daAt
  by_cases h : y.val < 512
  · rw [dif_pos h]
    have e1 : gDa (st3 M last n s) a 0 y l = gDa (st2 M last n s) a 0 y l := halo_out (M := M) _ a 0 y l h
    have e2 : gDa (st2 M last n s) a 0 y l = gDz (st1 M last n s) y l * gAg (st1 M last n s) a ⟨y.val, h⟩ l := loopA (M := M) _ a ⟨y.val, h⟩ l
    have e3 : gDz (st1 M last n s) y l = gDz s y l := by
      unfold st1; rw [run_stDz, dif_neg (by omega)]
    have e4 : gAg (st1 M last n s) a ⟨y.val, h⟩ l = gAg s a ⟨y.val, h⟩ l := by unfold gAg; rw [st1_keep M last n s .ag (by decide)]
    rw [e1, e2, e3, e4]
  · rw [dif_neg h]
    obtain ⟨yv, hy⟩ := y
    obtain ⟨p, hp⟩ : ∃ p : Fin 16, yv = 512 + p.val := ⟨⟨yv - 512, by omega⟩, by simp at h ⊢; omega⟩
    subst hp
    have e1 : gDa (st3 M last n s) a 0 ⟨512 + p.val, by omega⟩ l = gDz (st2 M last n s) ⟨512 + p.val, by omega⟩ l * gAgn (st2 M last n s) a p l :=
      halo_in (M := M) _ a p l
    have e2 : gDz (st2 M last n s) ⟨512 + p.val, by omega⟩ l
        = if last = 1#1 then 0 else ∑ d : Fin 1024, n (ix2 p d) * gWo s l d := by
      have : gDz (st2 M last n s) ⟨512 + p.val, by omega⟩ l = gDz (st1 M last n s) ⟨512 + p.val, by omega⟩ l := by
        unfold gDz; rw [st2_keep M last n s .dz (by decide)]
      rw [this]
      exact st1_halo M last n s p l
    have e3 : gAgn (st2 M last n s) a p l = gAgn s a p l := by
      unfold gAgn; rw [st2_keep M last n s .agn (by decide), st1_keep M last n s .agn (by decide)]
    rw [e1, e2, e3]
    have ep : (⟨512 + p.val - 512, by omega⟩ : Fin 16) = p := Fin.ext (by simp)
    show _ = (if last = 1#1 then 0 else ∑ d : Fin 1024, n (ix2 (⟨512 + p.val - 512, by omega⟩ : Fin 16) d) * gWo s l d) * gAgn s a ⟨512 + p.val - 512, by omega⟩ l
    rw [ep]

theorem st5_slot0 (a : Fin 2) (y : Fin 528) (l : Fin 704) : gDa (st5 M last n s) a 0 y l = daAt last n s a y l := by
  unfold st5; rw [shift2b_slot0]; unfold st4; rw [shift1_slot0, st3_slot0]

theorem st5_slots (k : Fin 3) (y : Fin 512) (l : Fin 704) : gDa (st5 M last n s) 0 k (row y 0) l = daAt last n s 0 (row y k.val (by omega)) l := by
  have e4 : ∀ y, gDa (st4 M last n s) 0 0 y l = daAt last n s 0 y l := fun y => by unfold st4; rw [shift1_slot0, st3_slot0]
  have e : gDa (st5 M last n s) 0 k (row y 0) l = if (0 : Fin 2).val = 0 ∧ k.val = 2 then gDa (st4 M last n s) 0 0 (row y 2) l else gDa (st4 M last n s) 0 k (row y 0) l :=
    shift2b_at (M := M) (st4 M last n s) 0 (by decide) _ 0 k y l (fun y l => shift2a_fst (M := M) _ 0 (by decide) y l)
  rw [e]
  rcases (by omega : k = 0 ∨ k = 1 ∨ k = 2) with rfl | rfl | rfl
  · rw [if_neg (by simp)]; exact e4 _
  · rw [if_neg (by simp)]
    unfold st4
    rw [shift1_at, if_pos ⟨rfl, rfl⟩, st3_slot0]; rfl
  · rw [if_pos ⟨rfl, rfl⟩]; exact e4 _

theorem st8_slots (k : Fin 3) (y : Fin 512) (l : Fin 704) : gDa (st8 M i last n s) 1 k (row y 0) l = daAt last n s 1 (row y k.val (by omega)) l := by
  have e6 : ∀ y, gDa (st6 M i last n s) 1 0 y l = daAt last n s 1 y l := fun y => by
    rw [← st5_slot0 M]; unfold gDa; rw [st6_keep M i last n s .da (by decide) (by decide) (by decide)]
  have e7 : ∀ y, gDa (st7 M i last n s) 1 0 y l = daAt last n s 1 y l := fun y => by unfold st7; rw [shift1_slot0, e6]
  have e : gDa (st8 M i last n s) 1 k (row y 0) l = if (1 : Fin 2).val = 1 ∧ k.val = 2 then gDa (st7 M i last n s) 1 0 (row y 2) l else gDa (st7 M i last n s) 1 k (row y 0) l :=
    shift2b_at (M := M) (st7 M i last n s) 1 (by decide) _ 1 k y l (fun y l => shift2a_fst (M := M) _ 1 (by decide) y l)
  rw [e]
  rcases (by omega : k = 0 ∨ k = 1 ∨ k = 2) with rfl | rfl | rfl
  · rw [if_neg (by simp)]; exact e7 _
  · rw [if_neg (by simp)]
    unfold st7
    rw [shift1_at, if_pos ⟨rfl, rfl⟩, e6]; rfl
  · rw [if_pos ⟨rfl, rfl⟩]; exact e7 _

/-! ## The middle's results -/

/-- The gradient of `u` at a row, and the tile's part of the conv's gradients. -/
def duOf (a : Fin 2) (y : Fin 512) (l : Fin 704) : EReal :=
  gCw s a 0 l * daAt last n s a (row y 2) l + gCw s a 1 l * daAt last n s a (row y 1) l + gCw s a 2 l * daAt last n s a (row y 0) l
def tapOf (a : Fin 2) (k : Fin 3) (l : Fin 704) : EReal := ∑ y : Fin 512, daAt last n s a (row y k.val (by omega)) l * gU s a y l
def biasOf (a : Fin 2) (l : Fin 704) : EReal := ∑ y : Fin 512, daAt last n s a (row y 0) l

theorem st5_du (y : Fin 512) (l : Fin 704) : duAt (st5 M last n s) 0 y l = duOf last n s 0 y l := by
  unfold duAt duOf
  rw [st5_slots, st5_slots, st5_slots]
  have e : ∀ k, gCw (st5 M last n s) 0 k l = gCw s 0 k l := fun k => by
    unfold gCw; rw [st5_keep M last n s .cw (by decide), st1_keep M last n s .cw (by decide)]
  rw [e, e, e]; rfl

theorem st8_du (y : Fin 512) (l : Fin 704) : duAt (st8 M i last n s) 1 y l = duOf last n s 1 y l := by
  unfold duAt duOf
  rw [st8_slots, st8_slots, st8_slots]
  have e : ∀ k, gCw (st8 M i last n s) 1 k l = gCw s 1 k l := fun k => by
    unfold gCw
    rw [st8_keep M i last n s .cw (by decide), st6_keep M i last n s .cw (by decide) (by decide) (by decide), st5_keep M last n s .cw (by decide), st1_keep M last n s .cw (by decide)]
  rw [e, e, e]; rfl

theorem st5_tap (k : Fin 3) (l : Fin 704) : tapSum (st5 M last n s) 0 k l = tapOf last n s 0 k l := by
  unfold tapSum tapOf
  refine Finset.sum_congr rfl fun y _ => ?_
  rw [st5_slots]
  unfold gU; rw [st5_keep M last n s .u (by decide), st1_keep M last n s .u (by decide)]

theorem st8_tap (k : Fin 3) (l : Fin 704) : tapSum (st8 M i last n s) 1 k l = tapOf last n s 1 k l := by
  unfold tapSum tapOf
  refine Finset.sum_congr rfl fun y _ => ?_
  rw [st8_slots]
  unfold gU
  rw [st8_keep M i last n s .u (by decide), st6_keep M i last n s .u (by decide) (by decide) (by decide), st5_keep M last n s .u (by decide), st1_keep M last n s .u (by decide)]

theorem st5_bias (l : Fin 704) : biasSum (st5 M last n s) 0 l = biasOf last n s 0 l := by
  unfold biasSum biasOf
  exact Finset.sum_congr rfl fun y _ => st5_slots M last n s 0 y l

theorem st8_bias (l : Fin 704) : biasSum (st8 M i last n s) 1 l = biasOf last n s 1 l := by
  unfold biasSum biasOf
  exact Finset.sum_congr rfl fun y _ => st8_slots M i last n s 0 y l

theorem st9_du (a : Fin 2) (y : Fin 512) (l : Fin 704) : gDu (st9 M i last n s) a y l = duOf last n s a y l := by
  unfold st9
  rw [convHalf_du]
  rcases (by omega : a = 0 ∨ a = 1) with rfl | rfl
  · rw [if_neg (by simp)]
    have e : gDu (st8 M i last n s) 0 y l = gDu (st6 M i last n s) 0 y l := by unfold gDu; rw [st8_keep M i last n s .du (by decide)]
    refine e.trans ?_
    unfold st6
    rw [convHalf_du]
    refine (if_pos (by decide)).trans ?_
    exact st5_du M last n s y l
  · exact (if_pos (by decide)).trans <| st8_du M i last n s y l

theorem st9_ddw (j : Fin 4) (a : Fin 2) (b : Fin 3) (l : Fin 704) :
    gDdw (st9 M i last n s) j a b l = if j.val = (i 1).val then gDdw s j a b l + tapOf last n s a b.rev l else gDdw s j a b l := by
  have e5 : gDdw (st5 M last n s) j a b l = gDdw s j a b l := by
    unfold gDdw; rw [st5_keep M last n s .ddw (by decide), st1_keep M last n s .ddw (by decide)]
  have e8 : gDdw (st8 M i last n s) j a b l = gDdw (st6 M i last n s) j a b l := by unfold gDdw; rw [st8_keep M i last n s .ddw (by decide)]
  have e6 := convHalf_ddw (M := M) (st5 M last n s) i 0 (by decide) j a b l
  unfold st9
  rw [convHalf_ddw, e8]
  unfold st6
  rw [e6, e5]
  by_cases hj : j.val = (i 1).val
  · rw [if_pos hj]
    rcases (by omega : a = 0 ∨ a = 1) with rfl | rfl
    · rw [if_neg (by simp), if_pos ⟨hj, rfl⟩]; exact congrArg _ (st5_tap M last n s b.rev l)
    · rw [if_pos ⟨hj, rfl⟩, if_neg (by simp)]; exact congrArg _ (st8_tap M i last n s b.rev l)
  · rw [if_neg hj, if_neg (fun e => hj e.1), if_neg (fun e => hj e.1)]

theorem st9_ddb (j : Fin 4) (a : Fin 2) (l : Fin 704) :
    gDdb (st9 M i last n s) j a l = if j.val = (i 1).val then gDdb s j a l + biasOf last n s a l else gDdb s j a l := by
  have e5 : gDdb (st5 M last n s) j a l = gDdb s j a l := by
    unfold gDdb; rw [st5_keep M last n s .ddb (by decide), st1_keep M last n s .ddb (by decide)]
  have e8 : gDdb (st8 M i last n s) j a l = gDdb (st6 M i last n s) j a l := by unfold gDdb; rw [st8_keep M i last n s .ddb (by decide)]
  have e6 := convHalf_ddb (M := M) (st5 M last n s) i 0 (by decide) j a l
  unfold st9
  rw [convHalf_ddb, e8]
  unfold st6
  rw [e6, e5]
  by_cases hj : j.val = (i 1).val
  · rw [if_pos hj]
    rcases (by omega : a = 0 ∨ a = 1) with rfl | rfl
    · rw [if_neg (by simp), if_pos ⟨hj, rfl⟩]; exact congrArg _ (st5_bias M last n s l)
    · rw [if_pos ⟨hj, rfl⟩, if_neg (by simp)]; exact congrArg _ (st8_bias M i last n s l)
  · rw [if_neg hj, if_neg (fun e => hj e.1), if_neg (fun e => hj e.1)]

/-- The input's gradient of the tile and shard. -/
def partOf (r : Fin 512) (d : Fin 1024) : EReal :=
  (∑ l : Fin 704, duOf last n s 0 r l * gWt s 0 l d) + ∑ l : Fin 704, duOf last n s 1 r l * gWt s 1 l d

theorem st9_part (r : Fin 512) (d : Fin 1024) :
    addf (partVal (run (ldDuBig (M := M) 0 (by decide)) (st9 M i last n s)).1 (run (ldWt (M := M) 0 (by decide)) (st9 M i last n s)).1)
        (partVal (run (ldDuBig (M := M) 1 (by decide)) (st9 M i last n s)).1 (run (ldWt (M := M) 1 (by decide)) (st9 M i last n s)).1) (ix2 r d)
      = partOf last n s r d := by
  have ew : ∀ a l, gWt (st9 M i last n s) a l d = gWt s a l d := fun a l => by
    unfold gWt; rw [st9_same M i last n s .wt (by decide) (by decide) (by decide) (by decide) (by decide)]
  rw [addf_apply, partVal_at, partVal_at]
  simp only [run_ldDuBig, run_ldWt, st9_du, ew]
  rfl

end Mid

end Cert.FfnBwd
-- ==== Proof.Body.lean ====
/-
  What the whole body leaves in its buffers at the real numbers, in closed form in the contents it started from.
-/
module

public import proofs.«01_k».proof.Proof.Mid
public import proofs.«01_k».proof.Proof.Math
public import proofs.«01_k».proof.Proof.Whole

@[expose] public section

set_option maxRecDepth 16384

noncomputable section

namespace Cert.FfnBwd

open Idealize.ShloMosaic Idealize.ShloMosaic.TcCoe Idealize.SL.Sem
open Cert.KernelIdeal Cert.KernelIdeal.Gen

variable {M : Mems}

/-! ## The closed forms -/

section Forms
variable (i : grid0.Coords) (s : St Ideal)

/-- The gradient of the gated product's factor at a row: the tile's, or the halo's, which is zero after a sequence's last tile. -/
def dAt (a : Fin 2) (y : Fin 528) (l : Fin 704) : EReal :=
  if h : y.val < 512 then (∑ d : Fin 1024, gDy s ⟨y.val, h⟩ d * gWo s l d) * gAg s a ⟨y.val, h⟩ l
  else (if lastBit i = 1#1 then 0 else ∑ d : Fin 1024, gDyn s ⟨y.val - 512, by omega⟩ d * gWo s l d) * gAgn s a ⟨y.val - 512, by omega⟩ l

def duB (a : Fin 2) (y : Fin 512) (l : Fin 704) : EReal :=
  gCw s a 0 l * dAt i s a (row y 2) l + gCw s a 1 l * dAt i s a (row y 1) l + gCw s a 2 l * dAt i s a (row y 0) l
def tapB (a : Fin 2) (k : Fin 3) (l : Fin 704) : EReal := ∑ y : Fin 512, dAt i s a (row y k.val (by omega)) l * gU s a y l
def biasB (a : Fin 2) (l : Fin 704) : EReal := ∑ y : Fin 512, dAt i s a (row y 0) l
def partB (r : Fin 512) (d : Fin 1024) : EReal :=
  (∑ l : Fin 704, duB i s 0 r l * gWt s 0 l d) + ∑ l : Fin 704, duB i s 1 r l * gWt s 1 l d
def accB (r : Fin 512) (d : Fin 1024) : EReal := partB i s r d + (if (i 1).val = 0 then 0 else gAcc s r d)

end Forms

/-! ## A shard's stores -/

theorem shard4_in {α : Type} {n0 n1 n2 n3 o0 z1 z2 z3 : ℕ} {off : Fin 4 → ℕ} (ho : off = ![o0, 0, 0, 0])
    {inb : ∀ a, off a + (![1, z1, z2, z3] : Fin 4 → ℕ) a ≤ (⟨4, ![n0, n1, n2, n3]⟩ : Shape).size a}
    (X : (⟨4, ![n0, n1, n2, n3]⟩ : Shape).Idx → α) (w : (⟨4, ![1, z1, z2, z3]⟩ : Shape).Idx → α)
    (a : Fin n0) (b : Fin n1) (c : Fin n2) (e : Fin n3) (b' : Fin z1) (c' : Fin z2) (e' : Fin z3)
    (ha : a.val = o0) (hb : b.val = b'.val) (hc : c.val = c'.val) (he : e.val = e'.val) :
    (Rect.unit (s := ⟨4, ![n0, n1, n2, n3]⟩) off ![1, z1, z2, z3] inb).overlay X w (ix4 a b c e) = w (ix4 (0 : Fin 1) b' c' e') := by
  subst ho
  exact overlay4_in X w a b c e 0 b' c' e' ha (by omega) (by omega) (by omega)

theorem shard4_out {α : Type} {n0 n1 n2 n3 o0 z1 z2 z3 : ℕ} {off : Fin 4 → ℕ} (ho : off = ![o0, 0, 0, 0])
    {inb : ∀ a, off a + (![1, z1, z2, z3] : Fin 4 → ℕ) a ≤ (⟨4, ![n0, n1, n2, n3]⟩ : Shape).size a}
    (X : (⟨4, ![n0, n1, n2, n3]⟩ : Shape).Idx → α) (w : (⟨4, ![1, z1, z2, z3]⟩ : Shape).Idx → α)
    (a : Fin n0) (b : Fin n1) (c : Fin n2) (e : Fin n3) (ha : a.val ≠ o0) :
    (Rect.unit (s := ⟨4, ![n0, n1, n2, n3]⟩) off ![1, z1, z2, z3] inb).overlay X w (ix4 a b c e) = X (ix4 a b c e) := by
  subst ho
  exact overlay4_out X w a b c e fun h => ha (by omega)

/-! ## The stages -/

section Stages
variable (M) (i : grid0.Coords) (s : St Ideal)

def wa : St Ideal := (run (if k0_cond1 i = 1#1 then zeroDg (M := M) else pure ⟨⟩) s).2
def wb : St Ideal := (run (if h : k0_cond2 i = 1#1 then zeroConv (M := M) i h else pure ⟨⟩) (wa M i s)).2
def wc : St Ideal := (run (opening (M := M)) (wb M i s)).2
def wn : FVec Ideal S16x1024 .bf16 := (run (opening (M := M)) (wb M i s)).1
def wd : St Ideal := st9 M i (lastBit i) (wn M i s) (wc M i s)
def wr : FVec Ideal S512x1024 .f32 × Vec Ideal S512x1024 .f32 :=
  (addf (partVal (run (ldDuBig (M := M) 0 (by decide)) (wd M i s)).1 (run (ldWt (M := M) 0 (by decide)) (wd M i s)).1)
      (partVal (run (ldDuBig (M := M) 1 (by decide)) (wd M i s)).1 (run (ldWt (M := M) 1 (by decide)) (wd M i s)).1),
    (run (ldAcc (M := M)) (wd M i s)).1)
def we : St Ideal := (run (closing (M := M) i (wr M i s)) (wd M i s)).2
def wf : St Ideal := (run (if k0_cond3 i = 1#1 then normBwd (M := M) else pure ⟨⟩) (we M i s)).2

theorem run_whole : (run (whole (M := M) i) s).2 = wf M i s := by
  have h1 : (run (if k0_cond1 i = 1#1 then zeroDg (M := M) else pure ⟨⟩) s).2 = wa M i s := rfl
  have h2 : (run (if h : k0_cond2 i = 1#1 then zeroConv (M := M) i h else pure ⟨⟩) (wa M i s)).2 = wb M i s := rfl
  have h3 : (run (opening (M := M)) (wb M i s)).2 = wc M i s := rfl
  have h3' : (run (opening (M := M)) (wb M i s)).1 = wn M i s := rfl
  have h4 : (run (convHalf (M := M) i 1 (by decide)) (run (shift2b (M := M) 1 (by decide) (run (shift2a (M := M) 1 (by decide)) (st7 M i (lastBit i) (wn M i s) (wc M i s))).1) (st7 M i (lastBit i) (wn M i s) (wc M i s))).2).2 = wd M i s := rfl
  have h5 : (run (closing (M := M) i (wr M i s)) (wd M i s)).2 = we M i s := rfl
  have h5' : (addf (partVal (run (ldDuBig (M := M) 0 (by decide)) (wd M i s)).1 (run (ldWt (M := M) 0 (by decide)) (wd M i s)).1)
      (partVal (run (ldDuBig (M := M) 1 (by decide)) (wd M i s)).1 (run (ldWt (M := M) 1 (by decide)) (wd M i s)).1),
    (run (ldAcc (M := M)) (wd M i s)).1) = wr M i s := rfl
  have h6 : (run (if k0_cond3 i = 1#1 then normBwd (M := M) else pure ⟨⟩) (we M i s)).2 = wf M i s := rfl
  unfold whole mainPart
  rw [run_bind, run_bind, run_bind, run_bind, run_bind, run_bind, h1, h2, h3, h3', run_midA, run_midB]
  rw [h4, h5', h5, h6]

/-! ## What each stage keeps -/

theorem wa_keep (b : Cell) (h : b ≠ .dg) : wa M i s b = s b := by
  unfold wa; split
  · exact keep_zeroDg h _
  · rfl
theorem wb_keep (b : Cell) (h1 : b ≠ .ddw) (h2 : b ≠ .ddb) : wb M i s b = wa M i s b := by
  unfold wb; split
  · exact keep_zeroConv h1 h2 _ _ _
  · rfl
theorem wc_keep (b : Cell) (h : b ≠ .dz) : wc M i s b = wb M i s b := keep_opening h _
theorem wd_keep (b : Cell) (h1 : b ≠ .du) (h2 : b ≠ .ddw) (h3 : b ≠ .ddb) (h4 : b ≠ .da) (h5 : b ≠ .dz) : wd M i s b = wc M i s b :=
  st9_same M i _ _ _ b h1 h2 h3 h4 h5
theorem we_keep (b : Cell) (h : b ≠ .acc) : we M i s b = wd M i s b := keep_closing h _ _ _
theorem wf_keep (b : Cell) (h1 : b ≠ .dx) (h2 : b ≠ .dg) : wf M i s b = we M i s b := by
  unfold wf; split
  · exact keep_normBwd h1 h2 _
  · rfl

/-- An input's buffer at the opening. -/
theorem wb_in (b : Cell) (h1 : b ≠ .dg) (h2 : b ≠ .ddw) (h3 : b ≠ .ddb) : wb M i s b = s b :=
  (wb_keep M i s b h2 h3).trans (wa_keep M i s b h1)
theorem wc_in (b : Cell) (h1 : b ≠ .dg) (h2 : b ≠ .ddw) (h3 : b ≠ .ddb) (h4 : b ≠ .dz) : wc M i s b = s b :=
  (wc_keep M i s b h4).trans (wb_in M i s b h1 h2 h3)

/-! ## The openings -/

/-- The second half of the shard's opening. -/
def zeroConvB (h : k0_cond2 i = 1#1) : Prog (Cmd Ideal M) PUnit := do
  let _ ← Prog.lift (.ld .ddb (Rect.unit (s := S4x2x1x704) (k0_off2 i) S1x2x1x704.size (k0_off2_inb i h)) (View.loadsAt_vmem h_S1x2x1x704))
  Prog.lift (.st .ddb (Rect.unit (s := S4x2x1x704) (k0_off2 i) S1x2x1x704.size (k0_off2_inb i h)) (k0_pay9 (F := Ideal)) (View.stores_vmem_bits_univ h_S1x2x1x704 rfl))

omit s in
theorem keep_zeroConvB (h : k0_cond2 i = 1#1) (s : St Ideal) : (run (zeroConvB M i h) s).2 .ddw = s .ddw :=
  keep_bind (keep_ld _ _ _) (fun _ => keep_st _ _ _ _ (by decide)) s

theorem wa_dg (d : Fin 1024) : gDg (wa M i s) d = if k0_cond1 i = 1#1 then 0 else gDg s d := by
  unfold wa
  split
  · unfold zeroDg
    rw [run_bind]
    refine (put_at (M := M) .dg _ (Rect.unit (s := S1x1024) ![0, 0] S1x1024.size inb_S1x1024_S1x1024_0_0) _ _ (ix2 (0 : Fin 1) d)).trans ?_
    refine (overlay2_in _ _ (0 : Fin 1) d (0 : Fin 1) d (by simp) (by simp)).trans ?_
    pointwise [k0_pay7]
  · rfl

theorem wb_ddw (j : Fin 4) (a : Fin 2) (b : Fin 3) (l : Fin 704) :
    gDdw (wb M i s) j a b l = if k0_cond2 i = 1#1 ∧ j.val = (i 1).val then 0 else gDdw s j a b l := by
  have e0 : gDdw (wa M i s) j a b l = gDdw s j a b l := by unfold gDdw; rw [wa_keep M i s .ddw (by decide)]
  have hs := shard_eq i
  unfold wb
  split
  · rename_i h
    have e1 : (run (zeroConv (M := M) i h) (wa M i s)).2 = (run (zeroConvB M i h)
        (run (Prog.lift (Cmd.st (F := Ideal) (M := M) .ddw (Rect.unit (s := S4x2x3x704) (k0_off1 i) S1x2x3x704.size (k0_off1_inb i h)) (k0_pay8 (F := Ideal)) (View.stores_vmem_bits_univ h_S1x2x3x704 rfl))) (wa M i s)).2).2 := by
      unfold zeroConv zeroConvB; simp only [run_bind]; rfl
    have e2 : gDdw (run (zeroConv (M := M) i h) (wa M i s)).2 j a b l
        = (Rect.unit (s := S4x2x3x704) (k0_off1 i) S1x2x3x704.size (k0_off1_inb i h)).overlay (wa M i s .ddw) (k0_pay8 (F := Ideal)) (ix4 j a b l) := by
      unfold gDdw
      rw [e1]
      rw [keep_zeroConvB M i h]
      exact put_at (M := M) .ddw (wa M i s) _ _ _ (ix4 j a b l)
    rw [e2]
    by_cases hj : j.val = (i 1).val
    · rw [if_pos ⟨h, hj⟩]
      refine (shard4_in (o0 := shard i) rfl _ _ j a b l a b l (hj.trans hs.symm) rfl rfl rfl).trans ?_
      pointwise [k0_pay8]
    · rw [if_neg fun e => hj e.2]
      exact (shard4_out (o0 := shard i) rfl _ _ j a b l (fun e => hj (e.trans hs))).trans e0
  · rename_i h
    rw [if_neg fun e => h e.1]; exact e0

theorem wb_ddb (j : Fin 4) (a : Fin 2) (l : Fin 704) :
    gDdb (wb M i s) j a l = if k0_cond2 i = 1#1 ∧ j.val = (i 1).val then 0 else gDdb s j a l := by
  have e0 : gDdb (wa M i s) j a l = gDdb s j a l := by unfold gDdb; rw [wa_keep M i s .ddb (by decide)]
  have hs := shard_eq i
  unfold wb
  split
  · rename_i h
    have e1 : (run (zeroConv (M := M) i h) (wa M i s)).2 = (run (zeroConvB M i h)
        (run (Prog.lift (Cmd.st (F := Ideal) (M := M) .ddw (Rect.unit (s := S4x2x3x704) (k0_off1 i) S1x2x3x704.size (k0_off1_inb i h)) (k0_pay8 (F := Ideal)) (View.stores_vmem_bits_univ h_S1x2x3x704 rfl))) (wa M i s)).2).2 := by
      unfold zeroConv zeroConvB; simp only [run_bind]; rfl
    have e2 : gDdb (run (zeroConv (M := M) i h) (wa M i s)).2 j a l
        = (Rect.unit (s := S4x2x1x704) (k0_off2 i) S1x2x1x704.size (k0_off2_inb i h)).overlay (wa M i s .ddb) (k0_pay9 (F := Ideal)) (ix4 j a (0 : Fin 1) l) := by
      unfold gDdb
      rw [e1]
      exact put_at (M := M) .ddb _ _ _ _ (ix4 j a (0 : Fin 1) l)
    rw [e2]
    by_cases hj : j.val = (i 1).val
    · rw [if_pos ⟨h, hj⟩]
      refine (shard4_in (o0 := shard i) rfl _ _ j a (0 : Fin 1) l a (0 : Fin 1) l (hj.trans hs.symm) rfl rfl rfl).trans ?_
      pointwise [k0_pay9]
    · rw [if_neg fun e => hj e.2]
      exact (shard4_out (o0 := shard i) rfl _ _ j a (0 : Fin 1) l (fun e => hj (e.trans hs))).trans e0
  · rename_i h
    rw [if_neg fun e => h e.1]; exact e0

theorem wn_at (p : Fin 16) (d : Fin 1024) : wn M i s (ix2 p d) = gDyn s p d := by
  have e : wn M i s = k0_pay10 (run (Prog.lift (Cmd.ld (F := Ideal) (M := M) .dyn (Rect.unit (s := S1x16x1024) ![0, 0, 0] S1x16x1024.size inb_S1x16x1024_S1x16x1024_0_0_0) (View.loadsAt_vmem h_S1x16x1024))) (wb M i s)).1 := rfl
  rw [e]
  refine (pay10_at _ p d).trans ?_
  refine (get_at (M := M) .dyn _ _ _ _ _ _ (ix3 (0 : Fin 1) p d) fun a => by fin_cases a <;> first | rfl | exact (Nat.zero_add _).symm).trans ?_
  rw [wb_in M i s .dyn (by decide) (by decide) (by decide)]; rfl

theorem wc_dz (y : Fin 528) (l : Fin 704) (h : y.val < 512) : gDz (wc M i s) y l = ∑ d : Fin 1024, gDy s ⟨y.val, h⟩ d * gWo s l d := by
  let a : Vec Ideal S1x512x1024 .bf16 := (run (Prog.lift (Cmd.ld (F := Ideal) (M := M) .dy (Rect.unit (s := S1x512x1024) ![0, 0, 0] S1x512x1024.size inb_S1x512x1024_S1x512x1024_0_0_0) (View.loadsAt_vmem h_S1x512x1024))) (wb M i s)).1
  have ha : ∀ d, a (ix3 (0 : Fin 1) (⟨y.val, h⟩ : Fin 512) d) = gDy s ⟨y.val, h⟩ d := fun d => by
    refine (get_at (M := M) .dy _ _ _ _ _ _ (ix3 (0 : Fin 1) (⟨y.val, h⟩ : Fin 512) d) fun a => by fin_cases a <;> first | rfl | exact (Nat.zero_add _).symm).trans ?_
    rw [wb_in M i s .dy (by decide) (by decide) (by decide)]; rfl
  have hw : ∀ d, (run (ldWo (M := M)) (wb M i s)).1 (ix4 (0 : Fin 1) (0 : Fin 1) l d) = gWo s l d := fun d => by
    rw [run_ldWo]; unfold gWo; rw [wb_in M i s .wo (by decide) (by decide) (by decide)]
  have e0 : wc M i s = (run (Prog.lift (Cmd.st (F := Ideal) (M := M) .dz (Rect.unit (s := S528x704) ![0, 0] S512x704.size inb_S528x704_S512x704_0_0) (k0_pay11 a (run (ldWo (M := M)) (wb M i s)).1) (View.stores_vmem_bits_univ h_S512x704 rfl))) (wb M i s)).2 := rfl
  have e : gDz (wc M i s) y l = (Rect.unit (s := S528x704) ![0, 0] S512x704.size inb_S528x704_S512x704_0_0).overlay (wb M i s .dz) (k0_pay11 a (run (ldWo (M := M)) (wb M i s)).1) (ix2 y l) := by
    rw [e0]
    exact put_at (M := M) .dz (wb M i s) _ _ _ (ix2 y l)
  rw [e]
  refine (overlay2_in _ _ y l (⟨y.val, h⟩ : Fin 512) l (by simp) (by simp)).trans ?_
  rw [pay11_at]
  exact Finset.sum_congr rfl fun d _ => by rw [ha, hw]

/-! ## The middle in the starting contents -/

theorem mid_da (a : Fin 2) (y : Fin 528) (l : Fin 704) : daAt (lastBit i) (wn M i s) (wc M i s) a y l = dAt i s a y l := by
  unfold daAt dAt
  by_cases h : y.val < 512
  · rw [dif_pos h, dif_pos h, wc_dz M i s y l h]
    unfold gAg; rw [wc_in M i s .ag (by decide) (by decide) (by decide) (by decide)]
  · rw [dif_neg h, dif_neg h]
    have e1 : ∀ d, gWo (wc M i s) l d = gWo s l d := fun d => by unfold gWo; rw [wc_in M i s .wo (by decide) (by decide) (by decide) (by decide)]
    have e2 : gAgn (wc M i s) a ⟨y.val - 512, by omega⟩ l = gAgn s a ⟨y.val - 512, by omega⟩ l := by
      unfold gAgn; rw [wc_in M i s .agn (by decide) (by decide) (by decide) (by decide)]
    simp only [wn_at, e1, e2]

theorem mid_du (a : Fin 2) (y : Fin 512) (l : Fin 704) : duOf (lastBit i) (wn M i s) (wc M i s) a y l = duB i s a y l := by
  have e : ∀ k, gCw (wc M i s) a k l = gCw s a k l := fun k => by
    unfold gCw; rw [wc_in M i s .cw (by decide) (by decide) (by decide) (by decide)]
  unfold duOf duB
  rw [mid_da, mid_da, mid_da, e, e, e]

theorem mid_tap (a : Fin 2) (k : Fin 3) (l : Fin 704) : tapOf (lastBit i) (wn M i s) (wc M i s) a k l = tapB i s a k l := by
  unfold tapOf tapB
  refine Finset.sum_congr rfl fun y _ => ?_
  rw [mid_da]; unfold gU; rw [wc_in M i s .u (by decide) (by decide) (by decide) (by decide)]

theorem mid_bias (a : Fin 2) (l : Fin 704) : biasOf (lastBit i) (wn M i s) (wc M i s) a l = biasB i s a l := by
  unfold biasOf biasB
  exact Finset.sum_congr rfl fun y _ => mid_da M i s a _ l

theorem mid_part (r : Fin 512) (d : Fin 1024) : partOf (lastBit i) (wn M i s) (wc M i s) r d = partB i s r d := by
  have e : ∀ a l, gWt (wc M i s) a l d = gWt s a l d := fun a l => by
    unfold gWt; rw [wc_in M i s .wt (by decide) (by decide) (by decide) (by decide)]
  unfold partOf partB
  simp only [mid_du, e]

/-! ## The results -/

theorem whole_du (a : Fin 2) (y : Fin 512) (l : Fin 704) : gDu (run (whole (M := M) i) s).2 a y l = duB i s a y l := by
  rw [run_whole, ← mid_du M]
  refine Eq.trans ?_ (st9_du M i (lastBit i) (wn M i s) (wc M i s) a y l)
  unfold gDu; rw [wf_keep M i s .du (by decide) (by decide), we_keep M i s .du (by decide)]; rfl

theorem whole_ddw (j : Fin 4) (a : Fin 2) (b : Fin 3) (l : Fin 704) :
    gDdw (run (whole (M := M) i) s).2 j a b l
      = if j.val = (i 1).val then (if k0_cond2 i = 1#1 then 0 else gDdw s j a b l) + tapB i s a b.rev l else gDdw s j a b l := by
  have e : gDdw (wf M i s) j a b l = gDdw (wd M i s) j a b l := by
    unfold gDdw; rw [wf_keep M i s .ddw (by decide) (by decide), we_keep M i s .ddw (by decide)]
  have e' : gDdw (wc M i s) j a b l = gDdw (wb M i s) j a b l := by
    unfold gDdw; rw [wc_keep M i s .ddw (by decide)]
  have e9 := st9_ddw M i (lastBit i) (wn M i s) (wc M i s) j a b l
  rw [e', wb_ddw, mid_tap] at e9
  rw [run_whole, e]
  refine e9.trans ?_
  by_cases hj : j.val = (i 1).val <;> by_cases h2 : k0_cond2 i = 1#1 <;> simp [hj, h2]

theorem whole_ddb (j : Fin 4) (a : Fin 2) (l : Fin 704) :
    gDdb (run (whole (M := M) i) s).2 j a l
      = if j.val = (i 1).val then (if k0_cond2 i = 1#1 then 0 else gDdb s j a l) + biasB i s a l else gDdb s j a l := by
  have e : gDdb (wf M i s) j a l = gDdb (wd M i s) j a l := by
    unfold gDdb; rw [wf_keep M i s .ddb (by decide) (by decide), we_keep M i s .ddb (by decide)]
  have e' : gDdb (wc M i s) j a l = gDdb (wb M i s) j a l := by
    unfold gDdb; rw [wc_keep M i s .ddb (by decide)]
  have e9 := st9_ddb M i (lastBit i) (wn M i s) (wc M i s) j a l
  rw [e', wb_ddb, mid_bias] at e9
  rw [run_whole, e]
  refine e9.trans ?_
  by_cases hj : j.val = (i 1).val <;> by_cases h2 : k0_cond2 i = 1#1 <;> simp [hj, h2]

theorem wr_fst (r : Fin 512) (d : Fin 1024) : (wr M i s).1 (ix2 r d) = partB i s r d := by
  have e : (wr M i s).1 = addf (partVal (run (ldDuBig (M := M) 0 (by decide)) (wd M i s)).1 (run (ldWt (M := M) 0 (by decide)) (wd M i s)).1)
      (partVal (run (ldDuBig (M := M) 1 (by decide)) (wd M i s)).1 (run (ldWt (M := M) 1 (by decide)) (wd M i s)).1) := rfl
  rw [e, ← mid_part M, ← st9_part M i]
  rfl

theorem wr_snd (r : Fin 512) (d : Fin 1024) : (wr M i s).2 (ix2 r d) = gAcc s r d := by
  unfold wr
  dsimp only
  rw [run_ldAcc]
  unfold gAcc
  rw [wd_keep M i s .acc (by decide) (by decide) (by decide) (by decide) (by decide), wc_in M i s .acc (by decide) (by decide) (by decide) (by decide)]

theorem first_iff : Scalar.cmpi .eq (BitVec.ofNat 32 (i 1).val) 0#32 = 1#1 ↔ (i 1).val = 0 := by
  have h : (i 1).val < 4 := (i 1).isLt
  generalize (i 1).val = n at h
  match n, h with
  | 0, _ => decide
  | 1, _ => decide
  | 2, _ => decide
  | 3, _ => decide

theorem we_acc (r : Fin 512) (d : Fin 1024) : gAcc (we M i s) r d = accB i s r d := by
  have e0 : we M i s = (run (Prog.lift (Cmd.st (F := Ideal) (M := M) .acc (Rect.unit (s := S512x1024) ![0, 0] S512x1024.size inb_S512x1024_S512x1024_0_0)
      (k0_pay1 (wr M i s).1 (Scalar.cmpi .eq (BitVec.ofNat 32 (i 1).val) 0#32) (wr M i s).2) (View.stores_vmem_bits_univ h_S512x1024 rfl))) (wd M i s)).2 := rfl
  have e : gAcc (we M i s) r d = (Rect.unit (s := S512x1024) ![0, 0] S512x1024.size inb_S512x1024_S512x1024_0_0).overlay (wd M i s .acc)
      (k0_pay1 (wr M i s).1 (Scalar.cmpi .eq (BitVec.ofNat 32 (i 1).val) 0#32) (wr M i s).2) (ix2 r d) := by
    rw [e0]
    exact put_at (M := M) .acc (wd M i s) _ _ _ (ix2 r d)
  rw [e]
  refine (overlay2_in _ _ r d r d (by simp) (by simp)).trans ?_
  generalize hb : Scalar.cmpi .eq (BitVec.ofNat 32 (i 1).val) 0#32 = b
  have hb' : b = 1#1 ↔ (i 1).val = 0 := by rw [← hb]; exact first_iff i
  have e1 : k0_pay1 (F := Ideal) (wr M i s).1 b (wr M i s).2 (ix2 r d) = (wr M i s).1 (ix2 r d) + Scalar.select b 0 ((wr M i s).2 (ix2 r d)) := by
    pointwise [k0_pay1]
  rw [e1, wr_fst, wr_snd]
  unfold accB
  congr 1
  by_cases h : (i 1).val = 0
  · rw [if_pos h, hb'.mpr h]; rfl
  · rw [if_neg h]
    have : b ≠ 1#1 := fun e => h (hb'.mp e)
    unfold Scalar.select
    simp [this]

theorem whole_acc (r : Fin 512) (d : Fin 1024) : gAcc (run (whole (M := M) i) s).2 r d = accB i s r d := by
  rw [run_whole, ← we_acc M]
  unfold gAcc; rw [wf_keep M i s .acc (by decide) (by decide)]

/-! ## The norm's backward pass -/

def ldX : Prog (Cmd Ideal M) (Vec Ideal S512x1024 .f32) :=
  Prog.lift (.ld .x (Rect.unit (s := S512x1024) ![0, 0] S512x1024.size inb_S512x1024_S512x1024_0_0) (View.loadsAt_vmem h_S512x1024))
def ldGain : Prog (Cmd Ideal M) (Vec Ideal S1x1024 .f32) :=
  Prog.lift (.ld .gain (Rect.unit (s := S1x1024) ![0, 0] S1x1024.size inb_S1x1024_S1x1024_0_0) (View.loadsAt_vmem h_S1x1024))
def ldRes : Prog (Cmd Ideal M) (Vec Ideal S512x1024 .f32) :=
  Prog.lift (.ld .res (Rect.unit (s := S512x1024) ![0, 0] S512x1024.size inb_S512x1024_S512x1024_0_0) (View.loadsAt_vmem h_S512x1024))
def ldDg : Prog (Cmd Ideal M) (Vec Ideal S1x1024 .f32) :=
  Prog.lift (.ld .dg (Rect.unit (s := S1x1024) ![0, 0] S1x1024.size inb_S1x1024_S1x1024_0_0) (View.loadsAt_vmem h_S1x1024))
def stDx (v : Vec Ideal S512x1024 .f32) : Prog (Cmd Ideal M) PUnit :=
  Prog.lift (.st .dx (Rect.unit (s := S512x1024) ![0, 0] S512x1024.size inb_S512x1024_S512x1024_0_0) v (View.stores_vmem_bits_univ h_S512x1024 rfl))
def stDg (v : Vec Ideal S1x1024 .f32) : Prog (Cmd Ideal M) PUnit :=
  Prog.lift (.st .dg (Rect.unit (s := S1x1024) ![0, 0] S1x1024.size inb_S1x1024_S1x1024_0_0) v (View.stores_vmem_bits_univ h_S1x1024 rfl))

theorem run_ldX (r : Fin 512) (d : Fin 1024) : (run (ldX M) s).1 (ix2 r d) = gX s r d :=
  get_at .x s _ _ _ _ _ _ fun a => by fin_cases a <;> first | rfl | exact (Nat.zero_add _).symm
theorem run_ldGain (d : Fin 1024) : (run (ldGain M) s).1 (ix2 (0 : Fin 1) d) = gGain s d :=
  get_at .gain s _ _ _ _ _ _ fun a => by fin_cases a <;> first | rfl | exact (Nat.zero_add _).symm
theorem run_ldRes (r : Fin 512) (d : Fin 1024) : (run (ldRes M) s).1 (ix2 r d) = gRes s r d :=
  get_at .res s _ _ _ _ _ _ fun a => by fin_cases a <;> first | rfl | exact (Nat.zero_add _).symm
theorem run_ldDg (d : Fin 1024) : (run (ldDg M) s).1 (ix2 (0 : Fin 1) d) = gDg s d :=
  get_at .dg s _ _ _ _ _ _ fun a => by fin_cases a <;> first | rfl | exact (Nat.zero_add _).symm
theorem run_stDx (v : Vec Ideal S512x1024 .f32) (r : Fin 512) (d : Fin 1024) : gDx (run (stDx M v) s).2 r d = v (ix2 r d) :=
  (put_at (M := M) .dx s (Rect.unit (s := S512x1024) ![0, 0] S512x1024.size inb_S512x1024_S512x1024_0_0) (View.stores_vmem_bits_univ h_S512x1024 rfl) v (ix2 r d)).trans
    (overlay2_in _ _ r d r d (by simp) (by simp))
theorem run_stDg (v : Vec Ideal S1x1024 .f32) (d : Fin 1024) : gDg (run (stDg M v) s).2 d = v (ix2 (0 : Fin 1) d) :=
  (put_at (M := M) .dg s (Rect.unit (s := S1x1024) ![0, 0] S1x1024.size inb_S1x1024_S1x1024_0_0) (View.stores_vmem_bits_univ h_S1x1024 rfl) v (ix2 (0 : Fin 1) d)).trans
    (overlay2_in _ _ (0 : Fin 1) d (0 : Fin 1) d (by simp) (by simp))

theorem dx_stDg (v : Vec Ideal S1x1024 .f32) : (run (stDg M v) s).2 .dx = s .dx := by
  unfold stDg; exact keep_st _ _ _ _ (by decide) s
theorem dg_stDx (v : Vec Ideal S512x1024 .f32) : (run (stDx M v) s).2 .dg = s .dg := by
  unfold stDx; exact keep_st _ _ _ _ (by decide) s

theorem pay5_at (x a : Vec Ideal S512x1024 .f32) (g : Vec Ideal S1x1024 .f32) (r : Vec Ideal S512x1024 .f32) (p : Fin 512) (d : Fin 1024) :
    k0_pay5 x a g r (ix2 p d) = nrm (fun e => x (ix2 p e)) (fun e => a (ix2 p e)) (fun e => g (ix2 (0 : Fin 1) e)) (fun e => r (ix2 p e)) d := by
  unfold nrm rinv
  pointwise [k0_pay5, k0_pay4, k0_pay3, k0_pay2]

theorem pay6_at (x a : Vec Ideal S512x1024 .f32) (o : Vec Ideal S1x1024 .f32) (d : Fin 1024) :
    k0_pay6 x a o (ix2 (0 : Fin 1) d) = o (ix2 (0 : Fin 1) d) + ∑ y : Fin 512, a (ix2 y d) * (x (ix2 y d) * rinv fun e => x (ix2 y e)) := by
  unfold rinv
  pointwise [k0_pay6, k0_pay4, k0_pay3, k0_pay2]

/-- The norm's backward pass as two stores. -/
def nx : St Ideal := (run (stDx M (k0_pay5 (run (ldX M) s).1 (run (ldAcc (M := M)) s).1 (run (ldGain M) s).1 (run (ldRes M) s).1)) s).2

theorem run_normBwd : (run (normBwd (M := M)) s).2
    = (run (stDg M (k0_pay6 (run (ldX M) s).1 (run (ldAcc (M := M)) s).1 (run (ldDg M) (nx M s)).1)) (nx M s)).2 := by
  unfold normBwd; simp only [run_bind]; rfl

theorem norm_dx (r : Fin 512) (d : Fin 1024) :
    gDx (run (normBwd (M := M)) s).2 r d = nrm (gX s r) (gAcc s r) (gGain s) (gRes s r) d := by
  rw [run_normBwd]
  have e : ∀ v, gDx (run (stDg M v) (nx M s)).2 r d = gDx (nx M s) r d := fun v =>
    congrFun (dx_stDg M (nx M s) v) (ix2 r d)
  rw [e]
  unfold nx
  rw [run_stDx, pay5_at]
  simp only [run_ldX, run_ldAcc, run_ldGain, run_ldRes]

theorem norm_dg (d : Fin 1024) :
    gDg (run (normBwd (M := M)) s).2 d = gDg s d + ∑ y : Fin 512, gAcc s y d * (gX s y d * rinv (gX s y)) := by
  rw [run_normBwd, run_stDg, pay6_at]
  have e : gDg (nx M s) d = gDg s d := congrFun (dg_stDx M s _) (ix2 (0 : Fin 1) d)
  simp only [run_ldX, run_ldAcc, run_ldDg, e]

theorem we_same (b : Cell) (h1 : b ≠ .dg) (h2 : b ≠ .ddw) (h3 : b ≠ .ddb) (h4 : b ≠ .dz) (h5 : b ≠ .du) (h6 : b ≠ .da) (h7 : b ≠ .acc) : we M i s b = s b :=
  (we_keep M i s b h7).trans <| (wd_keep M i s b h5 h2 h3 h6 h4).trans (wc_in M i s b h1 h2 h3 h4)

theorem we_gX : gX (we M i s) = gX s := by
  funext r d; unfold gX
  rw [we_same M i s .x (by decide) (by decide) (by decide) (by decide) (by decide) (by decide) (by decide)]

theorem whole_dx (h : k0_cond3 i = 1#1) (r : Fin 512) (d : Fin 1024) :
    gDx (run (whole (M := M) i) s).2 r d = nrm (gX s r) (accB i s r) (gGain s) (gRes s r) d := by
  rw [run_whole]
  have e : wf M i s = (run (normBwd (M := M)) (we M i s)).2 := by unfold wf; rw [if_pos h]
  have e1 : gGain (we M i s) = gGain s := by
    funext d; unfold gGain
    rw [we_same M i s .gain (by decide) (by decide) (by decide) (by decide) (by decide) (by decide) (by decide)]
  have e2 : gRes (we M i s) r = gRes s r := by
    funext d; unfold gRes
    rw [we_same M i s .res (by decide) (by decide) (by decide) (by decide) (by decide) (by decide) (by decide)]
  have e3 : gAcc (we M i s) r = accB i s r := funext fun d => we_acc M i s r d
  rw [e, norm_dx, we_gX, e1, e2, e3]

theorem whole_dg (d : Fin 1024) :
    gDg (run (whole (M := M) i) s).2 d
      = (if k0_cond1 i = 1#1 then 0 else gDg s d) + if k0_cond3 i = 1#1 then ∑ y : Fin 512, accB i s y d * (gX s y d * rinv (gX s y)) else 0 := by
  have e1 : gDg (we M i s) d = if k0_cond1 i = 1#1 then 0 else gDg s d := by
    rw [← wa_dg M]
    unfold gDg
    rw [we_keep M i s .dg (by decide), wd_keep M i s .dg (by decide) (by decide) (by decide) (by decide) (by decide), wc_keep M i s .dg (by decide),
      wb_keep M i s .dg (by decide) (by decide)]
  rw [run_whole]
  by_cases h : k0_cond3 i = 1#1
  · have e : wf M i s = (run (normBwd (M := M)) (we M i s)).2 := by unfold wf; rw [if_pos h]
    rw [e, norm_dg, e1, we_gX, if_pos h]
    simp only [we_acc]
  · have e : wf M i s = we M i s := by unfold wf; rw [if_neg h]; rfl
    rw [e, e1, if_neg h, add_zero]

end Stages

end Cert.FfnBwd
-- ==== Proof.Values.lean ====
/-
  What the run leaves in the outputs' buffers at each point at the real numbers, as sums over the points so far, and that the body
  keeps it.
-/
module

public import proofs.«01_k».proof.Proof.Body
public import proofs.«01_k».proof.Proof.Region

@[expose] public section

set_option maxRecDepth 16384

noncomputable section

namespace Cert.FfnBwd

open Idealize.ShloMosaic Idealize.ShloMosaic.TcCoe Idealize.ShloMosaic.Tactic Idealize.SL.Sem
open Idealize.ShloMosaic.Pipeline (Dat RDat Cfg Window)
open Cert.KernelIdeal Cert.KernelIdeal.Gen

variable (m : (ℓ : Loc nD τ sig) → Buf (Elt Ideal) ℓ) (c : Dev nD)

/-! ## The grid -/

theorem coord0 (t : Fin cfg0.N) : (grid0.coords t 0).val = t.val / 4 := by
  have e0 : (grid0.coords t 0).val = t.val / 4 % 8 := Pipeline.Grid.coords_val t 0 (by decide) rfl
  have h : t.val < 32 := t.isLt
  omega
theorem coord1 (t : Fin cfg0.N) : (grid0.coords t 1).val = t.val % 4 := by
  have e1 : (grid0.coords t 1).val = t.val / 1 % 4 := Pipeline.Grid.coords_val t 1 (by decide) rfl
  omega

theorem cond1_iff (t : Fin cfg0.N) : k0_cond1 (grid0.coords t) = 1#1 ↔ t.val = 0 := by
  have h : t.val < 32 := t.isLt
  simp only [k0_cond1, coord0, coord1]; word_cmp
theorem cond2_iff (t : Fin cfg0.N) : k0_cond2 (grid0.coords t) = 1#1 ↔ t.val < 4 := by
  have h : t.val < 32 := t.isLt
  simp only [k0_cond2, coord0]; word_cmp
theorem cond3_iff (t : Fin cfg0.N) : k0_cond3 (grid0.coords t) = 1#1 ↔ t.val % 4 = 3 := by
  have h : t.val < 32 := t.isLt
  simp only [k0_cond3, coord1]; word_cmp

/-! ## The points' parts -/

/-- The input windows' blocks at a point, everything else zero. -/
def inp (t : Fin cfg0.N) : St Ideal :=
  state m c t (fun _ => 0) (fun _ => 0) (fun _ => 0) (fun _ => 0) (fun _ => 0) (fun _ => 0) (fun _ => 0) (fun _ => 0)

def pt (k : ℕ) (h : k < 32) : Fin cfg0.N := ⟨k, h⟩

def duP (t : Fin cfg0.N) (a : Fin 2) (y : Fin 512) (l : Fin 704) : EReal := duB (grid0.coords t) (inp m c t) a y l

/-- The parts of point `k`: of the conv's gradients, of the input's gradient, and the latter summed over the tile's shards so far. -/
def tapP (k : ℕ) (a : Fin 2) (b : Fin 3) (l : Fin 704) : EReal := if h : k < 32 then tapB (grid0.coords (pt k h)) (inp m c (pt k h)) a b l else 0
def biasP (k : ℕ) (a : Fin 2) (l : Fin 704) : EReal := if h : k < 32 then biasB (grid0.coords (pt k h)) (inp m c (pt k h)) a l else 0
def partP (k : ℕ) (r : Fin 512) (d : Fin 1024) : EReal := if h : k < 32 then partB (grid0.coords (pt k h)) (inp m c (pt k h)) r d else 0
def accP (k : ℕ) (r : Fin 512) (d : Fin 1024) : EReal := ∑ q ∈ Finset.range (k % 4 + 1), partP m c (k - k % 4 + q) r d
def dgP (k : ℕ) (d : Fin 1024) : EReal :=
  if h : k < 32 then (if k % 4 = 3 then ∑ y : Fin 512, accP m c k y d * (gX (inp m c (pt k h)) y d * rinv (gX (inp m c (pt k h)) y)) else 0) else 0

def ddwS (n : ℕ) (j : Fin 4) (a : Fin 2) (b : Fin 3) (l : Fin 704) : EReal :=
  ∑ k ∈ Finset.range n, if k % 4 = j.val then tapP m c k a b.rev l else 0
def ddbS (n : ℕ) (j : Fin 4) (a : Fin 2) (l : Fin 704) : EReal := ∑ k ∈ Finset.range n, if k % 4 = j.val then biasP m c k a l else 0
def dgS (n : ℕ) (d : Fin 1024) : EReal := ∑ k ∈ Finset.range n, dgP m c k d
def dxP (t : Fin cfg0.N) (r : Fin 512) (d : Fin 1024) : EReal :=
  nrm (gX (inp m c t) r) (accP m c t.val r) (gGain (inp m c t)) (gRes (inp m c t) r) d

/-! ## The claim -/

def spec : Spec Ideal where
  out w t X := match w, X with
    | ⟨11, _⟩, X => ∀ (a : Fin 2) (y : Fin 512) (l : Fin 704), X (ix4 a (0 : Fin 1) y l) = duP m c t a y l
    | ⟨12, _⟩, X => ∀ (j : Fin 4) (a : Fin 2) (b : Fin 3) (l : Fin 704), j.val ≤ t.val → X (ix4 j a b l) = ddwS m c (t.val + 1) j a b l
    | ⟨13, _⟩, X => ∀ (j : Fin 4) (a : Fin 2) (l : Fin 704), j.val ≤ t.val → X (ix4 j a (0 : Fin 1) l) = ddbS m c (t.val + 1) j a l
    | ⟨14, _⟩, X => t.val % 4 = 3 → ∀ (r : Fin 512) (d : Fin 1024), X (ix2 r d) = dxP m c t r d
    | ⟨15, _⟩, X => ∀ d : Fin 1024, X (ix2 (0 : Fin 1) d) = dgS m c (t.val + 1) d
    | _, _ => True
  acc n A := n % 4 ≠ 0 → ∀ (r : Fin 512) (d : Fin 1024), A (ix2 r d) = accP m c (n - 1) r d

section Step
variable {m c}

theorem tapP_at (t : Fin cfg0.N) (a : Fin 2) (b : Fin 3) (l : Fin 704) : tapP m c t.val a b l = tapB (grid0.coords t) (inp m c t) a b l := by
  unfold tapP; rw [dif_pos (show t.val < 32 from t.isLt)]; rfl
theorem biasP_at (t : Fin cfg0.N) (a : Fin 2) (l : Fin 704) : biasP m c t.val a l = biasB (grid0.coords t) (inp m c t) a l := by
  unfold biasP; rw [dif_pos (show t.val < 32 from t.isLt)]; rfl
theorem partP_at (t : Fin cfg0.N) (r : Fin 512) (d : Fin 1024) : partP m c t.val r d = partB (grid0.coords t) (inp m c t) r d := by
  unfold partP; rw [dif_pos (show t.val < 32 from t.isLt)]; rfl
theorem dgP_at (t : Fin cfg0.N) (d : Fin 1024) :
    dgP m c t.val d = if t.val % 4 = 3 then ∑ y : Fin 512, accP m c t.val y d * (gX (inp m c t) y d * rinv (gX (inp m c t) y)) else 0 := by
  unfold dgP; rw [dif_pos (show t.val < 32 from t.isLt)]; rfl

variable {t : Fin cfg0.N} {du : S2x1x512x704.Idx → Elt Ideal .bf16} {ddw : S4x2x3x704.Idx → Elt Ideal .f32} {ddb : S4x2x1x704.Idx → Elt Ideal .f32}
  {dx : S512x1024.Idx → Elt Ideal .f32} {dg : S1x1024.Idx → Elt Ideal .f32} {dz : S528x704.Idx → Elt Ideal .f32} {da : S2x3x528x704.Idx → Elt Ideal .f32}
  {acc : S512x1024.Idx → Elt Ideal .f32}

theorem accB_state (h : t.val % 4 ≠ 0 → ∀ (r : Fin 512) (d : Fin 1024), acc (ix2 r d) = accP m c (t.val - 1) r d) (r : Fin 512) (d : Fin 1024) :
    accB (grid0.coords t) (state m c t du ddw ddb dx dg dz da acc) r d = accP m c t.val r d := by
  have e : accB (grid0.coords t) (state m c t du ddw ddb dx dg dz da acc) r d
      = partB (grid0.coords t) (inp m c t) r d + (if (grid0.coords t 1).val = 0 then 0 else acc (ix2 r d)) := rfl
  rw [e, coord1]
  unfold accP
  rw [Finset.sum_range_succ, add_comm, Nat.sub_add_cancel (Nat.mod_le _ _), partP_at]
  congr 1
  by_cases h0 : t.val % 4 = 0
  · rw [if_pos h0, h0]; rfl
  · rw [if_neg h0, h h0]
    unfold accP
    have e1 : (t.val - 1) % 4 + 1 = t.val % 4 := by omega
    have e2 : t.val - 1 - (t.val - 1) % 4 = t.val - t.val % 4 := by omega
    rw [e1, e2]

variable (m c t)

theorem prev12 (h0 : t.val ≠ 0) (h : (rdat m (spec m c) c).Finds 12 t ddw) (j : Fin 4) (a : Fin 2) (b : Fin 3) (l : Fin 704) (hj : j.val < t.val) :
    ddw (ix4 j a b l) = ddwS m c t.val j a b l := by
  have hlt : t.val < 32 := t.isLt
  have hf : (cfg0.win 12).fetch t = false := rfl
  rcases ((rdat m (spec m c) c).finds_of_pos hf h0 ddw).mp h with hfl | hl
  · have := (flush0_12 _).mp hfl
    simp only at this; omega
  · have h2 := (dat m (spec m c) c).toRRel_leaves (fgt := isOut) (Rl := (spec m c).out) (w := 12) rfl hl
    have h3 : ∀ (j : Fin 4) (a : Fin 2) (b : Fin 3) (l : Fin 704), j.val ≤ t.val - 1 → ddw (ix4 j a b l) = ddwS m c (t.val - 1 + 1) j a b l := h2
    rw [h3 j a b l (by omega), Nat.sub_add_cancel (by omega)]

theorem prev13 (h0 : t.val ≠ 0) (h : (rdat m (spec m c) c).Finds 13 t ddb) (j : Fin 4) (a : Fin 2) (l : Fin 704) (hj : j.val < t.val) :
    ddb (ix4 j a (0 : Fin 1) l) = ddbS m c t.val j a l := by
  have hlt : t.val < 32 := t.isLt
  have hf : (cfg0.win 13).fetch t = false := rfl
  rcases ((rdat m (spec m c) c).finds_of_pos hf h0 ddb).mp h with hfl | hl
  · have := (flush0_13 _).mp hfl
    simp only at this; omega
  · have h2 := (dat m (spec m c) c).toRRel_leaves (fgt := isOut) (Rl := (spec m c).out) (w := 13) rfl hl
    have h3 : ∀ (j : Fin 4) (a : Fin 2) (l : Fin 704), j.val ≤ t.val - 1 → ddb (ix4 j a (0 : Fin 1) l) = ddbS m c (t.val - 1 + 1) j a l := h2
    rw [h3 j a l (by omega), Nat.sub_add_cancel (by omega)]

theorem prev15 (h0 : t.val ≠ 0) (h : (rdat m (spec m c) c).Finds 15 t dg) (d : Fin 1024) : dg (ix2 (0 : Fin 1) d) = dgS m c t.val d := by
  have hlt : t.val < 32 := t.isLt
  have hf : (cfg0.win 15).fetch t = false := rfl
  rcases ((rdat m (spec m c) c).finds_of_pos hf h0 dg).mp h with hfl | hl
  · have := (flush0_15 _).mp hfl
    simp only at this; omega
  · have h2 := (dat m (spec m c) c).toRRel_leaves (fgt := isOut) (Rl := (spec m c).out) (w := 15) rfl hl
    have h3 : ∀ d : Fin 1024, dg (ix2 (0 : Fin 1) d) = dgS m c (t.val - 1 + 1) d := h2
    rw [h3 d, Nat.sub_add_cancel (by omega)]

/-- A shard's sum over the first points, before its own first one. -/
theorem sum_before (f : ℕ → EReal) (n j : ℕ) (hn : n < 4) (hj : n ≤ j) (h4 : j < 4) : ∑ k ∈ Finset.range n, (if k % 4 = j then f k else 0) = 0 := by
  refine Finset.sum_eq_zero fun k hk => if_neg ?_
  have := Finset.mem_range.mp hk
  omega

theorem step : (spec m c).Step m c := by
  intro t du ddw ddb dx dg dz da acc h12 h13 h15 hacc
  have hlt : t.val < 32 := t.isLt
  have hA : ∀ (r : Fin 512) (d : Fin 1024), accB (grid0.coords t) (state m c t du ddw ddb dx dg dz da acc) r d = accP m c t.val r d := accB_state hacc
  refine ⟨?_, ?_, ?_, ?_, ?_, ?_⟩
  · intro a y l
    exact whole_du (mems t) (grid0.coords t) _ a y l
  · intro j a b l hj
    refine (whole_ddw (mems t) (grid0.coords t) _ j a b l).trans ?_
    rw [coord1]
    unfold ddwS
    rw [Finset.sum_range_succ]
    have et : tapB (grid0.coords t) (state m c t du ddw ddb dx dg dz da acc) a b.rev l = tapP m c t.val a b.rev l := (tapP_at t a b.rev l).symm
    by_cases hjt : j.val = t.val % 4
    · rw [if_pos hjt, if_pos hjt.symm, et]
      congr 1
      by_cases h4 : t.val < 4
      · rw [if_pos ((cond2_iff t).mpr h4), sum_before _ _ _ h4 (by omega) j.isLt]
      · rw [if_neg fun e => h4 ((cond2_iff t).mp e)]
        exact prev12 m c t (by omega) h12 j a b l (by have := j.isLt; omega)
    · rw [if_neg hjt, if_neg (fun e => hjt e.symm), add_zero]
      have hjl : j.val < t.val := by have := j.isLt; omega
      exact prev12 m c t (by omega) h12 j a b l hjl
  · intro j a l hj
    refine (whole_ddb (mems t) (grid0.coords t) _ j a l).trans ?_
    rw [coord1]
    unfold ddbS
    rw [Finset.sum_range_succ]
    have et : biasB (grid0.coords t) (state m c t du ddw ddb dx dg dz da acc) a l = biasP m c t.val a l := (biasP_at t a l).symm
    by_cases hjt : j.val = t.val % 4
    · rw [if_pos hjt, if_pos hjt.symm, et]
      congr 1
      by_cases h4 : t.val < 4
      · rw [if_pos ((cond2_iff t).mpr h4), sum_before _ _ _ h4 (by omega) j.isLt]
      · rw [if_neg fun e => h4 ((cond2_iff t).mp e)]
        exact prev13 m c t (by omega) h13 j a l (by have := j.isLt; omega)
    · rw [if_neg hjt, if_neg (fun e => hjt e.symm), add_zero]
      have hjl : j.val < t.val := by have := j.isLt; omega
      exact prev13 m c t (by omega) h13 j a l hjl
  · intro h3 r d
    refine (whole_dx (mems t) (grid0.coords t) _ ((cond3_iff t).mpr h3) r d).trans ?_
    have e : accB (grid0.coords t) (state m c t du ddw ddb dx dg dz da acc) r = accP m c t.val r := funext fun d => hA r d
    rw [e]; rfl
  · intro d
    refine (whole_dg (mems t) (grid0.coords t) _ d).trans ?_
    unfold dgS
    rw [Finset.sum_range_succ, dgP_at]
    congr 1
    · by_cases h0 : t.val = 0
      · rw [if_pos ((cond1_iff t).mpr h0), h0]; rfl
      · rw [if_neg fun e => h0 ((cond1_iff t).mp e)]
        exact prev15 m c t h0 h15 d
    · by_cases h3 : t.val % 4 = 3
      · rw [if_pos ((cond3_iff t).mpr h3), if_pos h3]
        simp only [hA]; rfl
      · rw [if_neg fun e => h3 ((cond3_iff t).mp e), if_neg h3]
  · intro _ r d
    exact (whole_acc (mems t) (grid0.coords t) _ r d).trans (hA r d)

end Step

end Cert.FfnBwd
-- ==== Proof.Host.lean ====
/-
  The arrays the host prepares for the kernel, each as a term of the arguments: the operations in four windows, read off one at a time.
-/
module

public import proofs.«01_k».proof.Proof.Gen.KernelIdeal.Frame
public import proofs.«01_k».proof.Proof.Math
public import Idealize.ShloMosaic.Lib.Pointwise

@[expose] public section

set_option maxRecDepth 65536

noncomputable section

namespace Cert.FfnBwd

open Idealize.ShloMosaic Idealize.ShloMosaic.TcCoe Idealize.ShloMosaic.Tactic Idealize.SL.Sem Idealize.ShloMosaic.StableHlo
open Cert.KernelIdeal Cert.KernelIdeal.Gen

section Run
variable {F : FTy → Type} [FloatOps F]

/-- The operations up to `u`, up to the convolution, up to the gate's two factors, and the layouts. -/
def ops1 : List (HloOp τ sig (Elt F)) := hostOps0.take 17
def ops2 : List (HloOp τ sig (Elt F)) := (hostOps0.drop 17).take 26
def ops3 : List (HloOp τ sig (Elt F)) := (hostOps0.drop 43).take 23
def ops4 : List (HloOp τ sig (Elt F)) := hostOps0.drop 66

theorem ops_split : (hostOps0 : List (HloOp τ sig (Elt F))) = ops1 ++ (ops2 ++ (ops3 ++ ops4)) := rfl

variable (f : (b : DevRef τ sig) → b.ty.Contents (Elt F))

omit [FloatOps F] in
theorem after_split (l k : List (HloOp τ sig (Elt F))) (b : DevRef τ sig) : after (l ++ k) f b = after k (after l f) b := by
  induction l generalizing f with
  | nil => rfl
  | cons o l ih => exact ih _

end Run

section Ideal
variable (f : (b : DevRef τ sig) → b.ty.Contents (Elt Ideal))

/-- The arguments, as functions of an index. -/
def argsOf : Args where
  x b s d := f main_arg0 (ix3 b s d)
  gain d := f main_arg1 (ix1 d)
  wi d c := f main_arg2 (ix2 d c)
  cw k c := f main_arg3 (ix2 k c)
  cb c := f main_arg4 (ix1 c)
  wo e d := f main_arg5 (ix2 e d)
  dy b s d := f main_arg6 (ix3 b s d)
  res b s d := f main_arg7 (ix3 b s d)

theorem ops1_u (b : Fin 2) (s : Fin 2048) (c : Fin 5632) : after ops1 f main_v13 (ix3 b s c) = (argsOf f).U b s c := by
  unfold ops1
  dsimp only [hostOps0, List.take]
  after_results
  pointwise
  unfold Args.U Args.rv rinv argsOf
  simp [pointwise]

theorem ops2_c (A : Args) (hu : ∀ b s c, f main_v13 (ix3 b s c) = A.U b s c) (hw : ∀ k c, f main_arg3 (ix2 k c) = A.cw k c)
    (hb : ∀ c, f main_arg4 (ix1 c) = A.cb c) (b : Fin 2) (s : Fin 2048) (c : Fin 5632) : after ops2 f main_v38 (ix3 b s c) = A.C b s c := by
  unfold ops2
  dsimp only [hostOps0, List.take, List.drop]
  after_results
  pointwise
  simp only [hu, hw, hb]
  rfl

theorem ops3_ag (A : Args) (hc : ∀ b s c, f main_v38 (ix3 b s c) = A.C b s c) (a b : Fin 2) (s : Fin 2048) (e : Fin 2816) :
    after ops3 f main_v57 (ix4 a b s e) = A.AG a b s e := by
  unfold ops3
  dsimp only [hostOps0, List.take, List.drop]
  after_results
  pointwise
  simp only [hc]
  unfold Args.AG
  by_cases h : a.val < 1
  · rw [dif_pos h, if_pos (by omega)]; rfl
  · rw [dif_neg h, if_neg (by omega)]; rfl

/-- The layouts. -/
theorem ops4_u (a : Fin 2) (j : Fin 4) (R : Fin 4096) (l : Fin 704) :
    after ops4 f main_v76 (ix4 a j R l) = f main_v13 (ix3 (rb R) (rs R) (ch a j l)) := by
  unfold ops4
  dsimp only [hostOps0, List.take, List.drop]
  after_results
  pointwise
  try rfl

theorem ops4_ag (a : Fin 2) (j : Fin 4) (R : Fin 4096) (l : Fin 704) :
    after ops4 f main_v63 (ix4 a j R l) = f main_v57 (ix4 a (rb R) (rs R) (col j l)) := by
  unfold ops4
  dsimp only [hostOps0, List.take, List.drop]
  after_results
  pointwise
  try rfl

theorem ops4_wt (a : Fin 2) (j : Fin 4) (l : Fin 704) (d : Fin 1024) :
    after ops4 f main_v77 (ix4 a j l d) = f main_arg2 (ix2 d (ch a j l)) := by
  unfold ops4
  dsimp only [hostOps0, List.take, List.drop]
  after_results
  pointwise
  try rfl

theorem ops4_wo (j : Fin 4) (l : Fin 704) (d : Fin 1024) :
    after ops4 f main_v68 (ix4 (0 : Fin 1) j l d) = f main_arg5 (ix2 (col j l) d) := by
  unfold ops4
  dsimp only [hostOps0, List.take, List.drop]
  after_results
  pointwise
  try rfl

theorem ops4_cw (a : Fin 2) (j : Fin 4) (k : Fin 3) (l : Fin 704) :
    after ops4 f main_v78 (ix5 a j (0 : Fin 1) k l) = f main_arg3 (ix2 k (ch a j l)) := by
  unfold ops4
  dsimp only [hostOps0, List.take, List.drop]
  after_results
  pointwise
  try rfl

theorem ops4_dy (R : Fin 4096) (d : Fin 1024) :
    after ops4 f main_v73 (ix3 (0 : Fin 1) R d) = f main_arg6 (ix3 (rb R) (rs R) d) := by
  unfold ops4
  dsimp only [hostOps0, List.take, List.drop]
  after_results
  pointwise
  try rfl

theorem ops4_x (R : Fin 4096) (d : Fin 1024) :
    after ops4 f main_v74 (ix2 R d) = f main_arg0 (ix3 (rb R) (rs R) d) := by
  unfold ops4
  dsimp only [hostOps0, List.take, List.drop]
  after_results
  pointwise
  try rfl

theorem ops4_res (R : Fin 4096) (d : Fin 1024) :
    after ops4 f main_v75 (ix2 R d) = f main_arg7 (ix3 (rb R) (rs R) d) := by
  unfold ops4
  dsimp only [hostOps0, List.take, List.drop]
  after_results
  pointwise
  try rfl

theorem ops4_gain (d : Fin 1024) : after ops4 f main_v79 (ix2 (0 : Fin 1) d) = f main_arg1 (ix1 d) := by
  unfold ops4
  dsimp only [hostOps0, List.take, List.drop]
  after_results
  pointwise
  try rfl
theorem ops1_keep_arg0 : after ops1 f main_arg0 = f main_arg0 := by
  unfold ops1; dsimp only [hostOps0, List.take, List.drop]; after_results
theorem ops1_keep_arg1 : after ops1 f main_arg1 = f main_arg1 := by
  unfold ops1; dsimp only [hostOps0, List.take, List.drop]; after_results
theorem ops1_keep_arg2 : after ops1 f main_arg2 = f main_arg2 := by
  unfold ops1; dsimp only [hostOps0, List.take, List.drop]; after_results
theorem ops1_keep_arg3 : after ops1 f main_arg3 = f main_arg3 := by
  unfold ops1; dsimp only [hostOps0, List.take, List.drop]; after_results
theorem ops1_keep_arg4 : after ops1 f main_arg4 = f main_arg4 := by
  unfold ops1; dsimp only [hostOps0, List.take, List.drop]; after_results
theorem ops1_keep_arg5 : after ops1 f main_arg5 = f main_arg5 := by
  unfold ops1; dsimp only [hostOps0, List.take, List.drop]; after_results
theorem ops1_keep_arg6 : after ops1 f main_arg6 = f main_arg6 := by
  unfold ops1; dsimp only [hostOps0, List.take, List.drop]; after_results
theorem ops1_keep_arg7 : after ops1 f main_arg7 = f main_arg7 := by
  unfold ops1; dsimp only [hostOps0, List.take, List.drop]; after_results
theorem ops2_keep_v13 : after ops2 f main_v13 = f main_v13 := by
  unfold ops2; dsimp only [hostOps0, List.take, List.drop]; after_results
theorem ops2_keep_arg0 : after ops2 f main_arg0 = f main_arg0 := by
  unfold ops2; dsimp only [hostOps0, List.take, List.drop]; after_results
theorem ops2_keep_arg1 : after ops2 f main_arg1 = f main_arg1 := by
  unfold ops2; dsimp only [hostOps0, List.take, List.drop]; after_results
theorem ops2_keep_arg2 : after ops2 f main_arg2 = f main_arg2 := by
  unfold ops2; dsimp only [hostOps0, List.take, List.drop]; after_results
theorem ops2_keep_arg3 : after ops2 f main_arg3 = f main_arg3 := by
  unfold ops2; dsimp only [hostOps0, List.take, List.drop]; after_results
theorem ops2_keep_arg5 : after ops2 f main_arg5 = f main_arg5 := by
  unfold ops2; dsimp only [hostOps0, List.take, List.drop]; after_results
theorem ops2_keep_arg6 : after ops2 f main_arg6 = f main_arg6 := by
  unfold ops2; dsimp only [hostOps0, List.take, List.drop]; after_results
theorem ops2_keep_arg7 : after ops2 f main_arg7 = f main_arg7 := by
  unfold ops2; dsimp only [hostOps0, List.take, List.drop]; after_results
theorem ops3_keep_v13 : after ops3 f main_v13 = f main_v13 := by
  unfold ops3; dsimp only [hostOps0, List.take, List.drop]; after_results
theorem ops3_keep_arg0 : after ops3 f main_arg0 = f main_arg0 := by
  unfold ops3; dsimp only [hostOps0, List.take, List.drop]; after_results
theorem ops3_keep_arg1 : after ops3 f main_arg1 = f main_arg1 := by
  unfold ops3; dsimp only [hostOps0, List.take, List.drop]; after_results
theorem ops3_keep_arg2 : after ops3 f main_arg2 = f main_arg2 := by
  unfold ops3; dsimp only [hostOps0, List.take, List.drop]; after_results
theorem ops3_keep_arg3 : after ops3 f main_arg3 = f main_arg3 := by
  unfold ops3; dsimp only [hostOps0, List.take, List.drop]; after_results
theorem ops3_keep_arg5 : after ops3 f main_arg5 = f main_arg5 := by
  unfold ops3; dsimp only [hostOps0, List.take, List.drop]; after_results
theorem ops3_keep_arg6 : after ops3 f main_arg6 = f main_arg6 := by
  unfold ops3; dsimp only [hostOps0, List.take, List.drop]; after_results
theorem ops3_keep_arg7 : after ops3 f main_arg7 = f main_arg7 := by
  unfold ops3; dsimp only [hostOps0, List.take, List.drop]; after_results

/-! ## The region's entry contents -/

variable (m : (ℓ : Loc nD τ sig) → Buf (Elt Ideal) ℓ) (c : Dev nD)

def theArgs : Args := argsOf fun b => m (c, b)

theorem V_eq (b : Ref sig .tc) : V m c b = after ops4 (after ops3 (after ops2 (after ops1 fun b => m (c, b)))) b := by
  have e : V m c b = after hostOps0 (fun b => m (c, b)) b := rfl
  rw [e, ops_split, after_split, after_split, after_split]

theorem V_u (a : Fin 2) (j : Fin 4) (R : Fin 4096) (l : Fin 704) : V m c main_v76 (ix4 a j R l) = (theArgs m c).U (rb R) (rs R) (ch a j l) := by
  rw [V_eq, ops4_u, ops3_keep_v13, ops2_keep_v13, ops1_u]; rfl
theorem V_ag (a : Fin 2) (j : Fin 4) (R : Fin 4096) (l : Fin 704) : V m c main_v63 (ix4 a j R l) = (theArgs m c).AG a (rb R) (rs R) (col j l) := by
  rw [V_eq, ops4_ag]
  exact ops3_ag _ _ (fun b s d => ops2_c _ _ (fun b s d => ops1_u _ b s d) (fun k d => by rw [ops1_keep_arg3]; rfl) (fun d => by rw [ops1_keep_arg4]; rfl) b s d) _ _ _ _
theorem V_wt (a : Fin 2) (j : Fin 4) (l : Fin 704) (d : Fin 1024) : V m c main_v77 (ix4 a j l d) = (theArgs m c).wi d (ch a j l) := by
  rw [V_eq, ops4_wt, ops3_keep_arg2, ops2_keep_arg2, ops1_keep_arg2]; rfl
theorem V_wo (j : Fin 4) (l : Fin 704) (d : Fin 1024) : V m c main_v68 (ix4 (0 : Fin 1) j l d) = (theArgs m c).wo (col j l) d := by
  rw [V_eq, ops4_wo, ops3_keep_arg5, ops2_keep_arg5, ops1_keep_arg5]; rfl
theorem V_cw (a : Fin 2) (j : Fin 4) (k : Fin 3) (l : Fin 704) : V m c main_v78 (ix5 a j (0 : Fin 1) k l) = (theArgs m c).cw k (ch a j l) := by
  rw [V_eq, ops4_cw, ops3_keep_arg3, ops2_keep_arg3, ops1_keep_arg3]; rfl
theorem V_dy (R : Fin 4096) (d : Fin 1024) : V m c main_v73 (ix3 (0 : Fin 1) R d) = (theArgs m c).dy (rb R) (rs R) d := by
  rw [V_eq, ops4_dy, ops3_keep_arg6, ops2_keep_arg6, ops1_keep_arg6]; rfl
theorem V_x (R : Fin 4096) (d : Fin 1024) : V m c main_v74 (ix2 R d) = (theArgs m c).x (rb R) (rs R) d := by
  rw [V_eq, ops4_x, ops3_keep_arg0, ops2_keep_arg0, ops1_keep_arg0]; rfl
theorem V_res (R : Fin 4096) (d : Fin 1024) : V m c main_v75 (ix2 R d) = (theArgs m c).res (rb R) (rs R) d := by
  rw [V_eq, ops4_res, ops3_keep_arg7, ops2_keep_arg7, ops1_keep_arg7]; rfl
theorem V_gain (d : Fin 1024) : V m c main_v79 (ix2 (0 : Fin 1) d) = (theArgs m c).gain d := by
  rw [V_eq, ops4_gain, ops3_keep_arg1, ops2_keep_arg1, ops1_keep_arg1]; rfl
end Ideal

end Cert.FfnBwd
-- ==== Proof.Windows.lean ====
/-
  The input windows' blocks at an index: what they hold of the arguments.
-/
module

public import proofs.«01_k».proof.Proof.Values
public import proofs.«01_k».proof.Proof.Host
public import Idealize.ShloMosaic.Lib.Pipeline.ValueKit

@[expose] public section

set_option maxRecDepth 16384

noncomputable section

namespace Cert.FfnBwd

open Idealize.ShloMosaic Idealize.ShloMosaic.TcCoe Idealize.ShloMosaic.Tactic Idealize.SL.Sem
open Idealize.ShloMosaic.Pipeline (Dat RDat Cfg Window)
open Cert.KernelIdeal Cert.KernelIdeal.Gen

/-! ## The index maps -/

theorem idx0 : ∀ t : Fin cfg0.N, win0_0.index t = ![0, t.val / 4, 0] := by decide +kernel
theorem idx1 : ∀ t : Fin cfg0.N, win0_1.index t = ![0, min ((t.val / 4 + 1) * 32) 255, 0] := by decide +kernel
theorem idx2 : ∀ t : Fin cfg0.N, win0_2.index t = ![0, t.val % 4, 0, 0] := by decide +kernel
theorem idx3 : ∀ t : Fin cfg0.N, win0_3.index t = ![0, t.val % 4, t.val / 4, 0] := by decide +kernel
theorem idx4 : ∀ t : Fin cfg0.N, win0_4.index t = ![0, t.val % 4, t.val / 4, 0] := by decide +kernel
theorem idx5 : ∀ t : Fin cfg0.N, win0_5.index t = ![0, t.val % 4, min ((t.val / 4 + 1) * 32) 255, 0] := by decide +kernel
theorem idx6 : ∀ t : Fin cfg0.N, win0_6.index t = ![0, t.val % 4, 0, 0, 0] := by decide +kernel
theorem idx7 : ∀ t : Fin cfg0.N, win0_7.index t = ![0, t.val % 4, 0, 0] := by decide +kernel
theorem idx8 : ∀ t : Fin cfg0.N, win0_8.index t = ![t.val / 4, 0] := by decide +kernel
theorem idx9 : ∀ t : Fin cfg0.N, win0_9.index t = ![0, 0] := by decide +kernel
theorem idx10 : ∀ t : Fin cfg0.N, win0_10.index t = ![t.val / 4, 0] := by decide +kernel
theorem idx11 : ∀ t : Fin cfg0.N, win0_11.index t = ![0, t.val % 4, t.val / 4, 0] := by decide +kernel
theorem idx14 : ∀ t : Fin cfg0.N, win0_14.index t = ![t.val / 4, 0] := by decide +kernel

/-! ## The blocks -/

variable (m : (ℓ : Loc nD τ sig) → Buf (Elt Ideal) ℓ) (c : Dev nD) (t : Fin cfg0.N)

/-- A tile's row, its halo's row, a point's shard. -/
def trow (t : Fin cfg0.N) (y : Fin 512) : Fin 4096 := ⟨t.val / 4 * 512 + y.val, by have h : t.val < 32 := t.isLt; omega⟩
def hrow (t : Fin cfg0.N) (y : Fin 16) : Fin 4096 := ⟨min ((t.val / 4 + 1) * 32) 255 * 16 + y.val, by omega⟩
def tsh (t : Fin cfg0.N) : Fin 4 := ⟨t.val % 4, by omega⟩

theorem read0 (G : Buf (Elt Ideal) ((c : Thread nD τ).loc main_v73)) (y : Fin 512) (d : Fin 1024) :
    ((cfg0.win 0).blk t).view.read (Elt Ideal) G (ix3 (0 : Fin 1) y d) = G (ix3 (0 : Fin 1) (trow t y) d) := by
  blk_ext [idx0 t, trow]
theorem inp_dy (y : Fin 512) (d : Fin 1024) : gDy (inp m c t) y d = (theArgs m c).dy (rb (trow t y)) (rs (trow t y)) d :=
  (read0 c t (V m c main_v73) y d).trans (V_dy m c (trow t y) d)
theorem read1 (G : Buf (Elt Ideal) ((c : Thread nD τ).loc main_v73)) (y : Fin 16) (d : Fin 1024) :
    ((cfg0.win 1).blk t).view.read (Elt Ideal) G (ix3 (0 : Fin 1) y d) = G (ix3 (0 : Fin 1) (hrow t y) d) := by
  blk_ext [idx1 t, hrow]
theorem inp_dyn (y : Fin 16) (d : Fin 1024) : gDyn (inp m c t) y d = (theArgs m c).dy (rb (hrow t y)) (rs (hrow t y)) d :=
  (read1 c t (V m c main_v73) y d).trans (V_dy m c (hrow t y) d)
theorem read2 (G : Buf (Elt Ideal) ((c : Thread nD τ).loc main_v68)) (l : Fin 704) (d : Fin 1024) :
    ((cfg0.win 2).blk t).view.read (Elt Ideal) G (ix4 (0 : Fin 1) (0 : Fin 1) l d) = G (ix4 (0 : Fin 1) (tsh t) l d) := by
  blk_ext [idx2 t, tsh]
theorem inp_wo (l : Fin 704) (d : Fin 1024) : gWo (inp m c t) l d = (theArgs m c).wo (col (tsh t) l) d :=
  (read2 c t (V m c main_v68) l d).trans (V_wo m c (tsh t) l d)
theorem read3 (G : Buf (Elt Ideal) ((c : Thread nD τ).loc main_v76)) (a : Fin 2) (y : Fin 512) (l : Fin 704) :
    ((cfg0.win 3).blk t).view.read (Elt Ideal) G (ix4 a (0 : Fin 1) y l) = G (ix4 a (tsh t) (trow t y) l) := by
  blk_ext [idx3 t, trow, tsh]
theorem inp_u (a : Fin 2) (y : Fin 512) (l : Fin 704) : gU (inp m c t) a y l = (theArgs m c).U (rb (trow t y)) (rs (trow t y)) (ch a (tsh t) l) :=
  (read3 c t (V m c main_v76) a y l).trans (V_u m c a (tsh t) (trow t y) l)
theorem read4 (G : Buf (Elt Ideal) ((c : Thread nD τ).loc main_v63)) (a : Fin 2) (y : Fin 512) (l : Fin 704) :
    ((cfg0.win 4).blk t).view.read (Elt Ideal) G (ix4 a (0 : Fin 1) y l) = G (ix4 a (tsh t) (trow t y) l) := by
  blk_ext [idx4 t, trow, tsh]
theorem inp_ag (a : Fin 2) (y : Fin 512) (l : Fin 704) : gAg (inp m c t) a y l = (theArgs m c).AG a (rb (trow t y)) (rs (trow t y)) (col (tsh t) l) :=
  (read4 c t (V m c main_v63) a y l).trans (V_ag m c a (tsh t) (trow t y) l)
theorem read5 (G : Buf (Elt Ideal) ((c : Thread nD τ).loc main_v63)) (a : Fin 2) (y : Fin 16) (l : Fin 704) :
    ((cfg0.win 5).blk t).view.read (Elt Ideal) G (ix4 a (0 : Fin 1) y l) = G (ix4 a (tsh t) (hrow t y) l) := by
  blk_ext [idx5 t, hrow, tsh]
theorem inp_agn (a : Fin 2) (y : Fin 16) (l : Fin 704) : gAgn (inp m c t) a y l = (theArgs m c).AG a (rb (hrow t y)) (rs (hrow t y)) (col (tsh t) l) :=
  (read5 c t (V m c main_v63) a y l).trans (V_ag m c a (tsh t) (hrow t y) l)
theorem read6 (G : Buf (Elt Ideal) ((c : Thread nD τ).loc main_v78)) (a : Fin 2) (k : Fin 3) (l : Fin 704) :
    ((cfg0.win 6).blk t).view.read (Elt Ideal) G (ix5 a (0 : Fin 1) (0 : Fin 1) k l) = G (ix5 a (tsh t) (0 : Fin 1) k l) := by
  blk_ext [idx6 t, tsh]
theorem inp_cw (a : Fin 2) (k : Fin 3) (l : Fin 704) : gCw (inp m c t) a k l = (theArgs m c).cw k (ch a (tsh t) l) :=
  (read6 c t (V m c main_v78) a k l).trans (V_cw m c a (tsh t) k l)
theorem read7 (G : Buf (Elt Ideal) ((c : Thread nD τ).loc main_v77)) (a : Fin 2) (l : Fin 704) (d : Fin 1024) :
    ((cfg0.win 7).blk t).view.read (Elt Ideal) G (ix4 a (0 : Fin 1) l d) = G (ix4 a (tsh t) l d) := by
  blk_ext [idx7 t, tsh]
theorem inp_wt (a : Fin 2) (l : Fin 704) (d : Fin 1024) : gWt (inp m c t) a l d = (theArgs m c).wi d (ch a (tsh t) l) :=
  (read7 c t (V m c main_v77) a l d).trans (V_wt m c a (tsh t) l d)
theorem read8 (G : Buf (Elt Ideal) ((c : Thread nD τ).loc main_v74)) (y : Fin 512) (d : Fin 1024) :
    ((cfg0.win 8).blk t).view.read (Elt Ideal) G (ix2 y d) = G (ix2 (trow t y) d) := by
  blk_ext [idx8 t, trow]
theorem inp_x (y : Fin 512) (d : Fin 1024) : gX (inp m c t) y d = (theArgs m c).x (rb (trow t y)) (rs (trow t y)) d :=
  (read8 c t (V m c main_v74) y d).trans (V_x m c (trow t y) d)
theorem read9 (G : Buf (Elt Ideal) ((c : Thread nD τ).loc main_v79)) (d : Fin 1024) :
    ((cfg0.win 9).blk t).view.read (Elt Ideal) G (ix2 (0 : Fin 1) d) = G (ix2 (0 : Fin 1) d) := by
  blk_ext [idx9 t]
theorem inp_gain (d : Fin 1024) : gGain (inp m c t) d = (theArgs m c).gain d :=
  (read9 c t (V m c main_v79) d).trans (V_gain m c d)
theorem read10 (G : Buf (Elt Ideal) ((c : Thread nD τ).loc main_v75)) (y : Fin 512) (d : Fin 1024) :
    ((cfg0.win 10).blk t).view.read (Elt Ideal) G (ix2 y d) = G (ix2 (trow t y) d) := by
  blk_ext [idx10 t, trow]
theorem inp_res (y : Fin 512) (d : Fin 1024) : gRes (inp m c t) y d = (theArgs m c).res (rb (trow t y)) (rs (trow t y)) d :=
  (read10 c t (V m c main_v75) y d).trans (V_res m c (trow t y) d)

theorem lastBit_iff : ∀ t : Fin cfg0.N, lastBit (grid0.coords t) = 1#1 ↔ t.val / 4 % 4 = 3 := by decide +kernel

end Cert.FfnBwd
-- ==== Proof.Sums.lean ====
/-
  Sums over tiles, shards and points.
-/
module

public import proofs.«01_k».proof.Proof.Math
public import Idealize.ShloMosaic.Lib.Pointwise.Sums

@[expose] public section

noncomputable section

namespace Cert.FfnBwd

open Idealize.ShloMosaic

theorem sum_ch (f : Fin 5632 → EReal) : ∑ c : Fin 5632, f c = ∑ j : Fin 4, ∑ a : Fin 2, ∑ l : Fin 704, f (ch a j l) := by
  rw [Fin.sum_univ_tiles 8 704 rfl f]
  rw [Fin.sum_univ_tiles 2 4 rfl fun j : Fin 8 => ∑ t : Fin 704, f ⟨j.val * 704 + t.val, by omega⟩, Finset.sum_comm]
  rfl

theorem sum_rows (f : Fin 2 → Fin 2048 → EReal) : ∑ i : Fin 8, ∑ y : Fin 512, f (rb ⟨i.val * 512 + y.val, by omega⟩) (rs ⟨i.val * 512 + y.val, by omega⟩)
    = ∑ b : Fin 2, ∑ s : Fin 2048, f b s := by
  rw [← Fin.sum_univ_tiles 8 512 rfl fun R : Fin 4096 => f (rb R) (rs R), Fin.sum_univ_tiles 2 2048 rfl fun R : Fin 4096 => f (rb R) (rs R)]
  refine Finset.sum_congr rfl fun b _ => Finset.sum_congr rfl fun s _ => ?_
  have hb : rb ⟨b.val * 2048 + s.val, by omega⟩ = b := Fin.ext (by simp only [rb]; omega)
  have hs : rs ⟨b.val * 2048 + s.val, by omega⟩ = s := Fin.ext (by simp only [rs]; omega)
  rw [hb, hs]

/-- A shard's points. -/
theorem sum_points (f : ℕ → EReal) (j : ℕ) (hj : j < 4) : ∑ k ∈ Finset.range 32, (if k % 4 = j then f k else 0) = ∑ i : Fin 8, f (4 * i.val + j) := by
  rw [Finset.sum_range fun k => if k % 4 = j then f k else 0, Fin.sum_univ_tiles 8 4 rfl]
  refine Finset.sum_congr rfl fun i _ => ?_
  rw [Finset.sum_eq_single (⟨j, hj⟩ : Fin 4)]
  · rw [if_pos (by simp only; omega)]
    congr 1; simp only; omega
  · intro k _ hk
    rw [if_neg]
    intro e
    exact hk (Fin.ext (by simp only at e ⊢; omega))
  · intro h; exact absurd (Finset.mem_univ _) h

end Cert.FfnBwd
-- ==== Proof.Close.lean ====
/-
  The kernel's sums over the points, as the layer's gradients.
-/
module

public import proofs.«01_k».proof.Proof.Windows
public import proofs.«01_k».proof.Proof.Sums

@[expose] public section

set_option maxRecDepth 16384

noncomputable section

namespace Cert.FfnBwd

open Idealize.ShloMosaic Idealize.ShloMosaic.TcCoe Idealize.ShloMosaic.Tactic Idealize.SL.Sem
open Cert.KernelIdeal Cert.KernelIdeal.Gen

/-- The kernel's form of the convolution's cotangent is the reference's. -/
def Args.Same (A : Args) : Prop :=
  ∀ (a : Fin 2) (b : Fin 2) (s : Fin 2048) (j : Fin 4) (l : Fin 704), A.Z b s (col j l) * A.AG a b s (col j l) = A.D b s (ch a j l)

theorem mul_left_eq {u v w : EReal} (h : u = v) : u * w = v * w := h ▸ rfl
theorem add_both_eq {u v w z : EReal} (h : u = v) (k : w = z) : u + w = v + z := h ▸ k ▸ rfl

variable (m : (ℓ : Loc nD τ sig) → Buf (Elt Ideal) ℓ) (c : Dev nD) (hD : (theArgs m c).Same)

include hD in
theorem dAt_eq (t : Fin cfg0.N) (a : Fin 2) (y : Fin 512) (k : ℕ) (hk : k < 3) (l : Fin 704) :
    dAt (grid0.coords t) (inp m c t) a (row y k (by omega)) l = (theArgs m c).DE (rb (trow t y)) ((rs (trow t y)).val + k) (ch a (tsh t) l) := by
  have ht : t.val < 32 := t.isLt
  have hy := y.isLt
  unfold dAt Args.DE
  have hr : (row y k (by omega)).val = y.val + k := rfl
  by_cases h : y.val + k < 512
  · have hs : (rs (trow t y)).val + k < 2048 := by simp only [rs, trow]; omega
    rw [dif_pos (by rw [hr]; exact h), dif_pos hs, ← hD a]
    have e1 : rb (trow t ⟨(row y k (by omega)).val, by rw [hr]; exact h⟩) = rb (trow t y) := Fin.ext (by simp only [rb, trow]; omega)
    have e2 : rs (trow t ⟨(row y k (by omega)).val, by rw [hr]; exact h⟩) = ⟨(rs (trow t y)).val + k, hs⟩ := Fin.ext (by simp only [rs, trow]; omega)
    rw [inp_ag, e1, e2]
    refine mul_left_eq ?_
    unfold Args.Z
    refine Finset.sum_congr rfl fun d _ => ?_
    rw [inp_dy, inp_wo, e1, e2]
  · rw [dif_neg (by rw [hr]; exact h)]
    by_cases hl : t.val / 4 % 4 = 3
    · rw [if_pos ((lastBit_iff t).mpr hl), zero_mul, dif_neg]
      simp only [rs, trow]; omega
    · have hs : (rs (trow t y)).val + k < 2048 := by simp only [rs, trow]; omega
      rw [if_neg fun e => hl ((lastBit_iff t).mp e), dif_pos hs, ← hD a]
      have e1 : rb (hrow t ⟨(row y k (by omega)).val - 512, by rw [hr]; omega⟩) = rb (trow t y) := Fin.ext (by simp only [rb, trow, hrow]; omega)
      have e2 : rs (hrow t ⟨(row y k (by omega)).val - 512, by rw [hr]; omega⟩) = ⟨(rs (trow t y)).val + k, hs⟩ := Fin.ext (by simp only [rs, trow, hrow]; omega)
      rw [inp_agn, e1, e2]
      refine mul_left_eq ?_
      unfold Args.Z
      refine Finset.sum_congr rfl fun d _ => ?_
      rw [inp_dyn, inp_wo, e1, e2]

include hD in
theorem duB_eq (t : Fin cfg0.N) (a : Fin 2) (y : Fin 512) (l : Fin 704) :
    duB (grid0.coords t) (inp m c t) a y l = (theArgs m c).DU (rb (trow t y)) (rs (trow t y)) (ch a (tsh t) l) := by
  unfold duB Args.DU
  rw [dAt_eq m c hD t a y 2 (by omega), dAt_eq m c hD t a y 1 (by omega), dAt_eq m c hD t a y 0 (by omega), inp_cw, inp_cw, inp_cw]
  rfl

theorem trow_at (i : Fin 8) (j : ℕ) (hj : j < 4) (y : Fin 512) (h : 4 * i.val + j < 32) : trow (pt (4 * i.val + j) h) y = ⟨i.val * 512 + y.val, by omega⟩ :=
  Fin.ext (by simp only [trow, pt]; omega)
theorem tsh_at (i : Fin 8) (j : Fin 4) (h : 4 * i.val + j.val < 32) : tsh (pt (4 * i.val + j.val) h) = j :=
  Fin.ext (by simp only [tsh, pt]; omega)

include hD in
theorem ddw_eq (j : Fin 4) (a : Fin 2) (b : Fin 3) (l : Fin 704) : ddwS m c 32 j a b l = (theArgs m c).DW b (ch a j l) := by
  unfold ddwS
  rw [sum_points (fun k => tapP m c k a b.rev l) j.val j.isLt]
  unfold Args.DW
  rw [← sum_rows]
  refine Finset.sum_congr rfl fun i _ => ?_
  have h : 4 * i.val + j.val < 32 := by omega
  unfold tapP
  rw [dif_pos h]
  unfold tapB
  refine Finset.sum_congr rfl fun y _ => ?_
  rw [dAt_eq m c hD _ a y b.rev.val b.rev.isLt, inp_u, trow_at i j.val j.isLt y h, tsh_at i j h]
  have e : b.rev.val = 2 - b.val := by rw [Fin.val_rev]; omega
  rw [e]

include hD in
theorem ddb_eq (j : Fin 4) (a : Fin 2) (l : Fin 704) : ddbS m c 32 j a l = (theArgs m c).DB (ch a j l) := by
  unfold ddbS
  rw [sum_points (fun k => biasP m c k a l) j.val j.isLt]
  unfold Args.DB
  rw [← sum_rows]
  refine Finset.sum_congr rfl fun i _ => ?_
  have h : 4 * i.val + j.val < 32 := by omega
  unfold biasP
  rw [dif_pos h]
  unfold biasB
  refine Finset.sum_congr rfl fun y _ => ?_
  rw [dAt_eq m c hD _ a y 0 (by omega), trow_at i j.val j.isLt y h, tsh_at i j h]
  unfold Args.DE
  rw [dif_pos (by omega)]
  rfl

include hD in
theorem part_eq (t : Fin cfg0.N) (y : Fin 512) (d : Fin 1024) :
    partB (grid0.coords t) (inp m c t) y d = ∑ a : Fin 2, ∑ l : Fin 704,
      (theArgs m c).DU (rb (trow t y)) (rs (trow t y)) (ch a (tsh t) l) * (theArgs m c).wi d (ch a (tsh t) l) := by
  unfold partB
  rw [Fin.sum_univ_two]
  refine add_both_eq (Finset.sum_congr rfl fun l _ => ?_) (Finset.sum_congr rfl fun l _ => ?_)
  · rw [duB_eq m c hD, inp_wt]
  · rw [duB_eq m c hD, inp_wt]

include hD in
theorem acc_eq (t : Fin cfg0.N) (h3 : t.val % 4 = 3) (y : Fin 512) (d : Fin 1024) :
    accP m c t.val y d = (theArgs m c).H (rb (trow t y)) (rs (trow t y)) d := by
  have ht : t.val < 32 := t.isLt
  unfold accP
  rw [h3]
  unfold Args.H
  rw [sum_ch, Finset.sum_range fun q => partP m c (t.val - 3 + q) y d]
  refine Finset.sum_congr rfl fun j _ => ?_
  have hq : t.val - 3 + j.val < 32 := by have := j.isLt; omega
  unfold partP
  rw [dif_pos hq, part_eq m c hD]
  have e1 : trow (pt (t.val - 3 + j.val) hq) y = trow t y := Fin.ext (by have := j.isLt; simp only [trow, pt]; omega)
  have e2 : tsh (pt (t.val - 3 + j.val) hq) = j := Fin.ext (by have := j.isLt; simp only [tsh, pt]; omega)
  rw [e1, e2]

include hD in
theorem dx_eq (t : Fin cfg0.N) (h3 : t.val % 4 = 3) (y : Fin 512) (d : Fin 1024) :
    dxP m c t y d = (theArgs m c).DX (rb (trow t y)) (rs (trow t y)) d := by
  unfold dxP Args.DX
  rw [show gX (inp m c t) y = (theArgs m c).x (rb (trow t y)) (rs (trow t y)) from funext fun d => inp_x m c t y d,
    show gRes (inp m c t) y = (theArgs m c).res (rb (trow t y)) (rs (trow t y)) from funext fun d => inp_res m c t y d,
    show gGain (inp m c t) = (theArgs m c).gain from funext fun d => inp_gain m c t d,
    show accP m c t.val y = (theArgs m c).H (rb (trow t y)) (rs (trow t y)) from funext fun d => acc_eq m c hD t h3 y d]

include hD in
theorem dg_eq (d : Fin 1024) : dgS m c 32 d = (theArgs m c).DG d := by
  unfold dgS
  have e : ∀ k ∈ Finset.range 32, dgP m c k d = if k % 4 = 3 then dgP m c k d else 0 := by
    intro k hk
    by_cases h : k % 4 = 3
    · rw [if_pos h]
    · rw [if_neg h]; unfold dgP; simp only [if_neg h, dite_eq_ite, ite_self]
  rw [Finset.sum_congr rfl e, sum_points (fun k => dgP m c k d) 3 (by omega)]
  unfold Args.DG
  rw [← sum_rows]
  refine Finset.sum_congr rfl fun i _ => ?_
  have h : 4 * i.val + 3 < 32 := by omega
  unfold dgP
  rw [dif_pos h, if_pos (by omega)]
  refine Finset.sum_congr rfl fun y _ => ?_
  have ea := acc_eq m c hD (pt (4 * i.val + 3) h) (show (4 * i.val + 3) % 4 = 3 by omega) y d
  rw [show accP m c (4 * i.val + 3) y d = _ from ea,
    show gX (inp m c (pt (4 * i.val + 3) h)) y = _ from funext fun d => inp_x m c _ y d, trow_at i 3 (by omega) y h]
  rfl

end Cert.FfnBwd
-- ==== Proof.Finite.lean ====
/-
  On arguments that are numbers, the reference's form of the gradients is the kernel's: the identities of the reals they rest on.
-/
module

public import proofs.«01_k».proof.Proof.RefVal
public import proofs.«01_k».proof.Proof.Close

@[expose] public section

set_option maxRecDepth 16384

noncomputable section

namespace Cert.FfnBwd

open Idealize.ShloMosaic

/-- A value that is a number. -/
def IsR (v : EReal) : Prop := ∃ r : ℝ, v = (r : EReal)

namespace IsR
variable {u v : EReal}

theorem zero : IsR 0 := ⟨0, EReal.coe_zero.symm⟩
theorem one : IsR 1 := ⟨1, EReal.coe_one.symm⟩
theorem add : IsR u → IsR v → IsR (u + v) := fun ⟨a, ha⟩ ⟨b, hb⟩ => ⟨a + b, by rw [ha, hb, EReal.coe_add]⟩
theorem sub : IsR u → IsR v → IsR (u - v) := fun ⟨a, ha⟩ ⟨b, hb⟩ => ⟨a - b, by rw [ha, hb, EReal.coe_sub]⟩
theorem mul : IsR u → IsR v → IsR (u * v) := fun ⟨a, ha⟩ ⟨b, hb⟩ => ⟨a * b, by rw [ha, hb, EReal.coe_mul]⟩
theorem sum {n : ℕ} {f : Fin n → EReal} (h : ∀ i, IsR (f i)) : IsR (∑ i, f i) :=
  Finset.sum_induction f IsR (fun _ _ => add) zero fun i _ => h i

theorem sg : IsR u → IsR (sg u) := fun ⟨a, ha⟩ => by
  have hp : (1 + Real.exp (-a) : ℝ) ≠ 0 := by positivity
  have e : (1 : EReal) + Ideal.exp (-u) = ((1 + Real.exp (-a) : ℝ) : EReal) := by
    rw [ha, ← EReal.coe_neg, Ideal.exp_coe, EReal.coe_add, EReal.coe_one]
  unfold FfnBwd.sg
  rw [e, Ideal.div_coe hp, one_mul]
  exact ⟨_, rfl⟩

/-- Below the infinity in magnitude is a number. -/
theorem of_abs (h : max u (-u) < ⊤) : IsR u := by
  induction u with
  | bot => exact absurd h (by simp)
  | top => exact absurd h (by simp)
  | coe r => exact ⟨r, rfl⟩
end IsR

theorem sum_coe {n : ℕ} (f : Fin n → ℝ) : (∑ i, (f i : EReal)) = ((∑ i, f i : ℝ) : EReal) := by
  refine Finset.induction_on (motive := fun s => (∑ i ∈ s, (f i : EReal)) = ((∑ i ∈ s, f i : ℝ) : EReal)) Finset.univ ?_ ?_
  · rfl
  · intro i s hi h
    rw [Finset.sum_insert hi, Finset.sum_insert hi, h, EReal.coe_add]

theorem c1024 : Ideal.ofBits .f32 1149239296#32 = ((1024 : ℝ) : EReal) := by
  simp [Ideal.ofBits, Ideal.ieee, -EReal.coe_mul]; norm_num
theorem chalf : Ideal.ofBits .f32 3204448256#32 = ((-(1 / 2) : ℝ) : EReal) := by
  simp [Ideal.ofBits, Ideal.ieee, -EReal.coe_mul]; norm_num
theorem cinf : Ideal.ofBits .f32 0x7F800000#32 = ⊤ := by
  simp [Ideal.ofBits, Ideal.ieee]
theorem ceps : ∃ t : ℝ, 0 < t ∧ Ideal.ofBits .f32 897988541#32 = (t : EReal) := by
  refine ⟨_, ?_, by simp only [Ideal.ofBits, Ideal.ieee]; rw [if_neg (by decide), if_neg (by decide)]⟩
  have : (0 : ℝ) < (2 : ℝ) ^ (((897988541#32).extractLsb' 23 8).toNat - (2 ^ (8 - 1) - 1 : Int) - (23 : ℕ)) := by positivity
  simp

theorem sq_nonneg (v : EReal) : 0 ≤ v * v := by
  induction v with
  | bot => simp
  | top => simp
  | coe r => rw [← EReal.coe_mul]; exact_mod_cast mul_self_nonneg r

/-- A row of numbers has a positive mean square; a row with an infinity, an infinite one. -/
theorem mean_cases (x : Fin 1024 → EReal) :
    (∃ (y : Fin 1024 → ℝ) (t : ℝ), 0 < t ∧ (∀ d, x d = (y d : EReal)) ∧ Ref.q x = (t : EReal)) ∨ Ref.q x = ⊤ := by
  obtain ⟨e, he, hc⟩ := ceps
  by_cases h : ∀ d, IsR (x d)
  · left
    choose y hy using h
    refine ⟨y, (∑ d, y d * y d) * (1 / 1024) + e, ?_, hy, ?_⟩
    · have : 0 ≤ ∑ d, y d * y d := Finset.sum_nonneg fun d _ => mul_self_nonneg _
      positivity
    · unfold Ref.q
      rw [hc, c1024, Ideal.div_coe (by norm_num), EReal.coe_add, EReal.coe_mul, ← sum_coe]
      simp only [hy, EReal.coe_mul]
  · right
    obtain ⟨d, hd⟩ := not_forall.mp h
    have hx : x d * x d = ⊤ := by
      induction hv : x d with
      | bot => simp
      | top => simp
      | coe r => exact absurd ⟨r, hv⟩ hd
    have hs : (∑ d, x d * x d) = ⊤ :=
      top_le_iff.mp (hx ▸ Finset.single_le_sum (f := fun d => x d * x d) (fun d _ => sq_nonneg (x d)) (Finset.mem_univ d))
    unfold Ref.q
    rw [hs, hc, c1024, Ideal.div_coe (by norm_num), EReal.top_mul_coe_of_pos (by norm_num), EReal.top_add_coe]

theorem rinv_q (x : Fin 1024 → EReal) : rinv x = Ideal.rsqrt (Ref.q x) := rfl

theorem rinv_pos {x : Fin 1024 → EReal} {t : ℝ} (ht : 0 < t) (h : Ref.q x = (t : EReal)) : rinv x = (((Real.sqrt t)⁻¹ : ℝ) : EReal) := by
  rw [rinv_q, h, Ideal.rsqrt_coe, if_neg ht.not_gt, if_neg ht.ne']

theorem rinv_top {x : Fin 1024 → EReal} (h : Ref.q x = ⊤) : rinv x = 0 := by
  rw [rinv_q, h, Ideal.rsqrt_top]

/-- A normalised entry is a number whatever the row. -/
theorem normed (x : Fin 1024 → EReal) (d : Fin 1024) : IsR (x d * rinv x) := by
  rcases mean_cases x with ⟨y, t, ht, hy, hq⟩ | hq
  · rw [rinv_pos ht hq, hy]; exact IsR.mul ⟨_, rfl⟩ ⟨_, rfl⟩
  · rw [rinv_top hq, mul_zero]; exact IsR.zero

/-- The arguments the claim asks to be numbers. -/
structure Args.Finite (A : Args) : Prop where
  gain : ∀ d, IsR (A.gain d)
  wi : ∀ d c, IsR (A.wi d c)
  cw : ∀ k c, IsR (A.cw k c)
  cb : ∀ c, IsR (A.cb c)
  wo : ∀ e d, IsR (A.wo e d)
  dy : ∀ b s d, IsR (A.dy b s d)

namespace Args.Finite
variable {A : Args} (F : A.Finite)
include F

theorem U (b s c) : IsR (A.U b s c) := IsR.sum fun d => ((normed (A.x b s) d).mul (F.gain d)).mul (F.wi d c)
theorem UP (b p c) : IsR (A.UP b p c) := by
  unfold Args.UP
  split
  · exact IsR.zero
  · exact F.U _ _ _
theorem C (b s c) : IsR (A.C b s c) :=
  ((((F.UP _ _ _).mul (F.cw _ _)).add ((F.UP _ _ _).mul (F.cw _ _))).add ((F.U _ _ _).mul (F.cw _ _))).add (F.cb _)
theorem Z (b s e) : IsR (A.Z b s e) := IsR.sum fun d => (F.dy b s d).mul (F.wo e d)
theorem sig (b s e) : IsR (A.sig b s e) := (F.C _ _ _).sg
theorem D (b s c) : IsR (A.D b s c) := by
  unfold Args.D
  split
  · exact ((F.C _ _ _).mul (F.sig _ _ _)).mul (F.Z _ _ _)
  · exact (((F.Z _ _ _).mul (F.C _ _ _)).mul (F.sig _ _ _)).add
      (((F.C _ _ _).mul ((F.Z _ _ _).mul (F.C _ _ _))).mul ((F.sig _ _ _).mul (IsR.one.sub (F.sig _ _ _))))
theorem DE (b p c) : IsR (A.DE b p c) := by
  unfold Args.DE
  split
  · exact F.D _ _ _
  · exact IsR.zero
theorem DU (b s c) : IsR (A.DU b s c) :=
  (((F.cw _ _).mul (F.DE _ _ _)).add ((F.cw _ _).mul (F.DE _ _ _))).add ((F.cw _ _).mul (F.DE _ _ _))
theorem H (b s d) : IsR (A.H b s d) := IsR.sum fun c => (F.DU b s c).mul (F.wi d c)

/-- The gate's cotangent, as the kernel multiplies it out and as the reference does. -/
theorem same : A.Same := by
  intro a b s j l
  rcases a with ⟨a, ha⟩
  have hl := l.isLt
  have hj := j.isLt
  obtain rfl | rfl : a = 0 ∨ a = 1 := by omega
  · have hc : (ch ⟨0, ha⟩ j l).val < 2816 := by simp only [ch]; omega
    have hk : (⟨(ch ⟨0, ha⟩ j l).val, hc⟩ : Fin 2816) = col j l := Fin.ext (by simp only [ch, col]; omega)
    unfold Args.AG Args.D
    rw [if_pos rfl, dif_pos hc, hk, mul_comm]
  · have hc : ¬ (ch ⟨1, ha⟩ j l).val < 2816 := by simp only [ch]; omega
    have hk : (⟨(ch ⟨1, ha⟩ j l).val - 2816, by simp only [ch]; omega⟩ : Fin 2816) = col j l := Fin.ext (by simp only [ch, col]; omega)
    unfold Args.AG Args.D
    rw [if_neg (show ¬ (1 : ℕ) = 0 by decide), dif_neg hc, hk]
    obtain ⟨z, hz⟩ := F.Z b s (col j l)
    obtain ⟨u, hu⟩ := F.C b s (lo (col j l))
    obtain ⟨g, hg⟩ := F.C b s (hi (col j l))
    obtain ⟨t, ht⟩ := F.sig b s (col j l)
    rw [hz, hu, hg, ht]
    simp only [← EReal.coe_one, ← EReal.coe_mul, ← EReal.coe_sub, ← EReal.coe_add]
    exact congrArg _ (by ring)

/-- The norm's gradient, as the reference's chain of operations gives it and as the kernel writes it. -/
theorem dx (b s d) : Ref.DXr A b s d = A.DX b s d := by
  choose h hh using F.H b s
  choose g hg using F.gain
  unfold Ref.DXr Args.DX nrm
  refine (add_comm _ _).trans (congrArg (A.res b s d + ·) ?_)
  unfold Ref.half Args.rv
  rw [c1024, chalf, Ideal.div_coe (by norm_num), Ideal.div_coe (by norm_num)]
  rcases mean_cases (A.x b s) with ⟨y, t, ht, hy, hq⟩ | hq
  · rw [rinv_pos ht hq, hq, Ideal.div_coe ht.ne']
    have hr : (Real.sqrt t)⁻¹ * (Real.sqrt t)⁻¹ = 1 / t := by
      rw [← mul_inv, Real.mul_self_sqrt ht.le, one_div]
    generalize (Real.sqrt t)⁻¹ = r at hr ⊢
    simp only [hh, hg, hy, ← EReal.coe_mul, sum_coe, ← EReal.coe_sub, ← EReal.coe_add]
    refine congrArg _ ?_
    have hS : (∑ e, h e * g e * (y e * r)) = (∑ e, y e * (h e * g e)) * r := by
      rw [Finset.sum_mul]
      exact Finset.sum_congr rfl fun e _ => by ring
    rw [hS, ← hr]
    ring
  · rw [rinv_top hq, hq]
    have h0 : Ideal.div 0 ⊤ = 0 := by simp [Ideal.div]
    rw [h0]
    simp only [mul_zero, zero_mul, add_zero]

end Args.Finite

end Cert.FfnBwd
-- ==== Proof.Final.lean ====
/-
  The arrays the kernel's run leaves, as the layer's gradients.
-/
module

public import proofs.«01_k».proof.Proof.Close
public import proofs.«01_k».proof.Proof.Frames
public import Idealize.ShloMosaic.Lib.Pipeline.ArrRel

@[expose] public section

set_option maxRecDepth 16384

noncomputable section

namespace Cert.FfnBwd

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (ρ : Dev nD → PrngReg) (c : Dev nD)

variable {m c} in
theorem out_at {W : Fin cfg0.W} (hW : isOut W = true) {t : Fin cfg0.N} {X : (cfg0.win W).block.Idx → Elt Ideal (cfg0.win W).elt}
    (h : (rdat m (spec m c) c).Leaves W t X) : (spec m c).out W t X :=
  (dat m (spec m c) c).toRRel_leaves (fgt := isOut) (Rl := (spec m c).out) hW h

variable (after : (w' : Fin cfg0.W) → Fin cfg0.N → (cfg0.win w').block.Idx → Elt Ideal (cfg0.win w').elt)
  (hL : ∀ (w : Fin cfg0.W) (u : Fin cfg0.N), (cfg0.win w).flush u = true → (rdat m (spec m c) c).Leaves w u (after w u))
  (hD : (theArgs m c).Same)

theorem emb_du (t : Fin cfg0.N) (G : Buf (Elt Ideal) ((c : Thread nD τ).loc main_v80_0)) (a : Fin 2) (y : Fin 512) (l : Fin 704) :
    G ((win0_11.blk t).view.emb (ix4 a (0 : Fin 1) y l)) = G (ix4 a (tsh t) (trow t y) l) := by
  blk_ext [idx11 t, trow, tsh]
theorem emb_dx (t : Fin cfg0.N) (G : Buf (Elt Ideal) ((c : Thread nD τ).loc main_v80_3)) (y : Fin 512) (d : Fin 1024) :
    G ((win0_14.blk t).view.emb (ix2 y d)) = G (ix2 (trow t y) d) := by
  blk_ext [idx14 t, trow]

include hL hD in
theorem arr_du (G : Buf (Elt Ideal) ((c : Thread nD τ).loc main_v80_0))
    (hG : ∀ (a : Fin 2) (j : Fin 4) (R : Fin 4096) (l : Fin 704), G (ix4 a j R l) = (theArgs m c).DU (rb R) (rs R) (ch a j l)) :
    ((rdat m (spec m c) c).withAfter after).arrAt 11 cfg0.N = G := by
  refine Pipeline.Dat.arrAt_eq_of_covers _ 11 _ (by decide +kernel) fun t hf y => ?_
  have h : ∀ (a : Fin 2) (y : Fin 512) (l : Fin 704), after 11 t (ix4 a (0 : Fin 1) y l) = duP m c t a y l := out_at rfl (hL 11 t hf)
  blk_simp
  have key : ∀ y : S2x1x512x704.Idx, after 11 t y = G ((win0_11.blk t).view.emb y) := by
    intro y
    rw [(eq_ix4 y).trans (congrArg (fun z : Fin 1 => ix4 (y 0) z (y 2) (y 3)) (Subsingleton.elim (α := Fin 1) (y 1) 0))]
    refine (h (y 0) (y 2) (y 3)).trans (Eq.trans ?_ (emb_du c t G (y 0) (y 2) (y 3)).symm)
    exact (duB_eq m c hD t (y 0) (y 2) (y 3)).trans (hG (y 0) (tsh t) (trow t (y 2)) (y 3)).symm
  exact key y

include hL hD in
theorem arr_ddw (G : Buf (Elt Ideal) ((c : Thread nD τ).loc main_v80_1))
    (hG : ∀ (j : Fin 4) (a : Fin 2) (b : Fin 3) (l : Fin 704), G (ix4 j a b l) = (theArgs m c).DW b (ch a j l)) :
    ((rdat m (spec m c) c).withAfter after).arrAt 12 cfg0.N = G := by
  refine Pipeline.Dat.arrAt_eq_of_after_last _ 12 (pt 31 (by omega)) (by decide +kernel) _ fun y => ?_
  have h : ∀ (j : Fin 4) (a : Fin 2) (b : Fin 3) (l : Fin 704), j.val ≤ 31 → after 12 (pt 31 (by omega)) (ix4 j a b l) = ddwS m c 32 j a b l :=
    out_at rfl (hL 12 (pt 31 (by omega)) ((flush0_12 _).mpr rfl))
  blk_simp
  have key : ∀ y : S4x2x3x704.Idx, after 12 (pt 31 (by omega)) y = G y := by
    intro y
    rw [eq_ix4 y]
    have hj : (y 0 : Fin 4).val < 4 := (y 0 : Fin 4).isLt
    refine (h (y 0) (y 1) (y 2) (y 3) (by omega)).trans (Eq.trans (ddw_eq m c hD (y 0) (y 1) (y 2) (y 3)) (hG (y 0) (y 1) (y 2) (y 3)).symm)
  exact key y

include hL hD in
theorem arr_ddb (G : Buf (Elt Ideal) ((c : Thread nD τ).loc main_v80_2))
    (hG : ∀ (j : Fin 4) (a : Fin 2) (l : Fin 704), G (ix4 j a (0 : Fin 1) l) = (theArgs m c).DB (ch a j l)) :
    ((rdat m (spec m c) c).withAfter after).arrAt 13 cfg0.N = G := by
  refine Pipeline.Dat.arrAt_eq_of_after_last _ 13 (pt 31 (by omega)) (by decide +kernel) _ fun y => ?_
  have h : ∀ (j : Fin 4) (a : Fin 2) (l : Fin 704), j.val ≤ 31 → after 13 (pt 31 (by omega)) (ix4 j a (0 : Fin 1) l) = ddbS m c 32 j a l :=
    out_at rfl (hL 13 (pt 31 (by omega)) ((flush0_13 _).mpr rfl))
  blk_simp
  have key : ∀ y : S4x2x1x704.Idx, after 13 (pt 31 (by omega)) y = G y := by
    intro y
    rw [(eq_ix4 y).trans (congrArg (fun z : Fin 1 => ix4 (y 0) (y 1) z (y 3)) (Subsingleton.elim (α := Fin 1) (y 2) 0))]
    have hj : (y 0 : Fin 4).val < 4 := (y 0 : Fin 4).isLt
    refine (h (y 0) (y 1) (y 3) (by omega)).trans (Eq.trans (ddb_eq m c hD (y 0) (y 1) (y 3)) (hG (y 0) (y 1) (y 3)).symm)
  exact key y

include hL hD in
theorem arr_dx (G : Buf (Elt Ideal) ((c : Thread nD τ).loc main_v80_3))
    (hG : ∀ (R : Fin 4096) (d : Fin 1024), G (ix2 R d) = (theArgs m c).DX (rb R) (rs R) d) :
    ((rdat m (spec m c) c).withAfter after).arrAt 14 cfg0.N = G := by
  refine Pipeline.Dat.arrAt_eq_of_covers _ 14 _ (by decide +kernel) fun t hf y => ?_
  have h3 : t.val % 4 = 3 := (flush0_14 t).mp hf
  have h : t.val % 4 = 3 → ∀ (y : Fin 512) (d : Fin 1024), after 14 t (ix2 y d) = dxP m c t y d := out_at rfl (hL 14 t hf)
  blk_simp
  have key : ∀ y : S512x1024.Idx, after 14 t y = G ((win0_14.blk t).view.emb y) := by
    intro y
    rw [eq_ix2 y]
    exact (h h3 (y 0) (y 1)).trans (((dx_eq m c hD t h3 (y 0) (y 1)).trans (hG (trow t (y 0)) (y 1)).symm).trans (emb_dx c t G (y 0) (y 1)).symm)
  exact key y

include hL hD in
theorem arr_dg (G : Buf (Elt Ideal) ((c : Thread nD τ).loc main_v80_4))
    (hG : ∀ (d : Fin 1024), G (ix2 (0 : Fin 1) d) = (theArgs m c).DG d) :
    ((rdat m (spec m c) c).withAfter after).arrAt 15 cfg0.N = G := by
  refine Pipeline.Dat.arrAt_eq_of_after_last _ 15 (pt 31 (by omega)) (by decide +kernel) _ fun y => ?_
  have h : ∀ (d : Fin 1024), after 15 (pt 31 (by omega)) (ix2 (0 : Fin 1) d) = dgS m c 32 d :=
    out_at rfl (hL 15 (pt 31 (by omega)) ((flush0_15 _).mpr rfl))
  blk_simp
  have key : ∀ y : S1x1024.Idx, after 15 (pt 31 (by omega)) y = G y := by
    intro y
    rw [(eq_ix2 y).trans (congrArg (fun z : Fin 1 => ix2 z (y 1)) (Subsingleton.elim (α := Fin 1) (y 0) 0))]
    exact (h (y 1)).trans ((dg_eq m c hD (y 1)).trans (hG (y 1)).symm)
  exact key y

/-- What the run leaves, of any arrays that hold the layer's gradients. -/
theorem run_values
    (hS : ∀ c, (theArgs m c).Same)
    (v0 : (c : Dev nD) → Buf (Elt Ideal) ((c : Thread nD τ).loc main_v80_0))
    (v1 : (c : Dev nD) → Buf (Elt Ideal) ((c : Thread nD τ).loc main_v80_1))
    (v2 : (c : Dev nD) → Buf (Elt Ideal) ((c : Thread nD τ).loc main_v80_2))
    (v3 : (c : Dev nD) → Buf (Elt Ideal) ((c : Thread nD τ).loc main_v80_3))
    (v4 : (c : Dev nD) → Buf (Elt Ideal) ((c : Thread nD τ).loc main_v80_4))
    (h0 : ∀ (c : Dev nD) (a : Fin 2) (j : Fin 4) (R : Fin 4096) (l : Fin 704), v0 c (ix4 a j R l) = (theArgs m c).DU (rb R) (rs R) (ch a j l))
    (h1 : ∀ (c : Dev nD) (j : Fin 4) (a : Fin 2) (b : Fin 3) (l : Fin 704), v1 c (ix4 j a b l) = (theArgs m c).DW b (ch a j l))
    (h2 : ∀ (c : Dev nD) (j : Fin 4) (a : Fin 2) (l : Fin 704), v2 c (ix4 j a (0 : Fin 1) l) = (theArgs m c).DB (ch a j l))
    (h3 : ∀ (c : Dev nD) (R : Fin 4096) (d : Fin 1024), v3 c (ix2 R d) = (theArgs m c).DX (rb R) (rs R) d)
    (h4 : ∀ (c : Dev nD) (d : Fin 1024), v4 c (ix2 (0 : Fin 1) d) = (theArgs m c).DG d) :
    θ_run defs (onTc (τ := τ) (main (F := Ideal))) (s₀ m ρ) (fun r => ∀ c : Dev nD,
      (r.2.mem ((c : Thread nD τ).loc main_v80_0) = v0 c ∧ r.2.mem ((c : Thread nD τ).loc main_v80_1) = v1 c
        ∧ r.2.mem ((c : Thread nD τ).loc main_v80_2) = v2 c ∧ r.2.mem ((c : Thread nD τ).loc main_v80_3) = v3 c
        ∧ r.2.mem ((c : Thread nD τ).loc main_v80_4) = v4 c) ∧ ArgsKept m r) := by
  refine (θ_run defs _ _).mono (fun r h c => ⟨?_, args_kept m (spec m 0) r h⟩)
    (run_region m ρ (spec m 0) (fun c => by rw [Subsingleton.elim c 0]; exact step m 0) fun _ h => absurd (Nat.zero_mod 4) h)
  obtain rfl := Subsingleton.elim c 0
  obtain ⟨after, hL, hA⟩ := h.1.exists_exact 0
  exact ⟨(hA 11).trans (arr_du m 0 after hL (hS 0) (v0 0) (h0 0)), (hA 12).trans (arr_ddw m 0 after hL (hS 0) (v1 0) (h1 0)),
    (hA 13).trans (arr_ddb m 0 after hL (hS 0) (v2 0) (h2 0)), (hA 14).trans (arr_dx m 0 after hL (hS 0) (v3 0) (h3 0)),
    (hA 15).trans (arr_dg m 0 after hL (hS 0) (v4 0) (h4 0))⟩

end Cert.FfnBwd
-- ==== Proof.Result.lean ====
/-
  The five results as arrays of the layer's gradients, and the two runs that leave them.
-/
module

public import proofs.«01_k».proof.Proof.Finite
public import proofs.«01_k».proof.Proof.Final

@[expose] public section

set_option maxRecDepth 16384

noncomputable section

namespace Cert.FfnBwd

open Idealize.ShloMosaic Idealize.ShloMosaic.TcCoe Idealize.ShloMosaic.Tactic Idealize.SL.Sem

namespace Args
variable (A : Args)

def arrDU : (⟨4, ![2, 4, 4096, 704]⟩ : Shape).Idx → EReal := fun y => A.DU (rb (y 2)) (rs (y 2)) (ch (y 0) (y 1) (y 3))
def arrDW : (⟨4, ![4, 2, 3, 704]⟩ : Shape).Idx → EReal := fun y => A.DW (y 2) (ch (y 1) (y 0) (y 3))
def arrDB : (⟨4, ![4, 2, 1, 704]⟩ : Shape).Idx → EReal := fun y => A.DB (ch (y 1) (y 0) (y 3))
def arrDX : (⟨2, ![4096, 1024]⟩ : Shape).Idx → EReal := fun y => A.DX (rb (y 0)) (rs (y 0)) (y 1)
def arrDG : (⟨2, ![1, 1024]⟩ : Shape).Idx → EReal := fun y => A.DG (y 1)
end Args

section Kernel
open Cert.KernelIdeal Cert.KernelIdeal.Gen

/-- The kernel's run leaves the layer's gradients. -/
theorem kernel_run (m : (ℓ : Loc nD τ sig) → Buf (Elt Ideal) ℓ) (ρ : Dev nD → PrngReg) (hF : ∀ c, (theArgs m c).Finite) :
    θ_run defs (onTc (τ := τ) (main (F := Ideal))) (s₀ m ρ) (fun r => ∀ c : Dev nD,
      (r.2.mem ((c : Thread nD τ).loc main_v80_0) = (theArgs m c).arrDU ∧ r.2.mem ((c : Thread nD τ).loc main_v80_1) = (theArgs m c).arrDW
        ∧ r.2.mem ((c : Thread nD τ).loc main_v80_2) = (theArgs m c).arrDB ∧ r.2.mem ((c : Thread nD τ).loc main_v80_3) = (theArgs m c).arrDX
        ∧ r.2.mem ((c : Thread nD τ).loc main_v80_4) = (theArgs m c).arrDG) ∧ ArgsKept m r) :=
  run_values m ρ (fun c => (hF c).same) (fun c => (theArgs m c).arrDU) (fun c => (theArgs m c).arrDW) (fun c => (theArgs m c).arrDB)
    (fun c => (theArgs m c).arrDX) (fun c => (theArgs m c).arrDG) (fun _ _ _ _ _ => rfl) (fun _ _ _ _ _ => rfl) (fun _ _ _ _ => rfl)
    (fun _ _ _ => rfl) (fun _ _ => rfl)
end Kernel

section Reference
open Idealize.ShloMosaic.StableHlo Cert.ReferenceIdeal Cert.ReferenceIdeal.Gen Cert.ReferenceIdeal.Value

/-- Arrays that agree at every index are one. -/
theorem ext4 {n0 n1 n2 n3 : Nat} (v w : (⟨4, ![n0, n1, n2, n3]⟩ : Shape).Idx → EReal) (h : ∀ i j k l, v (ix4 i j k l) = w (ix4 i j k l)) : v = w := by
  funext y
  rw [eq_ix4 y]; exact h _ _ _ _
theorem ext2 {n0 n1 : Nat} (v w : (⟨2, ![n0, n1]⟩ : Shape).Idx → EReal) (h : ∀ i j, v (ix2 i j) = w (ix2 i j)) : v = w := by
  funext y
  rw [eq_ix2 y]; exact h _ _

/-- An array of one row is its row. -/
theorem one_row (v w : (⟨4, ![4, 2, 1, 704]⟩ : Shape).Idx → EReal) (h : ∀ j a l, v (ix4 j a (0 : Fin 1) l) = w (ix4 j a (0 : Fin 1) l)) : v = w := by
  funext y
  have e : y = ix4 (y 0) (y 1) (0 : Fin 1) (y 3) :=
    (eq_ix4 y).trans (congrArg (fun z : Fin 1 => ix4 (y 0) (y 1) z (y 3)) (Subsingleton.elim (α := Fin 1) (y 2) 0))
  rw [e]; exact h _ _ _
theorem one_row₂ (v w : (⟨2, ![1, 1024]⟩ : Shape).Idx → EReal) (h : ∀ d, v (ix2 (0 : Fin 1) d) = w (ix2 (0 : Fin 1) d)) : v = w := by
  funext y
  have e : y = ix2 (0 : Fin 1) (y 1) :=
    (eq_ix2 y).trans (congrArg (fun z : Fin 1 => ix2 z (y 1)) (Subsingleton.elim (α := Fin 1) (y 0) 0))
  rw [e]; exact h _

/-- The reference's run leaves the layer's gradients. -/
theorem reference_run (m : (ℓ : Loc nD τ sig) → Buf (Elt Ideal) ℓ) (ρ : Dev nD → PrngReg) (A : Dev nD → Args)
    (hA : ∀ c, Ref.argsOf (launchContents m c) = A c) (hF : ∀ c, (A c).Finite) :
    θ_run defs (onTc (τ := τ) (main (F := Ideal))) ⟨m, fun _ => 0, ρ⟩ (fun r => ∀ c : Dev nD,
      r.2.mem ((c.tc : Thread nD τ).loc main_v114) = (A c).arrDU ∧ r.2.mem ((c.tc : Thread nD τ).loc main_v116) = (A c).arrDW
      ∧ r.2.mem ((c.tc : Thread nD τ).loc main_v118) = (A c).arrDB ∧ r.2.mem ((c.tc : Thread nD τ).loc main_v120) = (A c).arrDX
      ∧ r.2.mem ((c.tc : Thread nD τ).loc main_v121) = (A c).arrDG
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Value.run (F := Ideal) m ρ)
  obtain ⟨h0, h1, h2, h3, h4, hk⟩ := h c
  have hF' := hF c
  have e := hA c
  generalize A c = B at e hF' ⊢
  subst e
  generalize launchContents m c = f at *
  exact ⟨h0.trans (ext4 _ _ fun a j R l => Ref.du_at f a j R l), h1.trans (ext4 _ _ fun j a k l => Ref.dw_at f j a k l),
    h2.trans (one_row _ _ fun j a l => Ref.db_at f j a l), h3.trans (ext2 _ _ fun R d => (Ref.dx_at f R d).trans (hF'.dx _ _ _)),
    h4.trans (one_row₂ _ _ fun d => Ref.dg_at f d), hk⟩
end Reference

end Cert.FfnBwd
-- ==== Proof.Rows.lean ====
/-
  A sum over all rows is a sum over the sequences and their rows.
-/
module

public import proofs.«01_k».proof.Proof.Sums

@[expose] public section

noncomputable section

namespace Cert.FfnBwd

open Idealize.ShloMosaic

theorem all_rows (f : Fin 2 → Fin 2048 → EReal) : ∑ R : Fin 4096, f (rb R) (rs R) = ∑ b : Fin 2, ∑ s : Fin 2048, f b s :=
  (Fin.sum_univ_tiles 8 512 rfl fun R : Fin 4096 => f (rb R) (rs R)).trans (sum_rows f)

end Cert.FfnBwd
-- ==== Proof.WeightIn.lean ====
/-
  The input projection's weight gradient: the kernel's blocks, one shard of columns a grid point, are the reference's product.
-/
module

public import proofs.«01_k».proof.Defs
public import proofs.«01_k».proof.Proof.Gen.Kernel2Ideal.Value
public import proofs.«01_k».proof.Proof.Gen.Reference2Ideal.Run
public import proofs.«01_k».proof.Proof.Math
public import proofs.«01_k».proof.Proof.Rows
public import Idealize.ShloMosaic.Lib.Pipeline.ValueKit
public import Idealize.ShloMosaic.Lib.Pointwise

@[expose] public section

set_option maxRecDepth 16384

noncomputable section

namespace Cert.WeightIn

open Idealize.ShloMosaic Idealize.ShloMosaic.TcCoe Idealize.ShloMosaic.Tactic Idealize.SL.Sem
open Cert.FfnBwd (rb rs)

section Kernel
open Cert.Kernel2Ideal Cert.Kernel2Ideal.Gen

theorem idx0 : ∀ t : Fin cfg0.N, win0_0.index t = ![t.val, 0, 0] := by decide +kernel
theorem idx1 : ∀ t : Fin cfg0.N, win0_1.index t = ![0, 0, 0] := by decide +kernel
theorem idx2 : ∀ t : Fin cfg0.N, win0_2.index t = ![t.val, 0, 0] := by decide +kernel

variable (m : (ℓ : Loc nD τ sig) → Buf (Elt Ideal) ℓ) (c : Dev nD) (t : Fin cfg0.N)

/-- The arguments at an index. -/
def gH (b : Fin 2) (s : Fin 2048) (d : Fin 1024) : EReal := m ((c : Thread nD τ).loc main_arg0) (ix3 b s d)
def gDu (b : Fin 2) (s : Fin 2048) (k : Fin 5632) : EReal := m ((c : Thread nD τ).loc main_arg1) (ix3 b s k)

/-- The layouts that the call is handed. -/
theorem V_du (j : Fin 8) (R : Fin 4096) (l : Fin 704) :
    V m c main_v2 (ix3 j R l) = m ((c : Thread nD τ).loc main_arg1) (ix3 (rb R) (rs R) ⟨j.val * 704 + l.val, by omega⟩) := by
  have e : V m c main_v2 = StableHlo.after hostOps0 (fun b => m (c, b)) main_v2 := rfl
  rw [e]
  dsimp only [hostOps0]
  after_results
  pointwise
  rfl
theorem V_h (R : Fin 4096) (d : Fin 1024) :
    V m c main_v4 (ix3 (0 : Fin 1) R d) = m ((c : Thread nD τ).loc main_arg0) (ix3 (rb R) (rs R) d) := by
  have e : V m c main_v4 = StableHlo.after hostOps0 (fun b => m (c, b)) main_v4 := rfl
  rw [e]
  dsimp only [hostOps0]
  after_results
  pointwise
  rfl

theorem pay_at (x : Vec Ideal S1x4096x704 .bf16) (y : Vec Ideal S1x4096x1024 .bf16) (l : Fin 704) (d : Fin 1024) :
    k0_pay1 x y (ix3 (0 : Fin 1) l d) = ∑ R : Fin 4096, x (ix3 (0 : Fin 1) R l) * y (ix3 (0 : Fin 1) R d) := by
  pointwise [k0_pay1]

theorem read0 (G : Buf (Elt Ideal) ((c : Thread nD τ).loc main_v2)) (R : Fin 4096) (l : Fin 704) :
    ((cfg0.win 0).blk t).view.read (Elt Ideal) G (ix3 (0 : Fin 1) R l) = G (ix3 (⟨t.val, t.isLt⟩ : Fin 8) R l) := by
  blk_ext [idx0 t]
theorem read1 (G : Buf (Elt Ideal) ((c : Thread nD τ).loc main_v4)) (R : Fin 4096) (d : Fin 1024) :
    ((cfg0.win 1).blk t).view.read (Elt Ideal) G (ix3 (0 : Fin 1) R d) = G (ix3 (0 : Fin 1) R d) := by
  blk_ext [idx1 t]
theorem emb2 (G : Buf (Elt Ideal) ((c : Thread nD τ).loc main_v5)) (l : Fin 704) (d : Fin 1024) :
    G ((win0_2.blk t).view.emb (ix3 (0 : Fin 1) l d)) = G (ix3 (⟨t.val, t.isLt⟩ : Fin 8) l d) := by
  blk_ext [idx2 t]

theorem out_at (l : Fin 704) (d : Fin 1024) :
    out0_2 (iblk m c 0 t) (iblk m c 1 t) (ix3 (0 : Fin 1) l d)
      = ∑ R : Fin 4096, gDu m c (rb R) (rs R) ⟨t.val * 704 + l.val, by have h : t.val < 8 := t.isLt; omega⟩ * gH m c (rb R) (rs R) d := by
  unfold out0_2
  rw [View.canon_cons_unit_lit _ _ _ (by decide), View.ld_unit_lit _ _ (by decide), View.ld_unit_lit _ _ (by decide)]
  refine (pay_at _ _ l d).trans (Finset.sum_congr rfl fun R _ => ?_)
  exact congrArg₂ (· * ·) ((read0 c t (V m c main_v2) R l).trans (V_du m c _ R l)) ((read1 c t (V m c main_v4) R d).trans (V_h m c R d))

/-- The array after the run, of any array that holds the sums. -/
theorem arr (G : Buf (Elt Ideal) ((c : Thread nD τ).loc main_v5))
    (hG : ∀ (j : Fin 8) (l : Fin 704) (d : Fin 1024), (G (ix3 j l d) : EReal)
      = ∑ R : Fin 4096, gDu m c (rb R) (rs R) ⟨j.val * 704 + l.val, by omega⟩ * gH m c (rb R) (rs R) d) :
    (dats m 0 c).arrAt 2 cfg0.N = G := by
  refine Pipeline.Dat.arrAt_eq_of_covers _ 2 _ (by decide +kernel) fun t hf y => ?_
  rw [after0_2]
  blk_simp
  have key : ∀ y : S1x704x1024.Idx, out0_2 (iblk m c 0 t) (iblk m c 1 t) y = G ((win0_2.blk t).view.emb y) := by
    intro y
    rw [(eq_ix3 y).trans (congrArg (fun z : Fin 1 => ix3 z (y 1) (y 2)) (Subsingleton.elim (α := Fin 1) (y 0) 0))]
    exact (out_at m c t (y 1) (y 2)).trans ((hG _ (y 1) (y 2)).symm.trans (emb2 c t G (y 1) (y 2)).symm)
  exact key y
end Kernel

section Reference
open Cert.Reference2Ideal Cert.Reference2Ideal.Gen
theorem ref_at (h : FVec Ideal S2x2048x1024 .f32) (du : FVec Ideal S2x2048x5632 .f32) (j : Fin 8) (l : Fin 704) (d : Fin 1024) :
    (truncf .bf16 (shapeCast _ (transpose S5632x1024 [1, 0] (transpose S1024x5632 [1, 0] (Host.dotGeneral dot_S2x2048x5632_S2x2048x1024_S5632x1024_01_01_2_2_n_n none du h)
      transposes_S5632x1024_S1024x5632_1_0) transposes_S1024x5632_S5632x1024_1_0) shapeCasts_S5632x1024_S8x704x1024) bitsLt_bf16_f32 : FVec Ideal S8x704x1024 .bf16)
      (ix3 j l d) = ∑ b : Fin 2, ∑ s : Fin 2048, du (ix3 b s ⟨j.val * 704 + l.val, by omega⟩) * h (ix3 b s d) := by
  pointwise

/-- The product's array is the array of the kernel's sums. -/
theorem ref_rows (h : FVec Ideal S2x2048x1024 .f32) (du : FVec Ideal S2x2048x5632 .f32) (j : Fin 8) (l : Fin 704) (d : Fin 1024) :
    (truncf .bf16 (shapeCast _ (transpose S5632x1024 [1, 0] (transpose S1024x5632 [1, 0] (Host.dotGeneral dot_S2x2048x5632_S2x2048x1024_S5632x1024_01_01_2_2_n_n none du h)
      transposes_S5632x1024_S1024x5632_1_0) transposes_S1024x5632_S5632x1024_1_0) shapeCasts_S5632x1024_S8x704x1024) bitsLt_bf16_f32 : FVec Ideal S8x704x1024 .bf16)
      (ix3 j l d) = ∑ R : Fin 4096, du (ix3 (rb R) (rs R) ⟨j.val * 704 + l.val, by omega⟩) * h (ix3 (rb R) (rs R) d) :=
  (ref_at h du j l d).trans (Cert.FfnBwd.all_rows fun b s => du (ix3 b s ⟨j.val * 704 + l.val, by omega⟩) * h (ix3 b s d)).symm
end Reference

/-- The kernel and the reference leave the same weight gradient. -/
theorem values : Cert.algebraic_Kernel2Ideal_Reference2Ideal := by
  intro m g m' g' _ hargs
  refine ⟨fun c => (Cert.Kernel2Ideal.Gen.dats m 0 c).arrAt 2 Cert.Kernel2Ideal.cfg0.N, Cert.Kernel2Ideal.Value.run_blocks m g, ?_⟩
  refine (θ_run Cert.Reference2Ideal.defs _ _).mono (fun r h c => ⟨(h c).1.trans (arr m c _ fun j l d => ?_).symm, (h c).2⟩)
    (Cert.Reference2Ideal.Value.run (F := Ideal) m' g')
  obtain ⟨h0, h1⟩ := hargs c
  refine (ref_rows _ _ j l d).trans ?_
  exact Finset.sum_congr rfl fun R _ => congrArg₂ (· * ·) (congrFun h1 _) (congrFun h0 _)

end Cert.WeightIn
-- ==== Proof.WeightOut.lean ====
/-
  The output projection's weight gradient: the kernel's blocks, one shard of rows a grid point, are the reference's product.
-/
module

public import proofs.«01_k».proof.Defs
public import proofs.«01_k».proof.Proof.Gen.Kernel3Ideal.Value
public import proofs.«01_k».proof.Proof.Gen.Reference3Ideal.Run
public import proofs.«01_k».proof.Proof.Math
public import proofs.«01_k».proof.Proof.Rows
public import Idealize.ShloMosaic.Lib.Pipeline.ValueKit
public import Idealize.ShloMosaic.Lib.Pointwise

@[expose] public section

set_option maxRecDepth 16384

noncomputable section

namespace Cert.WeightOut

open Idealize.ShloMosaic Idealize.ShloMosaic.TcCoe Idealize.ShloMosaic.Tactic Idealize.SL.Sem
open Cert.FfnBwd (rb rs)

section Kernel
open Cert.Kernel3Ideal Cert.Kernel3Ideal.Gen

theorem idx0 : ∀ t : Fin cfg0.N, win0_0.index t = ![t.val, 0, 0] := by decide +kernel
theorem idx1 : ∀ t : Fin cfg0.N, win0_1.index t = ![0, 0, 0] := by decide +kernel
theorem idx2 : ∀ t : Fin cfg0.N, win0_2.index t = ![t.val, 0, 0] := by decide +kernel

variable (m : (ℓ : Loc nD τ sig) → Buf (Elt Ideal) ℓ) (c : Dev nD) (t : Fin cfg0.N)

/-- The arguments at an index. -/
def gDy (b : Fin 2) (s : Fin 2048) (d : Fin 1024) : EReal := m ((c : Thread nD τ).loc main_arg1) (ix3 b s d)
def gZ (b : Fin 2) (s : Fin 2048) (k : Fin 2816) : EReal := m ((c : Thread nD τ).loc main_arg0) (ix3 b s k)

/-- The layouts that the call is handed. -/
theorem V_z (j : Fin 4) (R : Fin 4096) (l : Fin 704) :
    V m c main_v2 (ix3 j R l) = m ((c : Thread nD τ).loc main_arg0) (ix3 (rb R) (rs R) ⟨j.val * 704 + l.val, by omega⟩) := by
  have e : V m c main_v2 = StableHlo.after hostOps0 (fun b => m (c, b)) main_v2 := rfl
  rw [e]
  dsimp only [hostOps0]
  after_results
  pointwise
  rfl
theorem V_dy (R : Fin 4096) (d : Fin 1024) :
    V m c main_v4 (ix3 (0 : Fin 1) R d) = m ((c : Thread nD τ).loc main_arg1) (ix3 (rb R) (rs R) d) := by
  have e : V m c main_v4 = StableHlo.after hostOps0 (fun b => m (c, b)) main_v4 := rfl
  rw [e]
  dsimp only [hostOps0]
  after_results
  pointwise
  rfl

theorem pay_at (x : Vec Ideal S1x4096x704 .bf16) (y : Vec Ideal S1x4096x1024 .bf16) (l : Fin 704) (d : Fin 1024) :
    k0_pay1 x y (ix3 (0 : Fin 1) l d) = ∑ R : Fin 4096, x (ix3 (0 : Fin 1) R l) * y (ix3 (0 : Fin 1) R d) := by
  pointwise [k0_pay1]

theorem read0 (G : Buf (Elt Ideal) ((c : Thread nD τ).loc main_v2)) (R : Fin 4096) (l : Fin 704) :
    ((cfg0.win 0).blk t).view.read (Elt Ideal) G (ix3 (0 : Fin 1) R l) = G (ix3 (⟨t.val, t.isLt⟩ : Fin 4) R l) := by
  blk_ext [idx0 t]
theorem read1 (G : Buf (Elt Ideal) ((c : Thread nD τ).loc main_v4)) (R : Fin 4096) (d : Fin 1024) :
    ((cfg0.win 1).blk t).view.read (Elt Ideal) G (ix3 (0 : Fin 1) R d) = G (ix3 (0 : Fin 1) R d) := by
  blk_ext [idx1 t]
theorem emb2 (G : Buf (Elt Ideal) ((c : Thread nD τ).loc main_v5)) (l : Fin 704) (d : Fin 1024) :
    G ((win0_2.blk t).view.emb (ix3 (0 : Fin 1) l d)) = G (ix3 (⟨t.val, t.isLt⟩ : Fin 4) l d) := by
  blk_ext [idx2 t]

theorem out_at (l : Fin 704) (d : Fin 1024) :
    out0_2 (iblk m c 0 t) (iblk m c 1 t) (ix3 (0 : Fin 1) l d)
      = ∑ R : Fin 4096, gZ m c (rb R) (rs R) ⟨t.val * 704 + l.val, by have h : t.val < 4 := t.isLt; omega⟩ * gDy m c (rb R) (rs R) d := by
  unfold out0_2
  rw [View.canon_cons_unit_lit _ _ _ (by decide), View.ld_unit_lit _ _ (by decide), View.ld_unit_lit _ _ (by decide)]
  refine (pay_at _ _ l d).trans (Finset.sum_congr rfl fun R _ => ?_)
  exact congrArg₂ (· * ·) ((read0 c t (V m c main_v2) R l).trans (V_z m c _ R l)) ((read1 c t (V m c main_v4) R d).trans (V_dy m c R d))

/-- The array after the run, of any array that holds the sums. -/
theorem arr (G : Buf (Elt Ideal) ((c : Thread nD τ).loc main_v5))
    (hG : ∀ (j : Fin 4) (l : Fin 704) (d : Fin 1024), (G (ix3 j l d) : EReal)
      = ∑ R : Fin 4096, gZ m c (rb R) (rs R) ⟨j.val * 704 + l.val, by omega⟩ * gDy m c (rb R) (rs R) d) :
    (dats m 0 c).arrAt 2 cfg0.N = G := by
  refine Pipeline.Dat.arrAt_eq_of_covers _ 2 _ (by decide +kernel) fun t hf y => ?_
  rw [after0_2]
  blk_simp
  have key : ∀ y : S1x704x1024.Idx, out0_2 (iblk m c 0 t) (iblk m c 1 t) y = G ((win0_2.blk t).view.emb y) := by
    intro y
    rw [(eq_ix3 y).trans (congrArg (fun z : Fin 1 => ix3 z (y 1) (y 2)) (Subsingleton.elim (α := Fin 1) (y 0) 0))]
    exact (out_at m c t (y 1) (y 2)).trans ((hG _ (y 1) (y 2)).symm.trans (emb2 c t G (y 1) (y 2)).symm)
  exact key y
end Kernel

section Reference
open Cert.Reference3Ideal Cert.Reference3Ideal.Gen
theorem ref_at (z : FVec Ideal S2x2048x2816 .f32) (dy : FVec Ideal S2x2048x1024 .f32) (j : Fin 4) (l : Fin 704) (d : Fin 1024) :
    (truncf .bf16 (shapeCast _ (transpose S2816x1024 [1, 0] (Host.dotGeneral dot_S2x2048x1024_S2x2048x2816_S1024x2816_01_01_2_2_n_n none dy z)
      transposes_S1024x2816_S2816x1024_1_0) shapeCasts_S2816x1024_S4x704x1024) bitsLt_bf16_f32 : FVec Ideal S4x704x1024 .bf16)
      (ix3 j l d) = ∑ b : Fin 2, ∑ s : Fin 2048, dy (ix3 b s d) * z (ix3 b s ⟨j.val * 704 + l.val, by omega⟩) := by
  pointwise

/-- The product's array is the array of the kernel's sums. -/
theorem ref_rows (z : FVec Ideal S2x2048x2816 .f32) (dy : FVec Ideal S2x2048x1024 .f32) (j : Fin 4) (l : Fin 704) (d : Fin 1024) :
    (truncf .bf16 (shapeCast _ (transpose S2816x1024 [1, 0] (Host.dotGeneral dot_S2x2048x1024_S2x2048x2816_S1024x2816_01_01_2_2_n_n none dy z)
      transposes_S1024x2816_S2816x1024_1_0) shapeCasts_S2816x1024_S4x704x1024) bitsLt_bf16_f32 : FVec Ideal S4x704x1024 .bf16)
      (ix3 j l d) = ∑ R : Fin 4096, z (ix3 (rb R) (rs R) ⟨j.val * 704 + l.val, by omega⟩) * dy (ix3 (rb R) (rs R) d) := by
  refine (ref_at z dy j l d).trans ((Cert.FfnBwd.all_rows fun b s => dy (ix3 b s d) * z (ix3 b s ⟨j.val * 704 + l.val, by omega⟩)).symm.trans ?_)
  exact Finset.sum_congr rfl fun R _ => mul_comm _ _
end Reference

/-- The kernel and the reference leave the same weight gradient. -/
theorem values : Cert.algebraic_Kernel3Ideal_Reference3Ideal := by
  intro m g m' g' _ hargs
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ⟨(h c).1.trans (arr m c _ fun j l d => ?_).symm, (h c).2⟩)
    (Cert.Reference3Ideal.Value.run (F := Ideal) m' g')
  obtain ⟨h0, h1⟩ := hargs c
  refine (ref_rows _ _ j l d).trans ?_
  exact Finset.sum_congr rfl fun R _ => congrArg₂ (· * ·) (congrFun h0 _) (congrFun h1 _)

end Cert.WeightOut
-- ==== Proof.WeightKv.lean ====
/-
  The key and value projection's weight gradient: the kernel's blocks, one shard of columns a grid point, are the reference's product.
-/
module

public import proofs.«01_k».proof.Defs
public import proofs.«01_k».proof.Proof.Gen.Kernel4Ideal.Value
public import proofs.«01_k».proof.Proof.Gen.Reference4Ideal.Run
public import proofs.«01_k».proof.Proof.Math
public import proofs.«01_k».proof.Proof.Rows
public import Idealize.ShloMosaic.Lib.Pipeline.ValueKit
public import Idealize.ShloMosaic.Lib.Pointwise

@[expose] public section

set_option maxRecDepth 16384

noncomputable section

namespace Cert.WeightKv

open Idealize.ShloMosaic Idealize.ShloMosaic.TcCoe Idealize.ShloMosaic.Tactic Idealize.SL.Sem
open Cert.FfnBwd (rb rs)

section Kernel
open Cert.Kernel4Ideal Cert.Kernel4Ideal.Gen

theorem idx0 : ∀ t : Fin cfg0.N, win0_0.index t = ![0, 0, 0] := by decide +kernel
theorem idx1 : ∀ t : Fin cfg0.N, win0_1.index t = ![t.val, 0, 0] := by decide +kernel
theorem idx2 : ∀ t : Fin cfg0.N, win0_2.index t = ![t.val, 0, 0] := by decide +kernel

variable (m : (ℓ : Loc nD τ sig) → Buf (Elt Ideal) ℓ) (c : Dev nD) (t : Fin cfg0.N)

/-- The arguments at an index. -/
def gH (b : Fin 2) (s : Fin 2048) (d : Fin 1024) : EReal := m ((c : Thread nD τ).loc main_arg0) (ix3 b s d)
def gO (b : Fin 2) (s : Fin 2048) (k : Fin 6144) : EReal := m ((c : Thread nD τ).loc main_arg1) (ix3 b s k)

/-- The layouts that the call is handed. -/
theorem V_h (R : Fin 4096) (d : Fin 1024) :
    V m c main_v1 (ix3 (0 : Fin 1) R d) = m ((c : Thread nD τ).loc main_arg0) (ix3 (rb R) (rs R) d) := by
  have e : V m c main_v1 = StableHlo.after hostOps0 (fun b => m (c, b)) main_v1 := rfl
  rw [e]
  dsimp only [hostOps0]
  after_results
  pointwise
  rfl
theorem V_o (j : Fin 8) (R : Fin 4096) (l : Fin 768) :
    V m c main_v4 (ix3 j R l) = m ((c : Thread nD τ).loc main_arg1) (ix3 (rb R) (rs R) ⟨j.val * 768 + l.val, by omega⟩) := by
  have e : V m c main_v4 = StableHlo.after hostOps0 (fun b => m (c, b)) main_v4 := rfl
  rw [e]
  dsimp only [hostOps0]
  after_results
  pointwise
  rfl

theorem pay_at (x : Vec Ideal S1x4096x1024 .bf16) (y : Vec Ideal S1x4096x768 .bf16) (d : Fin 1024) (l : Fin 768) :
    k0_pay1 x y (ix3 (0 : Fin 1) d l) = ∑ R : Fin 4096, x (ix3 (0 : Fin 1) R d) * y (ix3 (0 : Fin 1) R l) := by
  pointwise [k0_pay1]

theorem read0 (G : Buf (Elt Ideal) ((c : Thread nD τ).loc main_v1)) (R : Fin 4096) (d : Fin 1024) :
    ((cfg0.win 0).blk t).view.read (Elt Ideal) G (ix3 (0 : Fin 1) R d) = G (ix3 (0 : Fin 1) R d) := by
  blk_ext [idx0 t]
theorem read1 (G : Buf (Elt Ideal) ((c : Thread nD τ).loc main_v4)) (R : Fin 4096) (l : Fin 768) :
    ((cfg0.win 1).blk t).view.read (Elt Ideal) G (ix3 (0 : Fin 1) R l) = G (ix3 (⟨t.val, t.isLt⟩ : Fin 8) R l) := by
  blk_ext [idx1 t]
theorem emb2 (G : Buf (Elt Ideal) ((c : Thread nD τ).loc main_v5)) (d : Fin 1024) (l : Fin 768) :
    G ((win0_2.blk t).view.emb (ix3 (0 : Fin 1) d l)) = G (ix3 (⟨t.val, t.isLt⟩ : Fin 8) d l) := by
  blk_ext [idx2 t]

theorem out_at (d : Fin 1024) (l : Fin 768) :
    out0_2 (iblk m c 0 t) (iblk m c 1 t) (ix3 (0 : Fin 1) d l)
      = ∑ R : Fin 4096, gH m c (rb R) (rs R) d * gO m c (rb R) (rs R) ⟨t.val * 768 + l.val, by have h : t.val < 8 := t.isLt; omega⟩ := by
  unfold out0_2
  rw [View.canon_cons_unit_lit _ _ _ (by decide), View.ld_unit_lit _ _ (by decide), View.ld_unit_lit _ _ (by decide)]
  refine (pay_at _ _ d l).trans (Finset.sum_congr rfl fun R _ => ?_)
  exact congrArg₂ (· * ·) ((read0 c t (V m c main_v1) R d).trans (V_h m c R d)) ((read1 c t (V m c main_v4) R l).trans (V_o m c _ R l))

/-- The array after the run, of any array that holds the sums. -/
theorem arr (G : Buf (Elt Ideal) ((c : Thread nD τ).loc main_v5))
    (hG : ∀ (j : Fin 8) (d : Fin 1024) (l : Fin 768), (G (ix3 j d l) : EReal)
      = ∑ R : Fin 4096, gH m c (rb R) (rs R) d * gO m c (rb R) (rs R) ⟨j.val * 768 + l.val, by omega⟩) :
    (dats m 0 c).arrAt 2 cfg0.N = G := by
  refine Pipeline.Dat.arrAt_eq_of_covers _ 2 _ (by decide +kernel) fun t hf y => ?_
  rw [after0_2]
  blk_simp
  have key : ∀ y : S1x1024x768.Idx, out0_2 (iblk m c 0 t) (iblk m c 1 t) y = G ((win0_2.blk t).view.emb y) := by
    intro y
    rw [(eq_ix3 y).trans (congrArg (fun z : Fin 1 => ix3 z (y 1) (y 2)) (Subsingleton.elim (α := Fin 1) (y 0) 0))]
    exact (out_at m c t (y 1) (y 2)).trans ((hG _ (y 1) (y 2)).symm.trans (emb2 c t G (y 1) (y 2)).symm)
  exact key y
end Kernel

section Reference
open Cert.Reference4Ideal Cert.Reference4Ideal.Gen

/-- The product's array is the array of the kernel's sums. -/
theorem ref_rows (h : FVec Ideal S2x2048x1024 .f32) (o : FVec Ideal S2x2048x6144 .f32) (j : Fin 8) (d : Fin 1024) (l : Fin 768) :
    (truncf .bf16 (transpose S8x1024x768 [1, 0, 2] (shapeCast _ (transpose S1024x6144 [1, 0]
      (Host.dotGeneral dot_S2x2048x6144_S2x2048x1024_S6144x1024_01_01_2_2_n_n none o h) transposes_S6144x1024_S1024x6144_1_0)
      shapeCasts_S1024x6144_S1024x8x768) transposes_S1024x8x768_S8x1024x768_1_0_2) bitsLt_bf16_f32 : FVec Ideal S8x1024x768 .bf16) (ix3 j d l)
      = ∑ R : Fin 4096, h (ix3 (rb R) (rs R) d) * o (ix3 (rb R) (rs R) ⟨j.val * 768 + l.val, by omega⟩) := by
  refine Eq.trans (b := ∑ b : Fin 2, ∑ s : Fin 2048, o (ix3 b s ⟨j.val * 768 + l.val, by omega⟩) * h (ix3 b s d)) (by pointwise) ?_
  refine (Cert.FfnBwd.all_rows fun b s => o (ix3 b s ⟨j.val * 768 + l.val, by omega⟩) * h (ix3 b s d)).symm.trans ?_
  exact Finset.sum_congr rfl fun R _ => mul_comm _ _
end Reference

/-- The kernel and the reference leave the same weight gradient. -/
theorem values : Cert.algebraic_Kernel4Ideal_Reference4Ideal := by
  intro m g m' g' _ hargs
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ⟨(h c).1.trans (arr m c _ fun j d l => ?_).symm, (h c).2⟩)
    (Cert.Reference4Ideal.Value.run (F := Ideal) m' g')
  obtain ⟨h0, h1⟩ := hargs c
  refine (ref_rows _ _ j d l).trans ?_
  exact Finset.sum_congr rfl fun R _ => congrArg₂ (· * ·) (congrFun h0 _) (congrFun h1 _)

end Cert.WeightKv
-- ==== Proof.WeightQ.lean ====
/-
  The query projection's weight gradient: the kernel's blocks, one shard of columns a grid point, are the reference's product.
-/
module

public import proofs.«01_k».proof.Defs
public import proofs.«01_k».proof.Proof.Gen.Kernel5Ideal.Value
public import proofs.«01_k».proof.Proof.Gen.Reference5Ideal.Run
public import proofs.«01_k».proof.Proof.Math
public import proofs.«01_k».proof.Proof.Rows
public import Idealize.ShloMosaic.Lib.Pipeline.ValueKit
public import Idealize.ShloMosaic.Lib.Pointwise

@[expose] public section

set_option maxRecDepth 16384

noncomputable section

namespace Cert.WeightQ

open Idealize.ShloMosaic Idealize.ShloMosaic.TcCoe Idealize.ShloMosaic.Tactic Idealize.SL.Sem
open Cert.FfnBwd (rb rs)

section Kernel
open Cert.Kernel5Ideal Cert.Kernel5Ideal.Gen

theorem idx0 : ∀ t : Fin cfg0.N, win0_0.index t = ![0, 0, 0] := by decide +kernel
theorem idx1 : ∀ t : Fin cfg0.N, win0_1.index t = ![t.val, 0, 0] := by decide +kernel
theorem idx2 : ∀ t : Fin cfg0.N, win0_2.index t = ![t.val, 0, 0] := by decide +kernel

variable (m : (ℓ : Loc nD τ sig) → Buf (Elt Ideal) ℓ) (c : Dev nD) (t : Fin cfg0.N)

/-- The arguments at an index. -/
def gH (b : Fin 2) (s : Fin 2048) (d : Fin 1024) : EReal := m ((c : Thread nD τ).loc main_arg0) (ix3 b s d)
def gO (b : Fin 2) (s : Fin 2048) (k : Fin 3072) : EReal := m ((c : Thread nD τ).loc main_arg1) (ix3 b s k)

/-- The layouts that the call is handed. -/
theorem V_h (R : Fin 4096) (d : Fin 1024) :
    V m c main_v1 (ix3 (0 : Fin 1) R d) = m ((c : Thread nD τ).loc main_arg0) (ix3 (rb R) (rs R) d) := by
  have e : V m c main_v1 = StableHlo.after hostOps0 (fun b => m (c, b)) main_v1 := rfl
  rw [e]
  dsimp only [hostOps0]
  after_results
  pointwise
  rfl
theorem V_o (j : Fin 8) (R : Fin 4096) (l : Fin 384) :
    V m c main_v4 (ix3 j R l) = m ((c : Thread nD τ).loc main_arg1) (ix3 (rb R) (rs R) ⟨j.val * 384 + l.val, by omega⟩) := by
  have e : V m c main_v4 = StableHlo.after hostOps0 (fun b => m (c, b)) main_v4 := rfl
  rw [e]
  dsimp only [hostOps0]
  after_results
  pointwise
  rfl

theorem pay_at (x : Vec Ideal S1x4096x1024 .bf16) (y : Vec Ideal S1x4096x384 .bf16) (d : Fin 1024) (l : Fin 384) :
    k0_pay1 x y (ix3 (0 : Fin 1) d l) = ∑ R : Fin 4096, x (ix3 (0 : Fin 1) R d) * y (ix3 (0 : Fin 1) R l) := by
  pointwise [k0_pay1]

theorem read0 (G : Buf (Elt Ideal) ((c : Thread nD τ).loc main_v1)) (R : Fin 4096) (d : Fin 1024) :
    ((cfg0.win 0).blk t).view.read (Elt Ideal) G (ix3 (0 : Fin 1) R d) = G (ix3 (0 : Fin 1) R d) := by
  blk_ext [idx0 t]
theorem read1 (G : Buf (Elt Ideal) ((c : Thread nD τ).loc main_v4)) (R : Fin 4096) (l : Fin 384) :
    ((cfg0.win 1).blk t).view.read (Elt Ideal) G (ix3 (0 : Fin 1) R l) = G (ix3 (⟨t.val, t.isLt⟩ : Fin 8) R l) := by
  blk_ext [idx1 t]
theorem emb2 (G : Buf (Elt Ideal) ((c : Thread nD τ).loc main_v5)) (d : Fin 1024) (l : Fin 384) :
    G ((win0_2.blk t).view.emb (ix3 (0 : Fin 1) d l)) = G (ix3 (⟨t.val, t.isLt⟩ : Fin 8) d l) := by
  blk_ext [idx2 t]

theorem out_at (d : Fin 1024) (l : Fin 384) :
    out0_2 (iblk m c 0 t) (iblk m c 1 t) (ix3 (0 : Fin 1) d l)
      = ∑ R : Fin 4096, gH m c (rb R) (rs R) d * gO m c (rb R) (rs R) ⟨t.val * 384 + l.val, by have h : t.val < 8 := t.isLt; omega⟩ := by
  unfold out0_2
  rw [View.canon_cons_unit_lit _ _ _ (by decide), View.ld_unit_lit _ _ (by decide), View.ld_unit_lit _ _ (by decide)]
  refine (pay_at _ _ d l).trans (Finset.sum_congr rfl fun R _ => ?_)
  exact congrArg₂ (· * ·) ((read0 c t (V m c main_v1) R d).trans (V_h m c R d)) ((read1 c t (V m c main_v4) R l).trans (V_o m c _ R l))

/-- The array after the run, of any array that holds the sums. -/
theorem arr (G : Buf (Elt Ideal) ((c : Thread nD τ).loc main_v5))
    (hG : ∀ (j : Fin 8) (d : Fin 1024) (l : Fin 384), (G (ix3 j d l) : EReal)
      = ∑ R : Fin 4096, gH m c (rb R) (rs R) d * gO m c (rb R) (rs R) ⟨j.val * 384 + l.val, by omega⟩) :
    (dats m 0 c).arrAt 2 cfg0.N = G := by
  refine Pipeline.Dat.arrAt_eq_of_covers _ 2 _ (by decide +kernel) fun t hf y => ?_
  rw [after0_2]
  blk_simp
  have key : ∀ y : S1x1024x384.Idx, out0_2 (iblk m c 0 t) (iblk m c 1 t) y = G ((win0_2.blk t).view.emb y) := by
    intro y
    rw [(eq_ix3 y).trans (congrArg (fun z : Fin 1 => ix3 z (y 1) (y 2)) (Subsingleton.elim (α := Fin 1) (y 0) 0))]
    exact (out_at m c t (y 1) (y 2)).trans ((hG _ (y 1) (y 2)).symm.trans (emb2 c t G (y 1) (y 2)).symm)
  exact key y
end Kernel

section Reference
open Cert.Reference5Ideal Cert.Reference5Ideal.Gen

/-- The product's array is the array of the kernel's sums. -/
theorem ref_rows (h : FVec Ideal S2x2048x1024 .f32) (o : FVec Ideal S2x2048x3072 .f32) (j : Fin 8) (d : Fin 1024) (l : Fin 384) :
    (truncf .bf16 (transpose S8x1024x384 [1, 0, 2] (shapeCast _ (transpose S1024x3072 [1, 0]
      (Host.dotGeneral dot_S2x2048x3072_S2x2048x1024_S3072x1024_01_01_2_2_n_n none o h) transposes_S3072x1024_S1024x3072_1_0)
      shapeCasts_S1024x3072_S1024x8x384) transposes_S1024x8x384_S8x1024x384_1_0_2) bitsLt_bf16_f32 : FVec Ideal S8x1024x384 .bf16) (ix3 j d l)
      = ∑ R : Fin 4096, h (ix3 (rb R) (rs R) d) * o (ix3 (rb R) (rs R) ⟨j.val * 384 + l.val, by omega⟩) := by
  refine Eq.trans (b := ∑ b : Fin 2, ∑ s : Fin 2048, o (ix3 b s ⟨j.val * 384 + l.val, by omega⟩) * h (ix3 b s d)) (by pointwise) ?_
  refine (Cert.FfnBwd.all_rows fun b s => o (ix3 b s ⟨j.val * 384 + l.val, by omega⟩) * h (ix3 b s d)).symm.trans ?_
  exact Finset.sum_congr rfl fun R _ => mul_comm _ _
end Reference

/-- The kernel and the reference leave the same weight gradient. -/
theorem values : Cert.algebraic_Kernel5Ideal_Reference5Ideal := by
  intro m g m' g' _ hargs
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ⟨(h c).1.trans (arr m c _ fun j d l => ?_).symm, (h c).2⟩)
    (Cert.Reference5Ideal.Value.run (F := Ideal) m' g')
  obtain ⟨h0, h1⟩ := hargs c
  refine (ref_rows _ _ j d l).trans ?_
  exact Finset.sum_congr rfl fun R _ => congrArg₂ (· * ·) (congrFun h0 _) (congrFun h1 _)

end Cert.WeightQ
-- ==== Proof.WeightCm.lean ====
/-
  The Conformer's input projection's weight gradient: the kernel's blocks, one shard of columns a grid point, are the reference's product.
-/
module

public import proofs.«01_k».proof.Defs
public import proofs.«01_k».proof.Proof.Gen.Kernel6Ideal.Value
public import proofs.«01_k».proof.Proof.Gen.Reference6Ideal.Run
public import proofs.«01_k».proof.Proof.Math
public import proofs.«01_k».proof.Proof.Rows
public import Idealize.ShloMosaic.Lib.Pipeline.ValueKit
public import Idealize.ShloMosaic.Lib.Pointwise

@[expose] public section

set_option maxRecDepth 16384

noncomputable section

namespace Cert.WeightCm

open Idealize.ShloMosaic Idealize.ShloMosaic.TcCoe Idealize.ShloMosaic.Tactic Idealize.SL.Sem
open Cert.FfnBwd (rb rs)

section Kernel
open Cert.Kernel6Ideal Cert.Kernel6Ideal.Gen

theorem idx0 : ∀ t : Fin cfg0.N, win0_0.index t = ![0, 0, 0] := by decide +kernel
theorem idx1 : ∀ t : Fin cfg0.N, win0_1.index t = ![t.val, 0, 0] := by decide +kernel
theorem idx2 : ∀ t : Fin cfg0.N, win0_2.index t = ![t.val, 0, 0] := by decide +kernel

variable (m : (ℓ : Loc nD τ sig) → Buf (Elt Ideal) ℓ) (c : Dev nD) (t : Fin cfg0.N)

/-- The arguments at an index. -/
def gH (b : Fin 2) (s : Fin 2048) (d : Fin 1024) : EReal := m ((c : Thread nD τ).loc main_arg0) (ix3 b s d)
def gO (b : Fin 2) (s : Fin 2048) (k : Fin 2048) : EReal := m ((c : Thread nD τ).loc main_arg1) (ix3 b s k)

/-- The layouts that the call is handed. -/
theorem V_h (R : Fin 4096) (d : Fin 1024) :
    V m c main_v1 (ix3 (0 : Fin 1) R d) = m ((c : Thread nD τ).loc main_arg0) (ix3 (rb R) (rs R) d) := by
  have e : V m c main_v1 = StableHlo.after hostOps0 (fun b => m (c, b)) main_v1 := rfl
  rw [e]
  dsimp only [hostOps0]
  after_results
  pointwise
  rfl
theorem V_o (j : Fin 8) (R : Fin 4096) (l : Fin 256) :
    V m c main_v4 (ix3 j R l) = m ((c : Thread nD τ).loc main_arg1) (ix3 (rb R) (rs R) ⟨j.val * 256 + l.val, by omega⟩) := by
  have e : V m c main_v4 = StableHlo.after hostOps0 (fun b => m (c, b)) main_v4 := rfl
  rw [e]
  dsimp only [hostOps0]
  after_results
  pointwise
  rfl

theorem pay_at (x : Vec Ideal S1x4096x1024 .bf16) (y : Vec Ideal S1x4096x256 .bf16) (d : Fin 1024) (l : Fin 256) :
    k0_pay1 x y (ix3 (0 : Fin 1) d l) = ∑ R : Fin 4096, x (ix3 (0 : Fin 1) R d) * y (ix3 (0 : Fin 1) R l) := by
  pointwise [k0_pay1]

theorem read0 (G : Buf (Elt Ideal) ((c : Thread nD τ).loc main_v1)) (R : Fin 4096) (d : Fin 1024) :
    ((cfg0.win 0).blk t).view.read (Elt Ideal) G (ix3 (0 : Fin 1) R d) = G (ix3 (0 : Fin 1) R d) := by
  blk_ext [idx0 t]
theorem read1 (G : Buf (Elt Ideal) ((c : Thread nD τ).loc main_v4)) (R : Fin 4096) (l : Fin 256) :
    ((cfg0.win 1).blk t).view.read (Elt Ideal) G (ix3 (0 : Fin 1) R l) = G (ix3 (⟨t.val, t.isLt⟩ : Fin 8) R l) := by
  blk_ext [idx1 t]
theorem emb2 (G : Buf (Elt Ideal) ((c : Thread nD τ).loc main_v5)) (d : Fin 1024) (l : Fin 256) :
    G ((win0_2.blk t).view.emb (ix3 (0 : Fin 1) d l)) = G (ix3 (⟨t.val, t.isLt⟩ : Fin 8) d l) := by
  blk_ext [idx2 t]

theorem out_at (d : Fin 1024) (l : Fin 256) :
    out0_2 (iblk m c 0 t) (iblk m c 1 t) (ix3 (0 : Fin 1) d l)
      = ∑ R : Fin 4096, gH m c (rb R) (rs R) d * gO m c (rb R) (rs R) ⟨t.val * 256 + l.val, by have h : t.val < 8 := t.isLt; omega⟩ := by
  unfold out0_2
  rw [View.canon_cons_unit_lit _ _ _ (by decide), View.ld_unit_lit _ _ (by decide), View.ld_unit_lit _ _ (by decide)]
  refine (pay_at _ _ d l).trans (Finset.sum_congr rfl fun R _ => ?_)
  exact congrArg₂ (· * ·) ((read0 c t (V m c main_v1) R d).trans (V_h m c R d)) ((read1 c t (V m c main_v4) R l).trans (V_o m c _ R l))

/-- The array after the run, of any array that holds the sums. -/
theorem arr (G : Buf (Elt Ideal) ((c : Thread nD τ).loc main_v5))
    (hG : ∀ (j : Fin 8) (d : Fin 1024) (l : Fin 256), (G (ix3 j d l) : EReal)
      = ∑ R : Fin 4096, gH m c (rb R) (rs R) d * gO m c (rb R) (rs R) ⟨j.val * 256 + l.val, by omega⟩) :
    (dats m 0 c).arrAt 2 cfg0.N = G := by
  refine Pipeline.Dat.arrAt_eq_of_covers _ 2 _ (by decide +kernel) fun t hf y => ?_
  rw [after0_2]
  blk_simp
  have key : ∀ y : S1x1024x256.Idx, out0_2 (iblk m c 0 t) (iblk m c 1 t) y = G ((win0_2.blk t).view.emb y) := by
    intro y
    rw [(eq_ix3 y).trans (congrArg (fun z : Fin 1 => ix3 z (y 1) (y 2)) (Subsingleton.elim (α := Fin 1) (y 0) 0))]
    exact (out_at m c t (y 1) (y 2)).trans ((hG _ (y 1) (y 2)).symm.trans (emb2 c t G (y 1) (y 2)).symm)
  exact key y
end Kernel

section Reference
open Cert.Reference6Ideal Cert.Reference6Ideal.Gen

/-- The product's array is the array of the kernel's sums. -/
theorem ref_rows (h : FVec Ideal S2x2048x1024 .f32) (o : FVec Ideal S2x2048x2048 .f32) (j : Fin 8) (d : Fin 1024) (l : Fin 256) :
    (truncf .bf16 (transpose S8x1024x256 [1, 0, 2] (shapeCast _ (transpose S1024x2048 [1, 0]
      (Host.dotGeneral dot_S2x2048x2048_S2x2048x1024_S2048x1024_01_01_2_2_n_n none o h) transposes_S2048x1024_S1024x2048_1_0)
      shapeCasts_S1024x2048_S1024x8x256) transposes_S1024x8x256_S8x1024x256_1_0_2) bitsLt_bf16_f32 : FVec Ideal S8x1024x256 .bf16) (ix3 j d l)
      = ∑ R : Fin 4096, h (ix3 (rb R) (rs R) d) * o (ix3 (rb R) (rs R) ⟨j.val * 256 + l.val, by omega⟩) := by
  refine Eq.trans (b := ∑ b : Fin 2, ∑ s : Fin 2048, o (ix3 b s ⟨j.val * 256 + l.val, by omega⟩) * h (ix3 b s d)) (by pointwise) ?_
  refine (Cert.FfnBwd.all_rows fun b s => o (ix3 b s ⟨j.val * 256 + l.val, by omega⟩) * h (ix3 b s d)).symm.trans ?_
  exact Finset.sum_congr rfl fun R _ => mul_comm _ _
end Reference

/-- The kernel and the reference leave the same weight gradient. -/
theorem values : Cert.algebraic_Kernel6Ideal_Reference6Ideal := by
  intro m g m' g' _ hargs
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ⟨(h c).1.trans (arr m c _ fun j d l => ?_).symm, (h c).2⟩)
    (Cert.Reference6Ideal.Value.run (F := Ideal) m' g')
  obtain ⟨h0, h1⟩ := hargs c
  refine (ref_rows _ _ j d l).trans ?_
  exact Finset.sum_congr rfl fun R _ => congrArg₂ (· * ·) (congrFun h0 _) (congrFun h1 _)

end Cert.WeightCm
-- ==== Proof.WeightO.lean ====
/-
  A mixer's output projection's weight gradient: the kernel's one block is the reference's product.
-/
module

public import proofs.«01_k».proof.Defs
public import proofs.«01_k».proof.Proof.Gen.Kernel7Ideal.Value
public import proofs.«01_k».proof.Proof.Gen.Reference7Ideal.Run
public import proofs.«01_k».proof.Proof.Math
public import proofs.«01_k».proof.Proof.Rows
public import Idealize.ShloMosaic.Lib.Pipeline.ValueKit
public import Idealize.ShloMosaic.Lib.Pointwise

@[expose] public section

set_option maxRecDepth 16384

noncomputable section

namespace Cert.WeightO

open Idealize.ShloMosaic Idealize.ShloMosaic.TcCoe Idealize.ShloMosaic.Tactic Idealize.SL.Sem
open Cert.FfnBwd (rb rs)

section Kernel
open Cert.Kernel7Ideal Cert.Kernel7Ideal.Gen

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0, 0] := by decide +kernel

variable (m : (ℓ : Loc nD τ sig) → Buf (Elt Ideal) ℓ) (c : Dev nD) (t : Fin cfg0.N)

/-- The arguments at an index. -/
def gH (b : Fin 2) (s : Fin 2048) (d : Fin 1024) : EReal := m ((c : Thread nD τ).loc main_arg0) (ix3 b s d)
def gO (b : Fin 2) (s : Fin 2048) (k : Fin 1024) : EReal := m ((c : Thread nD τ).loc main_arg1) (ix3 b s k)

/-- The layouts that the call is handed. -/
theorem V_h (R : Fin 4096) (d : Fin 1024) :
    V m c main_v1 (ix3 (0 : Fin 1) R d) = m ((c : Thread nD τ).loc main_arg0) (ix3 (rb R) (rs R) d) := by
  have e : V m c main_v1 = StableHlo.after hostOps0 (fun b => m (c, b)) main_v1 := rfl
  rw [e]
  dsimp only [hostOps0]
  after_results
  pointwise
  rfl
theorem V_o (R : Fin 4096) (l : Fin 1024) :
    V m c main_v3 (ix3 (0 : Fin 1) R l) = m ((c : Thread nD τ).loc main_arg1) (ix3 (rb R) (rs R) l) := by
  have e : V m c main_v3 = StableHlo.after hostOps0 (fun b => m (c, b)) main_v3 := rfl
  rw [e]
  dsimp only [hostOps0]
  after_results
  pointwise
  rfl

theorem pay_at (x : Vec Ideal S1x4096x1024 .bf16) (y : Vec Ideal S1x4096x1024 .bf16) (d : Fin 1024) (l : Fin 1024) :
    k0_pay1 x y (ix3 (0 : Fin 1) d l) = ∑ R : Fin 4096, x (ix3 (0 : Fin 1) R d) * y (ix3 (0 : Fin 1) R l) := by
  pointwise [k0_pay1]

theorem read0 (G : Buf (Elt Ideal) ((c : Thread nD τ).loc main_v1)) (R : Fin 4096) (d : Fin 1024) :
    ((cfg0.win 0).blk t).view.read (Elt Ideal) G (ix3 (0 : Fin 1) R d) = G (ix3 (0 : Fin 1) R d) := by
  blk_ext [idx0 t]
theorem read1 (G : Buf (Elt Ideal) ((c : Thread nD τ).loc main_v3)) (R : Fin 4096) (l : Fin 1024) :
    ((cfg0.win 1).blk t).view.read (Elt Ideal) G (ix3 (0 : Fin 1) R l) = G (ix3 (0 : Fin 1) R l) := by
  blk_ext [idx1 t]
theorem emb2 (G : Buf (Elt Ideal) ((c : Thread nD τ).loc main_v4)) (d : Fin 1024) (l : Fin 1024) :
    G ((win0_2.blk t).view.emb (ix3 (0 : Fin 1) d l)) = G (ix3 (0 : Fin 1) d l) := by
  blk_ext [idx2 t]

theorem out_at (d : Fin 1024) (l : Fin 1024) :
    out0_2 (iblk m c 0 t) (iblk m c 1 t) (ix3 (0 : Fin 1) d l)
      = ∑ R : Fin 4096, gH m c (rb R) (rs R) d * gO m c (rb R) (rs R) l := by
  unfold out0_2
  rw [View.canon_cons_unit_lit _ _ _ (by decide), View.ld_unit_lit _ _ (by decide), View.ld_unit_lit _ _ (by decide)]
  refine (pay_at _ _ d l).trans (Finset.sum_congr rfl fun R _ => ?_)
  exact congrArg₂ (· * ·) ((read0 c t (V m c main_v1) R d).trans (V_h m c R d)) ((read1 c t (V m c main_v3) R l).trans (V_o m c R l))

/-- The array after the run, of any array that holds the sums. -/
theorem arr (G : Buf (Elt Ideal) ((c : Thread nD τ).loc main_v4))
    (hG : ∀ (j : Fin 1) (d : Fin 1024) (l : Fin 1024), (G (ix3 j d l) : EReal)
      = ∑ R : Fin 4096, gH m c (rb R) (rs R) d * gO m c (rb R) (rs R) l) :
    (dats m 0 c).arrAt 2 cfg0.N = G := by
  refine Pipeline.Dat.arrAt_eq_of_covers _ 2 _ (by decide +kernel) fun t hf y => ?_
  rw [after0_2]
  blk_simp
  have key : ∀ y : S1x1024x1024.Idx, out0_2 (iblk m c 0 t) (iblk m c 1 t) y = G ((win0_2.blk t).view.emb y) := by
    intro y
    rw [(eq_ix3 y).trans (congrArg (fun z : Fin 1 => ix3 z (y 1) (y 2)) (Subsingleton.elim (α := Fin 1) (y 0) 0))]
    exact (out_at m c t (y 1) (y 2)).trans ((hG _ (y 1) (y 2)).symm.trans (emb2 c t G (y 1) (y 2)).symm)
  exact key y
end Kernel

section Reference
open Cert.Reference7Ideal Cert.Reference7Ideal.Gen

/-- The product's array is the array of the kernel's sums. -/
theorem ref_rows (h : FVec Ideal S2x2048x1024 .f32) (o : FVec Ideal S2x2048x1024 .f32) (j : Fin 1) (d : Fin 1024) (l : Fin 1024) :
    (truncf .bf16 (shapeCast _ (transpose S1024x1024 [1, 0]
      (Host.dotGeneral dot_S2x2048x1024_S2x2048x1024_S1024x1024_01_01_2_2_n_n none o h) transposes_S1024x1024_S1024x1024_1_0)
      shapeCasts_S1024x1024_S1x1024x1024) bitsLt_bf16_f32 : FVec Ideal S1x1024x1024 .bf16) (ix3 j d l)
      = ∑ R : Fin 4096, h (ix3 (rb R) (rs R) d) * o (ix3 (rb R) (rs R) l) := by
  refine Eq.trans (b := ∑ b : Fin 2, ∑ s : Fin 2048, o (ix3 b s l) * h (ix3 b s d)) (by pointwise) ?_
  refine (Cert.FfnBwd.all_rows fun b s => o (ix3 b s l) * h (ix3 b s d)).symm.trans ?_
  exact Finset.sum_congr rfl fun R _ => mul_comm _ _
end Reference

/-- The kernel and the reference leave the same weight gradient. -/
theorem values : Cert.algebraic_Kernel7Ideal_Reference7Ideal := by
  intro m g m' g' _ hargs
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ⟨(h c).1.trans (arr m c _ fun j d l => ?_).symm, (h c).2⟩)
    (Cert.Reference7Ideal.Value.run (F := Ideal) m' g')
  obtain ⟨h0, h1⟩ := hargs c
  refine (ref_rows _ _ j d l).trans ?_
  exact Finset.sum_congr rfl fun R _ => congrArg₂ (· * ·) (congrFun h0 _) (congrFun h1 _)

end Cert.WeightO
-- ==== Proof.InputO.lean ====
/-
  A mixer's output projection's input gradient: the kernel's blocks, one of rows a grid point, are the reference's product.
-/
module

public import proofs.«01_k».proof.Defs
public import proofs.«01_k».proof.Proof.Gen.Kernel8Ideal.Value
public import proofs.«01_k».proof.Proof.Gen.Reference8Ideal.Run
public import proofs.«01_k».proof.Proof.Math
public import proofs.«01_k».proof.Proof.Rows
public import Idealize.ShloMosaic.Lib.Pipeline.ValueKit
public import Idealize.ShloMosaic.Lib.Pointwise

@[expose] public section

set_option maxRecDepth 16384

noncomputable section

namespace Cert.InputO

open Idealize.ShloMosaic Idealize.ShloMosaic.TcCoe Idealize.ShloMosaic.Tactic Idealize.SL.Sem
open Cert.FfnBwd (rb rs)

section Kernel
open Cert.Kernel8Ideal Cert.Kernel8Ideal.Gen

theorem idx0 : ∀ t : Fin cfg0.N, win0_0.index t = ![0, t.val, 0] := by decide +kernel
theorem idx1 : ∀ t : Fin cfg0.N, win0_1.index t = ![0, 0, 0, 0] := by decide +kernel
theorem idx2 : ∀ t : Fin cfg0.N, win0_2.index t = ![0, t.val, 0] := by decide +kernel

variable (m : (ℓ : Loc nD τ sig) → Buf (Elt Ideal) ℓ) (c : Dev nD) (t : Fin cfg0.N)

/-- The row that a grid point's block holds at `r`. -/
def rowOf (t : Fin cfg0.N) (r : Fin 1024) : Fin 4096 := ⟨t.val * 1024 + r.val, by have h : t.val < 4 := t.isLt; omega⟩

/-- The arguments at an index. -/
def gY (b : Fin 2) (s : Fin 2048) (d : Fin 1024) : EReal := m ((c : Thread nD τ).loc main_arg0) (ix3 b s d)
def gW (e d : Fin 1024) : EReal := m ((c : Thread nD τ).loc main_arg1) (ix2 e d)

/-- The layouts that the call is handed. -/
theorem V_y (R : Fin 4096) (d : Fin 1024) :
    V m c main_v1 (ix3 (0 : Fin 1) R d) = m ((c : Thread nD τ).loc main_arg0) (ix3 (rb R) (rs R) d) := by
  have e : V m c main_v1 = StableHlo.after hostOps0 (fun b => m (c, b)) main_v1 := rfl
  rw [e]
  dsimp only [hostOps0]
  after_results
  pointwise
  rfl
theorem V_w (e d : Fin 1024) :
    V m c main_v3 (ix4 (0 : Fin 1) (0 : Fin 1) e d) = m ((c : Thread nD τ).loc main_arg1) (ix2 e d) := by
  have h : V m c main_v3 = StableHlo.after hostOps0 (fun b => m (c, b)) main_v3 := rfl
  rw [h]
  dsimp only [hostOps0]
  after_results
  pointwise

theorem pay_at (x : Vec Ideal S1x1024x1024 .bf16) (y : Vec Ideal S1x1x1024x1024 .bf16) (r e : Fin 1024) :
    k0_pay1 x y (ix3 (0 : Fin 1) r e) = ∑ d : Fin 1024, x (ix3 (0 : Fin 1) r d) * y (ix4 (0 : Fin 1) (0 : Fin 1) e d) := by
  pointwise [k0_pay1]

theorem read0 (G : Buf (Elt Ideal) ((c : Thread nD τ).loc main_v1)) (r d : Fin 1024) :
    ((cfg0.win 0).blk t).view.read (Elt Ideal) G (ix3 (0 : Fin 1) r d) = G (ix3 (0 : Fin 1) (rowOf t r) d) := by
  blk_ext [idx0 t]
  rfl
theorem read1 (G : Buf (Elt Ideal) ((c : Thread nD τ).loc main_v3)) (e d : Fin 1024) :
    ((cfg0.win 1).blk t).view.read (Elt Ideal) G (ix4 (0 : Fin 1) (0 : Fin 1) e d) = G (ix4 (0 : Fin 1) (0 : Fin 1) e d) := by
  blk_ext [idx1 t]
theorem emb2 (G : Buf (Elt Ideal) ((c : Thread nD τ).loc main_v4)) (r e : Fin 1024) :
    G ((win0_2.blk t).view.emb (ix3 (0 : Fin 1) r e)) = G (ix3 (0 : Fin 1) (rowOf t r) e) := by
  blk_ext [idx2 t]
  rfl

theorem out_at (r e : Fin 1024) :
    out0_2 (iblk m c 0 t) (iblk m c 1 t) (ix3 (0 : Fin 1) r e) = ∑ d : Fin 1024, gY m c (rb (rowOf t r)) (rs (rowOf t r)) d * gW m c e d := by
  unfold out0_2
  rw [View.canon_cons_unit_lit _ _ _ (by decide), View.ld_unit_lit _ _ (by decide), View.ld_unit_lit _ _ (by decide)]
  refine (pay_at _ _ r e).trans (Finset.sum_congr rfl fun d _ => ?_)
  exact congrArg₂ (· * ·) ((read0 c t (V m c main_v1) r d).trans (V_y m c _ d)) ((read1 c t (V m c main_v3) e d).trans (V_w m c e d))

/-- The array after the run, of any array that holds the sums. -/
theorem arr (G : Buf (Elt Ideal) ((c : Thread nD τ).loc main_v4))
    (hG : ∀ (j : Fin 1) (R : Fin 4096) (e : Fin 1024), (G (ix3 j R e) : EReal) = ∑ d : Fin 1024, gY m c (rb R) (rs R) d * gW m c e d) :
    (dats m 0 c).arrAt 2 cfg0.N = G := by
  refine Pipeline.Dat.arrAt_eq_of_covers _ 2 _ (by decide +kernel) fun t hf y => ?_
  rw [after0_2]
  blk_simp
  have key : ∀ y : S1x1024x1024.Idx, out0_2 (iblk m c 0 t) (iblk m c 1 t) y = G ((win0_2.blk t).view.emb y) := by
    intro y
    rw [(eq_ix3 y).trans (congrArg (fun z : Fin 1 => ix3 z (y 1) (y 2)) (Subsingleton.elim (α := Fin 1) (y 0) 0))]
    exact (out_at m c t (y 1) (y 2)).trans ((hG _ _ (y 2)).symm.trans (emb2 c t G (y 1) (y 2)).symm)
  exact key y
end Kernel

section Reference
open Cert.Reference8Ideal Cert.Reference8Ideal.Gen

/-- The product's array at an index. -/
theorem ref_at (dy : FVec Ideal S2x2048x1024 .f32) (w : FVec Ideal S1024x1024 .f32) (j : Fin 1) (R : Fin 4096) (e : Fin 1024) :
    (shapeCast S1x4096x1024 (Host.dotGeneral dot_S2x2048x1024_S1024x1024_S2x2048x1024_2_1_01_0_n_n none dy w)
      shapeCasts_S2x2048x1024_S1x4096x1024 : FVec Ideal S1x4096x1024 .f32) (ix3 j R e)
      = ∑ d : Fin 1024, dy (ix3 (rb R) (rs R) d) * w (ix2 e d) := by
  pointwise
  rfl
end Reference

/-- The kernel and the reference leave the same input gradient. -/
theorem values : Cert.algebraic_Kernel8Ideal_Reference8Ideal := by
  intro m g m' g' _ hargs
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ⟨(h c).1.trans (arr m c _ fun j R e => ?_).symm, (h c).2⟩)
    (Cert.Reference8Ideal.Value.run (F := Ideal) m' g')
  obtain ⟨h0, h1⟩ := hargs c
  refine (ref_at _ _ j R e).trans ?_
  exact Finset.sum_congr rfl fun d _ => congrArg₂ (· * ·) (congrFun h0 _) (congrFun h1 _)

end Cert.InputO
-- ==== Proof.NormOut.lean ====
/-
  A row's RMS norm added to the residual's row.
-/
module

public import proofs.«01_k».proof.Proof.Math
public import proofs.«01_k».proof.Proof.Rows

@[expose] public section

noncomputable section

namespace Cert.NormOut

open Idealize.ShloMosaic
open Cert.FfnBwd (rinv)

/-- The residual's row `x` with the norm, by the gain `g`, of the row `y`. -/
def out (y x g : Fin 1024 → EReal) (d : Fin 1024) : EReal := x d + y d * rinv y * g d

theorem four (F : Fin 4 → EReal) : ∑ j, F j = F 0 + F 1 + F 2 + F 3 := by
  simp only [Fin.sum_univ_succ, Fin.sum_univ_zero, add_zero, add_assoc]
  rfl

/-- The row of a product over the four shards of its columns. -/
theorem shards (f : Fin 2816 → EReal) :
    ∑ l : Fin 704, f ⟨0 * 704 + l.val, by omega⟩ + ∑ l : Fin 704, f ⟨1 * 704 + l.val, by omega⟩ + ∑ l : Fin 704, f ⟨2 * 704 + l.val, by omega⟩
      + ∑ l : Fin 704, f ⟨3 * 704 + l.val, by omega⟩ = ∑ e : Fin 2816, f e := by
  rw [Fin.sum_univ_tiles 4 704 rfl f, four]
  rfl

end Cert.NormOut
-- ==== Proof.FfnOut.lean ====
/-
  The ConvFFN's output projection and its norm: the kernel's blocks, one of rows a grid point, are the reference's rows.
-/
module

public import proofs.«01_k».proof.Defs
public import proofs.«01_k».proof.Proof.Gen.Kernel9Ideal.Value
public import proofs.«01_k».proof.Proof.Gen.Reference9Ideal.Run
public import proofs.«01_k».proof.Proof.NormOut
public import proofs.«01_k».proof.Proof.Rows
public import Idealize.ShloMosaic.Lib.Pipeline.ValueKit
public import Idealize.ShloMosaic.Lib.Pointwise

@[expose] public section

set_option maxRecDepth 16384

noncomputable section

namespace Cert.FfnOut

open Idealize.ShloMosaic Idealize.ShloMosaic.TcCoe Idealize.ShloMosaic.Tactic Idealize.SL.Sem
open Cert.FfnBwd (rb rs rinv)

section Kernel
open Cert.Kernel9Ideal Cert.Kernel9Ideal.Gen

theorem idx0 : ∀ t : Fin cfg0.N, win0_0.index t = ![0, t.val, 0] := by decide +kernel
theorem idx1 : ∀ t : Fin cfg0.N, win0_1.index t = ![0, 0, 0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0] := by decide +kernel

variable (m : (ℓ : Loc nD τ sig) → Buf (Elt Ideal) ℓ) (c : Dev nD) (t : Fin cfg0.N)

/-- The row that a grid point's block holds at `r`. -/
def rowOf (t : Fin cfg0.N) (r : Fin 1024) : Fin 4096 := ⟨t.val * 1024 + r.val, by have h : t.val < 4 := t.isLt; omega⟩

/-- The arguments at an index. -/
def gZ (b : Fin 2) (s : Fin 2048) (e : Fin 2816) : EReal := m ((c : Thread nD τ).loc main_arg0) (ix3 b s e)
def gW (e : Fin 2816) (d : Fin 1024) : EReal := m ((c : Thread nD τ).loc main_arg1) (ix2 e d)
def gX (b : Fin 2) (s : Fin 2048) (d : Fin 1024) : EReal := m ((c : Thread nD τ).loc main_arg2) (ix3 b s d)
def gG (d : Fin 1024) : EReal := m ((c : Thread nD τ).loc main_arg3) (ix1 d)

/-- The projection's row. -/
def Y (b : Fin 2) (s : Fin 2048) (d : Fin 1024) : EReal := ∑ e : Fin 2816, gZ m c b s e * gW m c e d

/-- The layouts that the call is handed. -/
theorem V_z (j : Fin 4) (R : Fin 4096) (l : Fin 704) :
    V m c main_v2 (ix3 j R l) = m ((c : Thread nD τ).loc main_arg0) (ix3 (rb R) (rs R) ⟨j.val * 704 + l.val, by omega⟩) := by
  have e : V m c main_v2 = StableHlo.after hostOps0 (fun b => m (c, b)) main_v2 := rfl
  rw [e]
  dsimp only [hostOps0]
  after_results
  pointwise
  rfl
theorem V_w (j : Fin 4) (l : Fin 704) (d : Fin 1024) :
    V m c main_v4 (ix4 (0 : Fin 1) j l d) = m ((c : Thread nD τ).loc main_arg1) (ix2 (⟨j.val * 704 + l.val, by omega⟩ : Fin 2816) d) := by
  have e : V m c main_v4 = StableHlo.after hostOps0 (fun b => m (c, b)) main_v4 := rfl
  rw [e]
  dsimp only [hostOps0]
  after_results
  pointwise
theorem V_b (d : Fin 1024) : @Eq EReal (V m c main_v7 (ix2 (0 : Fin 1) d)) 0 := by
  have e : V m c main_v7 = StableHlo.after hostOps0 (fun b => m (c, b)) main_v7 := rfl
  rw [e]
  dsimp only [hostOps0]
  after_results
  pointwise
theorem V_x (R : Fin 4096) (d : Fin 1024) :
    V m c main_v6 (ix2 R d) = m ((c : Thread nD τ).loc main_arg2) (ix3 (rb R) (rs R) d) := by
  have e : V m c main_v6 = StableHlo.after hostOps0 (fun b => m (c, b)) main_v6 := rfl
  rw [e]
  dsimp only [hostOps0]
  after_results
  pointwise
  rfl
theorem V_g (d : Fin 1024) : V m c main_v8 (ix2 (0 : Fin 1) d) = m ((c : Thread nD τ).loc main_arg3) (ix1 d) := by
  have e : V m c main_v8 = StableHlo.after hostOps0 (fun b => m (c, b)) main_v8 := rfl
  rw [e]
  dsimp only [hostOps0]
  after_results
  pointwise

theorem pay3_at (v0 v5 v11 v17 : Vec Ideal S1x1024x704 .bf16) (v2 v7 v13 v19 : Vec Ideal S1x1x704x1024 .bf16) (r d : Fin 1024) :
    (k0_pay3 v0 v2 v5 v7 v11 v13 v17 v19 (ix2 r d) : EReal)
      = ∑ l : Fin 704, v0 (ix3 (0 : Fin 1) r l) * v2 (ix4 (0 : Fin 1) (0 : Fin 1) l d)
        + ∑ l : Fin 704, v5 (ix3 (0 : Fin 1) r l) * v7 (ix4 (0 : Fin 1) (0 : Fin 1) l d)
        + ∑ l : Fin 704, v11 (ix3 (0 : Fin 1) r l) * v13 (ix4 (0 : Fin 1) (0 : Fin 1) l d)
        + ∑ l : Fin 704, v17 (ix3 (0 : Fin 1) r l) * v19 (ix4 (0 : Fin 1) (0 : Fin 1) l d) := by
  pointwise [k0_pay3]
theorem pay1_at (v : FVec Ideal S1024x1024 .f32) (b : FVec Ideal S1x1024 .f32) (r d : Fin 1024) :
    k0_pay1 v b (ix2 r d) = v (ix2 r d) + b (ix2 (0 : Fin 1) d) := by
  pointwise [k0_pay1]
theorem pay2_at (v : FVec Ideal S1024x1024 .f32) (b : FVec Ideal S1x1024 .f32) (x : Vec Ideal S1024x1024 .f32) (g : Vec Ideal S1x1024 .f32)
    (r d : Fin 1024) :
    k0_pay2 v b x g (ix2 r d)
      = NormOut.out (fun d => v (ix2 r d) + b (ix2 (0 : Fin 1) d)) (fun d => x (ix2 r d)) (fun d => g (ix2 (0 : Fin 1) d)) d := by
  unfold NormOut.out rinv
  pointwise [k0_pay2, k0_pay1]

theorem read0 (G : Buf (Elt Ideal) ((c : Thread nD τ).loc main_v2)) (j : Fin 4) (r : Fin 1024) (l : Fin 704) :
    ((cfg0.win 0).blk t).view.read (Elt Ideal) G (ix3 j r l) = G (ix3 j (rowOf t r) l) := by
  blk_ext [idx0 t]
  rfl
theorem read1 (G : Buf (Elt Ideal) ((c : Thread nD τ).loc main_v4)) (j : Fin 4) (l : Fin 704) (d : Fin 1024) :
    ((cfg0.win 1).blk t).view.read (Elt Ideal) G (ix4 (0 : Fin 1) j l d) = G (ix4 (0 : Fin 1) j l d) := by
  blk_ext [idx1 t]
theorem read2 (G : Buf (Elt Ideal) ((c : Thread nD τ).loc main_v7)) (d : Fin 1024) :
    ((cfg0.win 2).blk t).view.read (Elt Ideal) G (ix2 (0 : Fin 1) d) = G (ix2 (0 : Fin 1) d) := by
  blk_ext [idx2 t]
theorem read3 (G : Buf (Elt Ideal) ((c : Thread nD τ).loc main_v6)) (r d : Fin 1024) :
    ((cfg0.win 3).blk t).view.read (Elt Ideal) G (ix2 r d) = G (ix2 (rowOf t r) d) := by
  blk_ext [idx3 t]
  rfl
theorem read4 (G : Buf (Elt Ideal) ((c : Thread nD τ).loc main_v8)) (d : Fin 1024) :
    ((cfg0.win 4).blk t).view.read (Elt Ideal) G (ix2 (0 : Fin 1) d) = G (ix2 (0 : Fin 1) d) := by
  blk_ext [idx4 t]
theorem emb5 (G : Buf (Elt Ideal) ((c : Thread nD τ).loc main_v9_0)) (r d : Fin 1024) :
    G ((win0_5.blk t).view.emb (ix2 r d)) = G (ix2 (rowOf t r) d) := by
  blk_ext [idx5 t]
  rfl
theorem emb6 (G : Buf (Elt Ideal) ((c : Thread nD τ).loc main_v9_1)) (r d : Fin 1024) :
    G ((win0_6.blk t).view.emb (ix2 r d)) = G (ix2 (rowOf t r) d) := by
  blk_ext [idx6 t]
  rfl

/-- A shard's load is its part of the block. -/
theorem ldA (X : Vec Ideal S4x1024x704 .bf16) (j : Fin 4) (inb) (r : Fin 1024) (l : Fin 704) :
    View.ld X (Rect.unit (s := S4x1024x704) ![j.val, 0, 0] S1x1024x704.size inb) (ix3 (0 : Fin 1) r l) = X (ix3 j r l) := by
  refine View.ld_unit_apply_of X _ _ inb _ _ fun a => ?_
  fin_cases a <;> simp
theorem ldW (X : Vec Ideal S1x4x704x1024 .bf16) (j : Fin 4) (inb) (l : Fin 704) (d : Fin 1024) :
    View.ld X (Rect.unit (s := S1x4x704x1024) ![0, j.val, 0, 0] S1x1x704x1024.size inb) (ix4 (0 : Fin 1) (0 : Fin 1) l d) = X (ix4 (0 : Fin 1) j l d) := by
  refine View.ld_unit_apply_of X _ _ inb _ _ fun a => ?_
  fin_cases a <;> simp

/-- One shard's part of the projection. -/
theorem part (A : Vec Ideal S4x1024x704 .bf16) (B : Vec Ideal S1x4x704x1024 .bf16) (j : Fin 4) (i0) (i1) (r d : Fin 1024)
    (hA : ∀ l : Fin 704, A (ix3 j r l) = gZ m c (rb (rowOf t r)) (rs (rowOf t r)) ⟨j.val * 704 + l.val, by omega⟩)
    (hB : ∀ l : Fin 704, B (ix4 (0 : Fin 1) j l d) = gW m c ⟨j.val * 704 + l.val, by omega⟩ d) :
    ∑ l : Fin 704, View.ld A (Rect.unit (s := S4x1024x704) ![j.val, 0, 0] S1x1024x704.size i0) (ix3 (0 : Fin 1) r l)
        * View.ld B (Rect.unit (s := S1x4x704x1024) ![0, j.val, 0, 0] S1x1x704x1024.size i1) (ix4 (0 : Fin 1) (0 : Fin 1) l d)
      = ∑ l : Fin 704, gZ m c (rb (rowOf t r)) (rs (rowOf t r)) ⟨j.val * 704 + l.val, by omega⟩ * gW m c ⟨j.val * 704 + l.val, by omega⟩ d :=
  Finset.sum_congr rfl fun l _ => congrArg₂ (· * ·) ((ldA A j i0 r l).trans (hA l)) ((ldW B j i1 l d).trans (hB l))

theorem prod_at (r d : Fin 1024) :
    k0_pay5 (iblk m c 0 t) (iblk m c 1 t) (iblk m c 2 t) (iblk m c 3 t) (iblk m c 4 t) (ix2 r d) = Y m c (rb (rowOf t r)) (rs (rowOf t r)) d := by
  have hA : ∀ (j : Fin 4) (l : Fin 704), _ = gZ m c (rb (rowOf t r)) (rs (rowOf t r)) ⟨j.val * 704 + l.val, by omega⟩ := fun j l =>
    (read0 c t (V m c main_v2) j r l).trans (V_z m c j _ l)
  have hB : ∀ (j : Fin 4) (l : Fin 704), _ = gW m c ⟨j.val * 704 + l.val, by omega⟩ d := fun j l =>
    (read1 c t (V m c main_v4) j l d).trans (V_w m c j l d)
  unfold k0_pay5
  refine (pay3_at _ _ _ _ _ _ _ _ r d).trans (Eq.trans ?_ (NormOut.shards fun e => gZ m c (rb (rowOf t r)) (rs (rowOf t r)) e * gW m c e d))
  exact congrArg₂ (· + ·) (congrArg₂ (· + ·) (congrArg₂ (· + ·) (part m c t _ _ 0 _ _ r d (hA 0) (hB 0)) (part m c t _ _ 1 _ _ r d (hA 1) (hB 1)))
    (part m c t _ _ 2 _ _ r d (hA 2) (hB 2))) (part m c t _ _ 3 _ _ r d (hA 3) (hB 3))

theorem bias_at (d : Fin 1024) :
    k0_pay6 (iblk m c 0 t) (iblk m c 1 t) (iblk m c 2 t) (iblk m c 3 t) (iblk m c 4 t) (ix2 (0 : Fin 1) d) = (0 : EReal) := by
  unfold k0_pay6
  rw [View.ld_unit_lit _ _ (by decide)]
  refine Eq.trans (b := (iblk m c 2 t : Vec Ideal S1x1024 .f32) (ix2 (0 : Fin 1) d)) (by pointwise [k0_pay4]) ?_
  exact (read2 c t (V m c main_v7) d).trans (V_b m c d)

theorem y_at (r d : Fin 1024) :
    out0_5 (iblk m c 0 t) (iblk m c 1 t) (iblk m c 2 t) (iblk m c 3 t) (iblk m c 4 t) (ix2 r d) = Y m c (rb (rowOf t r)) (rs (rowOf t r)) d := by
  unfold out0_5
  rw [View.canon_cons_unit_lit _ _ _ (by decide)]
  exact (pay1_at _ _ r d).trans ((congrArg₂ (· + ·) (prod_at m c t r d) (bias_at m c t d)).trans (add_zero _))

theorem xn_at (r d : Fin 1024) :
    out0_6 (iblk m c 0 t) (iblk m c 1 t) (iblk m c 2 t) (iblk m c 3 t) (iblk m c 4 t) (ix2 r d)
      = NormOut.out (Y m c (rb (rowOf t r)) (rs (rowOf t r))) (gX m c (rb (rowOf t r)) (rs (rowOf t r))) (gG m c) d := by
  unfold out0_6
  rw [View.canon_cons_unit_lit _ _ _ (by decide), View.ld_unit_lit _ _ (by decide), View.ld_unit_lit _ _ (by decide)]
  refine (pay2_at _ _ _ _ r d).trans ?_
  have hy : (fun d => (k0_pay5 (iblk m c 0 t) (iblk m c 1 t) (iblk m c 2 t) (iblk m c 3 t) (iblk m c 4 t) (ix2 r d) : EReal)
      + k0_pay6 (iblk m c 0 t) (iblk m c 1 t) (iblk m c 2 t) (iblk m c 3 t) (iblk m c 4 t) (ix2 (0 : Fin 1) d)) = Y m c (rb (rowOf t r)) (rs (rowOf t r)) :=
    funext fun d => (congrArg₂ (· + ·) (prod_at m c t r d) (bias_at m c t d)).trans (add_zero _)
  have hx : (fun d => ((iblk m c 3 t : Vec Ideal S1024x1024 .f32) (ix2 r d) : EReal)) = gX m c (rb (rowOf t r)) (rs (rowOf t r)) :=
    funext fun d => (read3 c t (V m c main_v6) r d).trans (V_x m c _ d)
  have hg : (fun d => ((iblk m c 4 t : Vec Ideal S1x1024 .f32) (ix2 (0 : Fin 1) d) : EReal)) = gG m c :=
    funext fun d => (read4 c t (V m c main_v8) d).trans (V_g m c d)
  rw [hy, hx, hg]

/-- The arrays after the run, of any arrays that hold the rows. -/
theorem arrY (G : Buf (Elt Ideal) ((c : Thread nD τ).loc main_v9_0))
    (hG : ∀ (R : Fin 4096) (d : Fin 1024), (G (ix2 R d) : EReal) = Y m c (rb R) (rs R) d) : (dats m 0 c).arrAt 5 cfg0.N = G := by
  refine Pipeline.Dat.arrAt_eq_of_covers _ 5 _ (by decide +kernel) fun t hf y => ?_
  rw [after0_5]
  blk_simp
  have key : ∀ y : S1024x1024.Idx, out0_5 (iblk m c 0 t) (iblk m c 1 t) (iblk m c 2 t) (iblk m c 3 t) (iblk m c 4 t) y = G ((win0_5.blk t).view.emb y) := by
    intro y
    rw [eq_ix2 y]
    exact (y_at m c t (y 0) (y 1)).trans ((hG _ (y 1)).symm.trans (emb5 c t G (y 0) (y 1)).symm)
  exact key y
theorem arrX (G : Buf (Elt Ideal) ((c : Thread nD τ).loc main_v9_1))
    (hG : ∀ (R : Fin 4096) (d : Fin 1024), (G (ix2 R d) : EReal) = NormOut.out (Y m c (rb R) (rs R)) (gX m c (rb R) (rs R)) (gG m c) d) :
    (dats m 0 c).arrAt 6 cfg0.N = G := by
  refine Pipeline.Dat.arrAt_eq_of_covers _ 6 _ (by decide +kernel) fun t hf y => ?_
  rw [after0_6]
  blk_simp
  have key : ∀ y : S1024x1024.Idx, out0_6 (iblk m c 0 t) (iblk m c 1 t) (iblk m c 2 t) (iblk m c 3 t) (iblk m c 4 t) y = G ((win0_6.blk t).view.emb y) := by
    intro y
    rw [eq_ix2 y]
    exact (xn_at m c t (y 0) (y 1)).trans ((hG _ (y 1)).symm.trans (emb6 c t G (y 0) (y 1)).symm)
  exact key y
end Kernel

section Reference
open Cert.Reference9Ideal Cert.Reference9Ideal.Gen

/-- The product's array at an index. -/
theorem ref_dot (z : FVec Ideal S2x2048x2816 .f32) (w : FVec Ideal S2816x1024 .f32) (b : Fin 2) (s : Fin 2048) (d : Fin 1024) :
    (Host.dotGeneral dot_S2x2048x2816_S2816x1024_S2x2048x1024_2_0_01_1_n_n none z w : FVec Ideal S2x2048x1024 .f32) (ix3 b s d)
      = ∑ e : Fin 2816, z (ix3 b s e) * w (ix2 e d) := by
  pointwise

theorem ref_y (y : FVec Ideal S2x2048x1024 .f32) (R : Fin 4096) (d : Fin 1024) :
    (shapeCast S4096x1024 y shapeCasts_S2x2048x1024_S4096x1024 : FVec Ideal S4096x1024 .f32) (ix2 R d) = y (ix3 (rb R) (rs R) d) := by
  pointwise
  rfl

/-- The residual with the norm of any rows. -/
theorem ref_xn (y x : FVec Ideal S2x2048x1024 .f32) (g : FVec Ideal S1024 .f32) (b : Fin 2) (s : Fin 2048) (d : Fin 1024) :
    (addf x (mulf (mulf y (broadcastInDim S2x2048x1024 ![0, 1, 2] bcast_S2x2048x1_S2x2048x1024_0_1_2
      (Host.rsqrt (addf (Host.divf (broadcastInDim S2x2048x1 ![0, 1] bcast_S2x2048_S2x2048x1_0_1
        (Host.reduceAdd (mulf y y) (constant S_ .f32 0x00000000#32) reducesTo_S2x2048x1024_S2x2048_d2 h_S_))
        (broadcastInDim S2x2048x1 ![] bcast_S_S2x2048x1 (constant S_ .f32 0x44800000#32)))
        (broadcastInDim S2x2048x1 ![] bcast_S_S2x2048x1 (constant S_ .f32 0x358637BD#32))))))
      (broadcastInDim S2x2048x1024 ![0, 1, 2] bcast_S1x1x1024_S2x2048x1024_0_1_2 (broadcastInDim S1x1x1024 ![2] bcast_S1024_S1x1x1024_2 g)))
      : FVec Ideal S2x2048x1024 .f32) (ix3 b s d)
      = NormOut.out (fun d => y (ix3 b s d)) (fun d => x (ix3 b s d)) (fun d => g (ix1 d)) d := by
  unfold NormOut.out rinv
  pointwise
end Reference

/-- The kernel and the reference leave the same projection and the same residual. -/
theorem values : Cert.algebraic_Kernel9Ideal_Reference9Ideal := by
  intro m g m' g' _ hargs
  refine ⟨fun c => (Cert.Kernel9Ideal.Gen.dats m 0 c).arrAt 5 Cert.Kernel9Ideal.cfg0.N,
    fun c => (Cert.Kernel9Ideal.Gen.dats m 0 c).arrAt 6 Cert.Kernel9Ideal.cfg0.N, ?_, ?_⟩
  · refine (θ_run Cert.Kernel9Ideal.defs _ _).mono (fun r h c => ?_) (Cert.Kernel9Ideal.Value.run_blocks m g)
    exact h c
  have hY : ∀ (c : Dev Cert.Kernel9Ideal.nD) (b : Fin 2) (s : Fin 2048) (d : Fin 1024), _ = Y m c b s d := fun c b s d =>
    (ref_dot (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg1)) b s d).trans
      (Finset.sum_congr rfl fun e _ => congrArg₂ (· * ·) (congrFun (hargs c).1 _) (congrFun (hargs c).2.1 _))
  refine (θ_run Cert.Reference9Ideal.defs _ _).mono (fun r h c => ?_) (Cert.Reference9Ideal.Value.run (F := Ideal) m' g')
  refine ⟨(h c).1.trans (arrY m c _ fun R d => ?_).symm, (h c).2.1.trans (arrX m c _ fun R d => ?_).symm, (h c).2.2⟩
  · exact (ref_y _ R d).trans (hY c _ _ d)
  · refine (ref_y _ R d).trans ((ref_xn _ _ _ _ _ d).trans ?_)
    obtain ⟨h0, h1, h2, h3⟩ := hargs c
    rw [show (fun d => _) = Y m c (rb R) (rs R) from funext fun d => hY c (rb R) (rs R) d,
      show (fun d => _) = gX m c (rb R) (rs R) from funext fun d => congrFun h2 (ix3 (rb R) (rs R) d),
      show (fun d => _) = gG m c from funext fun d => congrFun h3 (ix1 d)]

end Cert.FfnOut
-- ==== Proof.MixOut.lean ====
/-
  A mixer's output projection with its bias, and its norm: the kernel's blocks, one of rows a grid point, are the reference's rows.
-/
module

public import proofs.«01_k».proof.Defs
public import proofs.«01_k».proof.Proof.Gen.Kernel10Ideal.Value
public import proofs.«01_k».proof.Proof.Gen.Reference10Ideal.Run
public import proofs.«01_k».proof.Proof.NormOut
public import proofs.«01_k».proof.Proof.Rows
public import Idealize.ShloMosaic.Lib.Pipeline.ValueKit
public import Idealize.ShloMosaic.Lib.Pointwise

@[expose] public section

set_option maxRecDepth 16384

noncomputable section

namespace Cert.MixOut

open Idealize.ShloMosaic Idealize.ShloMosaic.TcCoe Idealize.ShloMosaic.Tactic Idealize.SL.Sem
open Cert.FfnBwd (rb rs rinv)

section Kernel
open Cert.Kernel10Ideal Cert.Kernel10Ideal.Gen

theorem idx0 : ∀ t : Fin cfg0.N, win0_0.index t = ![0, t.val, 0] := by decide +kernel
theorem idx1 : ∀ t : Fin cfg0.N, win0_1.index t = ![0, 0, 0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0] := by decide +kernel

variable (m : (ℓ : Loc nD τ sig) → Buf (Elt Ideal) ℓ) (c : Dev nD) (t : Fin cfg0.N)

/-- The row that a grid point's block holds at `r`. -/
def rowOf (t : Fin cfg0.N) (r : Fin 1024) : Fin 4096 := ⟨t.val * 1024 + r.val, by have h : t.val < 4 := t.isLt; omega⟩

/-- The arguments at an index. -/
def gZ (b : Fin 2) (s : Fin 2048) (e : Fin 1024) : EReal := m ((c : Thread nD τ).loc main_arg0) (ix3 b s e)
def gW (e d : Fin 1024) : EReal := m ((c : Thread nD τ).loc main_arg1) (ix2 e d)
def gB (d : Fin 1024) : EReal := m ((c : Thread nD τ).loc main_arg2) (ix1 d)
def gX (b : Fin 2) (s : Fin 2048) (d : Fin 1024) : EReal := m ((c : Thread nD τ).loc main_arg3) (ix3 b s d)
def gG (d : Fin 1024) : EReal := m ((c : Thread nD τ).loc main_arg4) (ix1 d)

/-- The projection's row. -/
def Y (b : Fin 2) (s : Fin 2048) (d : Fin 1024) : EReal := ∑ e : Fin 1024, gZ m c b s e * gW m c e d + gB m c d

/-- The layouts that the call is handed. -/
theorem V_z (R : Fin 4096) (l : Fin 1024) :
    V m c main_v1 (ix3 (0 : Fin 1) R l) = m ((c : Thread nD τ).loc main_arg0) (ix3 (rb R) (rs R) l) := by
  have e : V m c main_v1 = StableHlo.after hostOps0 (fun b => m (c, b)) main_v1 := rfl
  rw [e]
  dsimp only [hostOps0]
  after_results
  pointwise
  rfl
theorem V_w (l d : Fin 1024) : V m c main_v3 (ix4 (0 : Fin 1) (0 : Fin 1) l d) = m ((c : Thread nD τ).loc main_arg1) (ix2 l d) := by
  have e : V m c main_v3 = StableHlo.after hostOps0 (fun b => m (c, b)) main_v3 := rfl
  rw [e]
  dsimp only [hostOps0]
  after_results
  pointwise
theorem V_b (d : Fin 1024) : V m c main_v5 (ix2 (0 : Fin 1) d) = m ((c : Thread nD τ).loc main_arg2) (ix1 d) := by
  have e : V m c main_v5 = StableHlo.after hostOps0 (fun b => m (c, b)) main_v5 := rfl
  rw [e]
  dsimp only [hostOps0]
  after_results
  pointwise
theorem V_x (R : Fin 4096) (d : Fin 1024) :
    V m c main_v4 (ix2 R d) = m ((c : Thread nD τ).loc main_arg3) (ix3 (rb R) (rs R) d) := by
  have e : V m c main_v4 = StableHlo.after hostOps0 (fun b => m (c, b)) main_v4 := rfl
  rw [e]
  dsimp only [hostOps0]
  after_results
  pointwise
  rfl
theorem V_g (d : Fin 1024) : V m c main_v6 (ix2 (0 : Fin 1) d) = m ((c : Thread nD τ).loc main_arg4) (ix1 d) := by
  have e : V m c main_v6 = StableHlo.after hostOps0 (fun b => m (c, b)) main_v6 := rfl
  rw [e]
  dsimp only [hostOps0]
  after_results
  pointwise

/-- The projection's row, of the blocks. -/
def rowY (a : Vec Ideal S1x1024x1024 .bf16) (w : Vec Ideal S1x1x1024x1024 .bf16) (b : Vec Ideal S1x1024 .f32) (r d : Fin 1024) : EReal :=
  ∑ l : Fin 1024, a (ix3 (0 : Fin 1) r l) * w (ix4 (0 : Fin 1) (0 : Fin 1) l d) + b (ix2 (0 : Fin 1) d)

theorem pay1_at (a : Vec Ideal S1x1024x1024 .bf16) (w : Vec Ideal S1x1x1024x1024 .bf16) (b : Vec Ideal S1x1024 .f32) (r d : Fin 1024) :
    k0_pay1 a w b (ix2 r d) = rowY a w b r d := by
  unfold rowY
  pointwise [k0_pay1]
theorem pay2_at (a : Vec Ideal S1x1024x1024 .bf16) (w : Vec Ideal S1x1x1024x1024 .bf16) (b : Vec Ideal S1x1024 .f32) (x : Vec Ideal S1024x1024 .f32)
    (g : Vec Ideal S1x1024 .f32) (r d : Fin 1024) :
    k0_pay2 a w b x g (ix2 r d) = NormOut.out (rowY a w b r) (fun d => x (ix2 r d)) (fun d => g (ix2 (0 : Fin 1) d)) d := by
  unfold NormOut.out rinv
  simp only [← pay1_at]
  pointwise [k0_pay2]

theorem read0 (G : Buf (Elt Ideal) ((c : Thread nD τ).loc main_v1)) (r l : Fin 1024) :
    ((cfg0.win 0).blk t).view.read (Elt Ideal) G (ix3 (0 : Fin 1) r l) = G (ix3 (0 : Fin 1) (rowOf t r) l) := by
  blk_ext [idx0 t]
  rfl
theorem read1 (G : Buf (Elt Ideal) ((c : Thread nD τ).loc main_v3)) (l d : Fin 1024) :
    ((cfg0.win 1).blk t).view.read (Elt Ideal) G (ix4 (0 : Fin 1) (0 : Fin 1) l d) = G (ix4 (0 : Fin 1) (0 : Fin 1) l d) := by
  blk_ext [idx1 t]
theorem read2 (G : Buf (Elt Ideal) ((c : Thread nD τ).loc main_v5)) (d : Fin 1024) :
    ((cfg0.win 2).blk t).view.read (Elt Ideal) G (ix2 (0 : Fin 1) d) = G (ix2 (0 : Fin 1) d) := by
  blk_ext [idx2 t]
theorem read3 (G : Buf (Elt Ideal) ((c : Thread nD τ).loc main_v4)) (r d : Fin 1024) :
    ((cfg0.win 3).blk t).view.read (Elt Ideal) G (ix2 r d) = G (ix2 (rowOf t r) d) := by
  blk_ext [idx3 t]
  rfl
theorem read4 (G : Buf (Elt Ideal) ((c : Thread nD τ).loc main_v6)) (d : Fin 1024) :
    ((cfg0.win 4).blk t).view.read (Elt Ideal) G (ix2 (0 : Fin 1) d) = G (ix2 (0 : Fin 1) d) := by
  blk_ext [idx4 t]
theorem emb5 (G : Buf (Elt Ideal) ((c : Thread nD τ).loc main_v7_0)) (r d : Fin 1024) :
    G ((win0_5.blk t).view.emb (ix2 r d)) = G (ix2 (rowOf t r) d) := by
  blk_ext [idx5 t]
  rfl
theorem emb6 (G : Buf (Elt Ideal) ((c : Thread nD τ).loc main_v7_1)) (r d : Fin 1024) :
    G ((win0_6.blk t).view.emb (ix2 r d)) = G (ix2 (rowOf t r) d) := by
  blk_ext [idx6 t]
  rfl

theorem row_at (r : Fin 1024) : rowY (iblk m c 0 t) (iblk m c 1 t) (iblk m c 2 t) r = Y m c (rb (rowOf t r)) (rs (rowOf t r)) :=
  funext fun d => congrArg₂ (· + ·)
    (Finset.sum_congr rfl fun l _ => congrArg₂ (· * ·) ((read0 c t (V m c main_v1) r l).trans (V_z m c _ l)) ((read1 c t (V m c main_v3) l d).trans (V_w m c l d)))
    ((read2 c t (V m c main_v5) d).trans (V_b m c d))

theorem y_at (r d : Fin 1024) :
    out0_5 (iblk m c 0 t) (iblk m c 1 t) (iblk m c 2 t) (iblk m c 3 t) (iblk m c 4 t) (ix2 r d) = Y m c (rb (rowOf t r)) (rs (rowOf t r)) d := by
  unfold out0_5
  rw [View.canon_cons_unit_lit _ _ _ (by decide), View.ld_unit_lit _ _ (by decide), View.ld_unit_lit _ _ (by decide), View.ld_unit_lit _ _ (by decide)]
  exact (pay1_at _ _ _ r d).trans (congrFun (row_at m c t r) d)

theorem xn_at (r d : Fin 1024) :
    out0_6 (iblk m c 0 t) (iblk m c 1 t) (iblk m c 2 t) (iblk m c 3 t) (iblk m c 4 t) (ix2 r d)
      = NormOut.out (Y m c (rb (rowOf t r)) (rs (rowOf t r))) (gX m c (rb (rowOf t r)) (rs (rowOf t r))) (gG m c) d := by
  unfold out0_6
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]
  refine (pay2_at _ _ _ _ _ r d).trans ?_
  have hx : (fun d => ((iblk m c 3 t : Vec Ideal S1024x1024 .f32) (ix2 r d) : EReal)) = gX m c (rb (rowOf t r)) (rs (rowOf t r)) :=
    funext fun d => (read3 c t (V m c main_v4) r d).trans (V_x m c _ d)
  have hg : (fun d => ((iblk m c 4 t : Vec Ideal S1x1024 .f32) (ix2 (0 : Fin 1) d) : EReal)) = gG m c :=
    funext fun d => (read4 c t (V m c main_v6) d).trans (V_g m c d)
  rw [row_at m c t r, hx, hg]

/-- The arrays after the run, of any arrays that hold the rows. -/
theorem arrY (G : Buf (Elt Ideal) ((c : Thread nD τ).loc main_v7_0))
    (hG : ∀ (R : Fin 4096) (d : Fin 1024), (G (ix2 R d) : EReal) = Y m c (rb R) (rs R) d) : (dats m 0 c).arrAt 5 cfg0.N = G := by
  refine Pipeline.Dat.arrAt_eq_of_covers _ 5 _ (by decide +kernel) fun t hf y => ?_
  rw [after0_5]
  blk_simp
  have key : ∀ y : S1024x1024.Idx, out0_5 (iblk m c 0 t) (iblk m c 1 t) (iblk m c 2 t) (iblk m c 3 t) (iblk m c 4 t) y = G ((win0_5.blk t).view.emb y) := by
    intro y
    rw [eq_ix2 y]
    exact (y_at m c t (y 0) (y 1)).trans ((hG _ (y 1)).symm.trans (emb5 c t G (y 0) (y 1)).symm)
  exact key y
theorem arrX (G : Buf (Elt Ideal) ((c : Thread nD τ).loc main_v7_1))
    (hG : ∀ (R : Fin 4096) (d : Fin 1024), (G (ix2 R d) : EReal) = NormOut.out (Y m c (rb R) (rs R)) (gX m c (rb R) (rs R)) (gG m c) d) :
    (dats m 0 c).arrAt 6 cfg0.N = G := by
  refine Pipeline.Dat.arrAt_eq_of_covers _ 6 _ (by decide +kernel) fun t hf y => ?_
  rw [after0_6]
  blk_simp
  have key : ∀ y : S1024x1024.Idx, out0_6 (iblk m c 0 t) (iblk m c 1 t) (iblk m c 2 t) (iblk m c 3 t) (iblk m c 4 t) y = G ((win0_6.blk t).view.emb y) := by
    intro y
    rw [eq_ix2 y]
    exact (xn_at m c t (y 0) (y 1)).trans ((hG _ (y 1)).symm.trans (emb6 c t G (y 0) (y 1)).symm)
  exact key y
end Kernel

section Reference
open Cert.Reference10Ideal Cert.Reference10Ideal.Gen

/-- The projection's array at an index. -/
theorem ref_dot (z : FVec Ideal S2x2048x1024 .f32) (w : FVec Ideal S1024x1024 .f32) (v : FVec Ideal S1024 .f32) (b : Fin 2) (s : Fin 2048) (d : Fin 1024) :
    (addf (Host.dotGeneral dot_S2x2048x1024_S1024x1024_S2x2048x1024_2_0_01_1_n_n none z w)
      (broadcastInDim S2x2048x1024 ![0, 1, 2] bcast_S1x1x1024_S2x2048x1024_0_1_2 (broadcastInDim S1x1x1024 ![2] bcast_S1024_S1x1x1024_2 v))
      : FVec Ideal S2x2048x1024 .f32) (ix3 b s d) = ∑ e : Fin 1024, z (ix3 b s e) * w (ix2 e d) + v (ix1 d) := by
  pointwise

theorem ref_y (y : FVec Ideal S2x2048x1024 .f32) (R : Fin 4096) (d : Fin 1024) :
    (shapeCast S4096x1024 y shapeCasts_S2x2048x1024_S4096x1024 : FVec Ideal S4096x1024 .f32) (ix2 R d) = y (ix3 (rb R) (rs R) d) := by
  pointwise
  rfl

/-- The residual with the norm of any rows. -/
theorem ref_xn (y x : FVec Ideal S2x2048x1024 .f32) (g : FVec Ideal S1024 .f32) (b : Fin 2) (s : Fin 2048) (d : Fin 1024) :
    (addf x (mulf (mulf y (broadcastInDim S2x2048x1024 ![0, 1, 2] bcast_S2x2048x1_S2x2048x1024_0_1_2
      (Host.rsqrt (addf (Host.divf (broadcastInDim S2x2048x1 ![0, 1] bcast_S2x2048_S2x2048x1_0_1
        (Host.reduceAdd (mulf y y) (constant S_ .f32 0x00000000#32) reducesTo_S2x2048x1024_S2x2048_d2 h_S_))
        (broadcastInDim S2x2048x1 ![] bcast_S_S2x2048x1 (constant S_ .f32 0x44800000#32)))
        (broadcastInDim S2x2048x1 ![] bcast_S_S2x2048x1 (constant S_ .f32 0x358637BD#32))))))
      (broadcastInDim S2x2048x1024 ![0, 1, 2] bcast_S1x1x1024_S2x2048x1024_0_1_2 (broadcastInDim S1x1x1024 ![2] bcast_S1024_S1x1x1024_2 g)))
      : FVec Ideal S2x2048x1024 .f32) (ix3 b s d)
      = NormOut.out (fun d => y (ix3 b s d)) (fun d => x (ix3 b s d)) (fun d => g (ix1 d)) d := by
  unfold NormOut.out rinv
  pointwise
end Reference

/-- The kernel and the reference leave the same projection and the same residual. -/
theorem values : Cert.algebraic_Kernel10Ideal_Reference10Ideal := by
  intro m g m' g' _ hargs
  refine ⟨fun c => (Cert.Kernel10Ideal.Gen.dats m 0 c).arrAt 5 Cert.Kernel10Ideal.cfg0.N,
    fun c => (Cert.Kernel10Ideal.Gen.dats m 0 c).arrAt 6 Cert.Kernel10Ideal.cfg0.N, ?_, ?_⟩
  · refine (θ_run Cert.Kernel10Ideal.defs _ _).mono (fun r h c => ?_) (Cert.Kernel10Ideal.Value.run_blocks m g)
    exact h c
  have hY : ∀ (c : Dev Cert.Kernel10Ideal.nD) (b : Fin 2) (s : Fin 2048) (d : Fin 1024), _ = Y m c b s d := fun c b s d =>
    (ref_dot (m' ((c.tc : Thread Cert.Reference10Ideal.nD Cert.Reference10Ideal.τ).loc Cert.Reference10Ideal.main_arg0))
      (m' ((c.tc : Thread Cert.Reference10Ideal.nD Cert.Reference10Ideal.τ).loc Cert.Reference10Ideal.main_arg1))
      (m' ((c.tc : Thread Cert.Reference10Ideal.nD Cert.Reference10Ideal.τ).loc Cert.Reference10Ideal.main_arg2)) b s d).trans
      (congrArg₂ (· + ·) (Finset.sum_congr rfl fun e _ => congrArg₂ (· * ·) (congrFun (hargs c).1 _) (congrFun (hargs c).2.1 _)) (congrFun (hargs c).2.2.1 _))
  refine (θ_run Cert.Reference10Ideal.defs _ _).mono (fun r h c => ?_) (Cert.Reference10Ideal.Value.run (F := Ideal) m' g')
  refine ⟨(h c).1.trans (arrY m c _ fun R d => ?_).symm, (h c).2.1.trans (arrX m c _ fun R d => ?_).symm, (h c).2.2⟩
  · exact (ref_y _ R d).trans (hY c _ _ d)
  · refine (ref_y _ R d).trans ((ref_xn _ _ _ _ _ d).trans ?_)
    obtain ⟨h0, h1, hb, h2, h3⟩ := hargs c
    rw [show (fun d => _) = Y m c (rb R) (rs R) from funext fun d => hY c (rb R) (rs R) d,
      show (fun d => _) = gX m c (rb R) (rs R) from funext fun d => congrFun h2 (ix3 (rb R) (rs R) d),
      show (fun d => _) = gG m c from funext fun d => congrFun h3 (ix1 d)]

end Cert.MixOut
-- ==== Proof.NormQ.lean ====
/-
  An attention layer's query projection with its norm: the kernel's blocks, one of rows a grid point, are the reference's rows.
-/
module

public import proofs.«01_k».proof.Defs
public import proofs.«01_k».proof.Proof.Gen.Kernel11Ideal.Value
public import proofs.«01_k».proof.Proof.Gen.Reference11Ideal.Run
public import proofs.«01_k».proof.Proof.Math
public import proofs.«01_k».proof.Proof.Rows
public import Idealize.ShloMosaic.Lib.Pipeline.ValueKit
public import Idealize.ShloMosaic.Lib.Pointwise

@[expose] public section

set_option maxRecDepth 16384

noncomputable section

namespace Cert.NormQ

open Idealize.ShloMosaic Idealize.ShloMosaic.TcCoe Idealize.ShloMosaic.Tactic Idealize.SL.Sem
open Cert.FfnBwd (rb rs rinv)

/-- The norm, by the gain `g`, of the row `x`. -/
def nm (x g : Fin 1024 → EReal) (d : Fin 1024) : EReal := x d * rinv x * g d

section Kernel
open Cert.Kernel11Ideal Cert.Kernel11Ideal.Gen

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0, 0, 0] := by decide +kernel
theorem idx3 : ∀ t : Fin cfg0.N, win0_3.index t = ![0, t.val, 0] := by decide +kernel
theorem idx4 : ∀ t : Fin cfg0.N, win0_4.index t = ![t.val, 0] := by decide +kernel

variable (m : (ℓ : Loc nD τ sig) → Buf (Elt Ideal) ℓ) (c : Dev nD) (t : Fin cfg0.N)

/-- The row that a grid point's block holds at `r`. -/
def rowOf (t : Fin cfg0.N) (r : Fin 1024) : Fin 4096 := ⟨t.val * 1024 + r.val, by have h : t.val < 4 := t.isLt; omega⟩

/-- The column that a device's share holds at `e`. -/
def colOf (j : Fin 8) (e : Fin 384) : Fin 3072 := ⟨j.val * 384 + e.val, by omega⟩

/-- The arguments at an index. -/
def gX (b : Fin 2) (s : Fin 2048) (d : Fin 1024) : EReal := m ((c : Thread nD τ).loc main_arg0) (ix3 b s d)
def gG (d : Fin 1024) : EReal := m ((c : Thread nD τ).loc main_arg1) (ix1 d)
def gW (d : Fin 1024) (e : Fin 3072) : EReal := m ((c : Thread nD τ).loc main_arg2) (ix2 d e)

/-- The norm's row, and its projection. -/
def H (b : Fin 2) (s : Fin 2048) : Fin 1024 → EReal := nm (gX m c b s) (gG m c)
def Y (b : Fin 2) (s : Fin 2048) (e : Fin 3072) : EReal := ∑ d : Fin 1024, H m c b s d * gW m c d e

/-- The layouts that the call is handed. -/
theorem V_x (R : Fin 4096) (d : Fin 1024) :
    V m c main_v0 (ix2 R d) = m ((c : Thread nD τ).loc main_arg0) (ix3 (rb R) (rs R) d) := by
  have e : V m c main_v0 = StableHlo.after hostOps0 (fun b => m (c, b)) main_v0 := rfl
  rw [e]
  dsimp only [hostOps0]
  after_results
  pointwise
  rfl
theorem V_g (d : Fin 1024) : V m c main_v4 (ix2 (0 : Fin 1) d) = m ((c : Thread nD τ).loc main_arg1) (ix1 d) := by
  have e : V m c main_v4 = StableHlo.after hostOps0 (fun b => m (c, b)) main_v4 := rfl
  rw [e]
  dsimp only [hostOps0]
  after_results
  pointwise
theorem V_w (j : Fin 8) (d : Fin 1024) (l : Fin 384) :
    V m c main_v3 (ix4 j (0 : Fin 1) d l) = m ((c : Thread nD τ).loc main_arg2) (ix2 d (colOf j l)) := by
  have e : V m c main_v3 = StableHlo.after hostOps0 (fun b => m (c, b)) main_v3 := rfl
  rw [e]
  dsimp only [hostOps0]
  after_results
  pointwise
  rfl

theorem norm_at (x : Vec Ideal S1024x1024 .f32) (g : Vec Ideal S1x1024 .f32) (r d : Fin 1024) :
    k0_pay3 x g (ix2 r d) = nm (fun d => x (ix2 r d)) (fun d => g (ix2 (0 : Fin 1) d)) d := by
  unfold nm rinv
  pointwise [k0_pay3]
theorem same (h : Vec Ideal S1024x1024 .bf16) : k0_pay4 h = h := by
  funext y
  rw [eq_ix2 y]
  pointwise [k0_pay4]

/-- The product that a payload holds. -/
def IsProd (h : Vec Ideal S1024x1024 .bf16) (w : Vec Ideal S1x1x1024x384 .bf16) (P : Vec Ideal S1x1024x384 .bf16) : Prop :=
  ∀ (r : Fin 1024) (e : Fin 384), (P (ix3 (0 : Fin 1) r e) : EReal) = ∑ l : Fin 1024, h (ix2 r l) * w (ix4 (0 : Fin 1) (0 : Fin 1) l e)

theorem pay2_at (h : Vec Ideal S1024x1024 .bf16) (w : Vec Ideal S1x1x1024x384 .bf16) : IsProd h w (k0_pay2 h w) := by
  intro r e
  pointwise [k0_pay2]
theorem pay8_at (h : Vec Ideal S1024x1024 .bf16) (w : Vec Ideal S1x1x1024x384 .bf16) : IsProd h w (k0_pay8 h w) := by
  intro r e
  pointwise [k0_pay8]
theorem pay9_at (h : Vec Ideal S1024x1024 .bf16) (w : Vec Ideal S1x1x1024x384 .bf16) : IsProd h w (k0_pay9 h w) := by
  intro r e
  pointwise [k0_pay9]
theorem pay10_at (h : Vec Ideal S1024x1024 .bf16) (w : Vec Ideal S1x1x1024x384 .bf16) : IsProd h w (k0_pay10 h w) := by
  intro r e
  pointwise [k0_pay10]
theorem pay5_at (h : Vec Ideal S1024x1024 .bf16) (w : Vec Ideal S1x1x1024x384 .bf16) : IsProd h w (k0_pay5 h w) := by
  intro r e
  pointwise [k0_pay5, k0_pay4]
theorem pay6_at (h : Vec Ideal S1024x1024 .bf16) (w : Vec Ideal S1x1x1024x384 .bf16) : IsProd h w (k0_pay6 h w) := by
  intro r e
  pointwise [k0_pay6, k0_pay4]
theorem pay7_at (h : Vec Ideal S1024x1024 .bf16) (w : Vec Ideal S1x1x1024x384 .bf16) : IsProd h w (k0_pay7 h w) := by
  intro r e
  pointwise [k0_pay7, k0_pay4]
theorem pay1_at (h : Vec Ideal S1024x1024 .bf16) (w : Vec Ideal S1x1x1024x384 .bf16) : IsProd h w (k0_pay1 (k0_pay11 h w)) := by
  intro r e
  pointwise [k0_pay1, k0_pay11]

/-- The products' block: a plane for each device's share of the weight. -/
def prod (h : Vec Ideal S1024x1024 .bf16) (x2 : Vec Ideal S8x1x1024x384 .bf16) : Vec Ideal S8x1024x384 .bf16 := fun y =>
  ((∑ l : Fin 1024, (h (ix2 (y 1) l) : EReal) * x2 (ix4 (y 0) (0 : Fin 1) l (y 2)) : EReal))

/-- A load of one device's share. -/
theorem load_at (q : Fin 8) (off : Fin 4 → ℕ) (ho : off = ![q.val, 0, 0, 0]) (inb) (a : Memref sig .tc .vmem S8x1x1024x384 .bf16) (ha : a.IsWhole) (x2 : Vec Ideal S8x1x1024x384 .bf16)
    (l : Fin 1024) (e : Fin 384) :
    View.readAt (Elt Ideal) a.view (Rect.unit (s := S8x1x1024x384) off ![1, 1, 1024, 384] inb).toLoadRect (ha.unread x2) (ix4 (0 : Fin 1) (0 : Fin 1) l e)
      = x2 (ix4 q (0 : Fin 1) l e) := by
  subst ho
  rw [View.readAt_eq_ld, ha.read_unread]
  refine View.ld_unit_apply_of x2 _ _ inb _ _ fun a => ?_
  fin_cases a <;> simp

/-- A payload that is the product with a device's share is that plane of the block. -/
theorem piece (h : Vec Ideal S1024x1024 .bf16) (x2 : Vec Ideal S8x1x1024x384 .bf16) (q : Fin 8) (off : Fin 3 → ℕ) (ho : off = ![q.val, 0, 0]) (inb)
    (w : Vec Ideal S1x1x1024x384 .bf16) (P : Vec Ideal S1x1024x384 .bf16) (hP : IsProd h w P)
    (hw : ∀ (l : Fin 1024) (e : Fin 384), (w (ix4 (0 : Fin 1) (0 : Fin 1) l e) : EReal) = x2 (ix4 q (0 : Fin 1) l e)) (x : S1x1024x384.Idx) :
    P x = prod h x2 ((Rect.unit (s := S8x1024x384) off ![1, 1024, 384] inb).emb x) := by
  subst ho
  have hx : x = ix3 (0 : Fin 1) (x 1) (x 2) := (eq_ix3 x).trans (congrArg (fun z : Fin 1 => ix3 z (x 1) (x 2)) (Subsingleton.elim (α := Fin 1) (x 0) 0))
  have he : (Rect.unit (s := S8x1024x384) ![q.val, 0, 0] ![1, 1024, 384] inb).emb x = ix3 q (x 1) (x 2) := by
    funext a
    rw [hx]
    fin_cases a <;> apply Fin.ext <;> simp [Rect.emb, Rect.unit]
  rw [he, hx]
  refine (hP _ _).trans ?_
  exact Finset.sum_congr rfl fun l _ => congrArg (_ * ·) (hw l _)

/-- The norm's block, which the products read back. -/
theorem kept_eq (x0 : Vec Ideal S1024x1024 .f32) (x1 : Vec Ideal S1x1024 .f32) (a : Memref sig .tc .vmem S1024x1024 .f32) (ha : a.IsWhole)
    (b : Memref sig .tc .vmem S1x1024 .f32) (hb : b.IsWhole) :
    View.canon (kernelRun0_A.sl.H4_1 c a ha b hb x0 x1) = k0_pay3 x0 x1 := by
  unfold kernelRun0_A.sl.H4_1
  rw [View.canon_cons_unit_lit _ _ _ (by decide), View.readAt_eq_ld, View.readAt_eq_ld, ha.read_unread, hb.read_unread,
    View.ld_unit_lit _ _ (by decide), View.ld_unit_lit _ _ (by decide)]
theorem back_eq (x0 : Vec Ideal S1024x1024 .f32) (x1 : Vec Ideal S1x1024 .f32) (a : Memref sig .tc .vmem S1024x1024 .f32) (ha : a.IsWhole)
    (b : Memref sig .tc .vmem S1x1024 .f32) (hb : b.IsWhole) (d : Memref sig .tc .vmem S1024x1024 .bf16) :
    kernelRun0_A.sl.v3 c a ha b hb d x0 x1 = k0_pay3 x0 x1 := by
  unfold kernelRun0_A.sl.v3
  rw [View.readCov_eq_canon', kept_eq]
  show View.ld (show Vec Ideal S1024x1024 .bf16 from k0_pay3 x0 x1) (Rect.unit ![0, 0] S1024x1024.size inb_S1024x1024_S1024x1024_0_0) = _
  exact View.ld_unit_lit _ _ (by decide)
theorem held_eq (x0 : Vec Ideal S1024x1024 .f32) (x1 : Vec Ideal S1x1024 .f32) (a : Memref sig .tc .vmem S1024x1024 .f32) (ha : a.IsWhole)
    (b : Memref sig .tc .vmem S1x1024 .f32) (hb : b.IsWhole) (d : Memref sig .tc .vmem S1024x1024 .bf16) :
    kernelRun0_A.sl.r c a ha b hb d x0 x1 = k0_pay3 x0 x1 := by
  unfold kernelRun0_A.sl.r
  rw [same, back_eq]

/-- What a grid point leaves in the two outputs. -/
theorem norm_eq : (outsAt0 m c t).2 = k0_pay3 (iblk m c 0 t) (iblk m c 1 t) := by
  dsimp only [outsAt0]
  unfold out0_A_4
  rw [View.read_writes_junk_eq_canon]
  exact kept_eq c _ _ _ _ _ _
theorem prod_eq : (outsAt0 m c t).1 = prod (k0_pay3 (iblk m c 0 t) (iblk m c 1 t)) (iblk m c 2 t) := by
  dsimp only [outsAt0]
  unfold out0_A_3
  rw [View.read_writes_junk_eq_canon]
  funext y
  refine View.canon_apply_of_pieces _ _ ?_ y (cover0_A_3 _ _ _ _ _ _ _ _ _ _ _ _ _ _ _ _ y)
  unfold kernelRun0_A
  dsimp only
  intro p hp
  simp only [List.mem_cons, List.not_mem_nil, or_false] at hp
  rcases hp with rfl | rfl | rfl | rfl | rfl | rfl | rfl | rfl
  · rw [← held_eq c (iblk m c 0 t) (iblk m c 1 t) (ms0_0 t) (hs0_0 t) (ms0_1 t) (hs0_1 t) (ms0_4 t)]
    exact piece _ _ 7 ![7, 0, 0] rfl inb_S8x1024x384_S1x1024x384_7_0_0 _ _ (pay2_at _ _) (load_at 7 _ rfl _ _ _ _)
  · rw [← held_eq c (iblk m c 0 t) (iblk m c 1 t) (ms0_0 t) (hs0_0 t) (ms0_1 t) (hs0_1 t) (ms0_4 t)]
    exact piece _ _ 6 ![6, 0, 0] rfl inb_S8x1024x384_S1x1024x384_6_0_0 _ _ (pay1_at _ _) (load_at 6 _ rfl _ _ _ _)
  · rw [← held_eq c (iblk m c 0 t) (iblk m c 1 t) (ms0_0 t) (hs0_0 t) (ms0_1 t) (hs0_1 t) (ms0_4 t)]
    exact piece _ _ 5 ![5, 0, 0] rfl inb_S8x1024x384_S1x1024x384_5_0_0 _ _ (pay10_at _ _) (load_at 5 _ rfl _ _ _ _)
  · rw [← held_eq c (iblk m c 0 t) (iblk m c 1 t) (ms0_0 t) (hs0_0 t) (ms0_1 t) (hs0_1 t) (ms0_4 t)]
    exact piece _ _ 4 ![4, 0, 0] rfl inb_S8x1024x384_S1x1024x384_4_0_0 _ _ (pay9_at _ _) (load_at 4 _ rfl _ _ _ _)
  · rw [← held_eq c (iblk m c 0 t) (iblk m c 1 t) (ms0_0 t) (hs0_0 t) (ms0_1 t) (hs0_1 t) (ms0_4 t)]
    exact piece _ _ 3 ![3, 0, 0] rfl inb_S8x1024x384_S1x1024x384_3_0_0 _ _ (pay8_at _ _) (load_at 3 _ rfl _ _ _ _)
  · rw [← back_eq c (iblk m c 0 t) (iblk m c 1 t) (ms0_0 t) (hs0_0 t) (ms0_1 t) (hs0_1 t) (ms0_4 t)]
    exact piece _ _ 2 ![2, 0, 0] rfl inb_S8x1024x384_S1x1024x384_2_0_0 _ _ (pay7_at _ _) (load_at 2 _ rfl _ _ _ _)
  · rw [← back_eq c (iblk m c 0 t) (iblk m c 1 t) (ms0_0 t) (hs0_0 t) (ms0_1 t) (hs0_1 t) (ms0_4 t)]
    exact piece _ _ 1 ![1, 0, 0] rfl inb_S8x1024x384_S1x1024x384_1_0_0 _ _ (pay6_at _ _) (load_at 1 _ rfl _ _ _ _)
  · rw [← back_eq c (iblk m c 0 t) (iblk m c 1 t) (ms0_0 t) (hs0_0 t) (ms0_1 t) (hs0_1 t) (ms0_4 t)]
    exact piece _ _ 0 ![0, 0, 0] rfl inb_S8x1024x384_S1x1024x384_0_0_0 _ _ (pay5_at _ _) (load_at 0 _ rfl _ _ _ _)

theorem read0 (G : Buf (Elt Ideal) ((c : Thread nD τ).loc main_v0)) (r d : Fin 1024) :
    ((cfg0.win 0).blk t).view.read (Elt Ideal) G (ix2 r d) = G (ix2 (rowOf t r) d) := by
  blk_ext [idx0 t]
  rfl
theorem read1 (G : Buf (Elt Ideal) ((c : Thread nD τ).loc main_v4)) (d : Fin 1024) :
    ((cfg0.win 1).blk t).view.read (Elt Ideal) G (ix2 (0 : Fin 1) d) = G (ix2 (0 : Fin 1) d) := by
  blk_ext [idx1 t]
theorem read2 (G : Buf (Elt Ideal) ((c : Thread nD τ).loc main_v3)) (j : Fin 8) (d : Fin 1024) (l : Fin 384) :
    ((cfg0.win 2).blk t).view.read (Elt Ideal) G (ix4 j (0 : Fin 1) d l) = G (ix4 j (0 : Fin 1) d l) := by
  blk_ext [idx2 t]
theorem embY (G : Buf (Elt Ideal) ((c : Thread nD τ).loc main_v5_0)) (j : Fin 8) (r : Fin 1024) (l : Fin 384) :
    G ((win0_3.blk t).view.emb (ix3 j r l)) = G (ix3 j (rowOf t r) l) := by
  blk_ext [idx3 t]
  rfl
theorem embH (G : Buf (Elt Ideal) ((c : Thread nD τ).loc main_v5_1)) (r d : Fin 1024) :
    G ((win0_4.blk t).view.emb (ix2 r d)) = G (ix2 (rowOf t r) d) := by
  blk_ext [idx4 t]
  rfl

theorem h_at (r d : Fin 1024) :
    (k0_pay3 (iblk m c 0 t) (iblk m c 1 t) (ix2 r d) : EReal) = H m c (rb (rowOf t r)) (rs (rowOf t r)) d := by
  refine (norm_at _ _ r d).trans ?_
  have hx : (fun d => ((iblk m c 0 t : Vec Ideal S1024x1024 .f32) (ix2 r d) : EReal)) = gX m c (rb (rowOf t r)) (rs (rowOf t r)) :=
    funext fun d => (read0 c t (V m c main_v0) r d).trans (V_x m c _ d)
  have hg : (fun d => ((iblk m c 1 t : Vec Ideal S1x1024 .f32) (ix2 (0 : Fin 1) d) : EReal)) = gG m c :=
    funext fun d => (read1 c t (V m c main_v4) d).trans (V_g m c d)
  rw [hx, hg]
  rfl
theorem y_at (j : Fin 8) (r : Fin 1024) (l : Fin 384) :
    ((outsAt0 m c t).1 (ix3 j r l) : EReal) = Y m c (rb (rowOf t r)) (rs (rowOf t r)) (colOf j l) := by
  rw [prod_eq]
  exact Finset.sum_congr rfl fun d _ => congrArg₂ (· * ·) (h_at m c t r d) ((read2 c t (V m c main_v3) j d l).trans (V_w m c j d l))

/-- The arrays after the run, of any arrays that hold the rows. -/
theorem arrY (G : Buf (Elt Ideal) ((c : Thread nD τ).loc main_v5_0))
    (hG : ∀ (j : Fin 8) (R : Fin 4096) (l : Fin 384), (G (ix3 j R l) : EReal) = Y m c (rb R) (rs R) (colOf j l)) : (dats m 0 c).arrAt 3 cfg0.N = G := by
  refine Pipeline.Dat.arrAt_eq_of_covers _ 3 _ (by decide +kernel) fun t hf y => ?_
  rw [after0_3]
  blk_simp
  have key : ∀ y : S8x1024x384.Idx, (outsAt0 m c t).1 y = G ((win0_3.blk t).view.emb y) := by
    intro y
    rw [eq_ix3 y]
    exact (y_at m c t (y 0) (y 1) (y 2)).trans ((hG (y 0) _ (y 2)).symm.trans (embY c t G (y 0) (y 1) (y 2)).symm)
  exact key y
theorem arrH (G : Buf (Elt Ideal) ((c : Thread nD τ).loc main_v5_1))
    (hG : ∀ (R : Fin 4096) (d : Fin 1024), (G (ix2 R d) : EReal) = H m c (rb R) (rs R) d) : (dats m 0 c).arrAt 4 cfg0.N = G := by
  refine Pipeline.Dat.arrAt_eq_of_covers _ 4 _ (by decide +kernel) fun t hf y => ?_
  rw [after0_4]
  blk_simp
  have key : ∀ y : S1024x1024.Idx, (outsAt0 m c t).2 y = G ((win0_4.blk t).view.emb y) := by
    intro y
    rw [eq_ix2 y, norm_eq]
    exact (h_at m c t (y 0) (y 1)).trans ((hG _ (y 1)).symm.trans (embH c t G (y 0) (y 1)).symm)
  exact key y
end Kernel

section Reference
open Cert.Reference11Ideal Cert.Reference11Ideal.Gen

/-- The norm's array at an index. -/
theorem ref_norm (x : FVec Ideal S2x2048x1024 .f32) (g : FVec Ideal S1024 .f32) (b : Fin 2) (s : Fin 2048) (d : Fin 1024) :
    (mulf (mulf x (broadcastInDim S2x2048x1024 ![0, 1, 2] bcast_S2x2048x1_S2x2048x1024_0_1_2
      (Host.rsqrt (addf (Host.divf (broadcastInDim S2x2048x1 ![0, 1] bcast_S2x2048_S2x2048x1_0_1
        (Host.reduceAdd (mulf x x) (constant S_ .f32 0x00000000#32) reducesTo_S2x2048x1024_S2x2048_d2 h_S_))
        (broadcastInDim S2x2048x1 ![] bcast_S_S2x2048x1 (constant S_ .f32 0x44800000#32)))
        (broadcastInDim S2x2048x1 ![] bcast_S_S2x2048x1 (constant S_ .f32 0x358637BD#32))))))
      (broadcastInDim S2x2048x1024 ![0, 1, 2] bcast_S1x1x1024_S2x2048x1024_0_1_2 (broadcastInDim S1x1x1024 ![2] bcast_S1024_S1x1x1024_2 g))
      : FVec Ideal S2x2048x1024 .f32) (ix3 b s d)
      = nm (fun d => x (ix3 b s d)) (fun d => g (ix1 d)) d := by
  unfold nm rinv
  pointwise

/-- The projection's array at an index, of any rows. -/
theorem ref_y (h : FVec Ideal S2x2048x1024 .f32) (w : FVec Ideal S1024x3072 .f32) (j : Fin 8) (R : Fin 4096) (l : Fin 384) :
    (truncf .bf16 (transpose S8x4096x384 [1, 0, 2] (shapeCast S4096x8x384 (Host.dotGeneral dot_S2x2048x1024_S1024x3072_S2x2048x3072_2_0_01_1_n_n none h w)
      shapeCasts_S2x2048x3072_S4096x8x384) transposes_S4096x8x384_S8x4096x384_1_0_2) bitsLt_bf16_f32 : FVec Ideal S8x4096x384 .bf16) (ix3 j R l)
      = ∑ d : Fin 1024, h (ix3 (rb R) (rs R) d) * w (ix2 d (colOf j l)) := by
  pointwise
  rfl
theorem ref_h (h : FVec Ideal S2x2048x1024 .f32) (R : Fin 4096) (d : Fin 1024) :
    (truncf .bf16 (shapeCast S4096x1024 h shapeCasts_S2x2048x1024_S4096x1024) bitsLt_bf16_f32 : FVec Ideal S4096x1024 .bf16) (ix2 R d) = h (ix3 (rb R) (rs R) d) := by
  pointwise
  rfl
end Reference

/-- The kernel and the reference leave the same projection and the same norm. -/
theorem values : Cert.algebraic_Kernel11Ideal_Reference11Ideal := by
  intro m g m' g' _ hargs
  refine ⟨fun c => (Cert.Kernel11Ideal.Gen.dats m 0 c).arrAt 3 Cert.Kernel11Ideal.cfg0.N,
    fun c => (Cert.Kernel11Ideal.Gen.dats m 0 c).arrAt 4 Cert.Kernel11Ideal.cfg0.N, ?_, ?_⟩
  · refine (θ_run Cert.Kernel11Ideal.defs _ _).mono (fun r h c => ?_) (Cert.Kernel11Ideal.Value.run_blocks m g)
    exact h c
  have hH : ∀ (c : Dev Cert.Kernel11Ideal.nD) (b : Fin 2) (s : Fin 2048) (d : Fin 1024), _ = H m c b s d := fun c b s d =>
    (ref_norm (m' ((c.tc : Thread Cert.Reference11Ideal.nD Cert.Reference11Ideal.τ).loc Cert.Reference11Ideal.main_arg0))
      (m' ((c.tc : Thread Cert.Reference11Ideal.nD Cert.Reference11Ideal.τ).loc Cert.Reference11Ideal.main_arg1)) b s d).trans (by
      rw [show (fun d => _) = gX m c b s from funext fun d => congrFun (hargs c).1 (ix3 b s d),
        show (fun d => _) = gG m c from funext fun d => congrFun (hargs c).2.1 (ix1 d)]
      rfl)
  refine (θ_run Cert.Reference11Ideal.defs _ _).mono (fun r h c => ?_) (Cert.Reference11Ideal.Value.run (F := Ideal) m' g')
  refine ⟨(h c).1.trans (arrY m c _ fun j R l => ?_).symm, (h c).2.1.trans (arrH m c _ fun R d => ?_).symm, (h c).2.2⟩
  · refine (ref_y _ _ j R l).trans ?_
    exact Finset.sum_congr rfl fun d _ => congrArg₂ (· * ·) (hH c _ _ d) (congrFun (hargs c).2.2 _)
  · exact (ref_h _ R d).trans (hH c _ _ d)

end Cert.NormQ
-- ==== Proof.NormCm.lean ====
/-
  A Conformer layer's input projection with its bias and its norm: the kernel's blocks, one of rows a grid point, are the reference's rows.
-/
module

public import proofs.«01_k».proof.Defs
public import proofs.«01_k».proof.Proof.Gen.Kernel12Ideal.Value
public import proofs.«01_k».proof.Proof.Gen.Reference12Ideal.Run
public import proofs.«01_k».proof.Proof.Math
public import proofs.«01_k».proof.Proof.Rows
public import Idealize.ShloMosaic.Lib.Pipeline.ValueKit
public import Idealize.ShloMosaic.Lib.Pointwise

@[expose] public section

set_option maxRecDepth 16384

noncomputable section

namespace Cert.NormCm

open Idealize.ShloMosaic Idealize.ShloMosaic.TcCoe Idealize.ShloMosaic.Tactic Idealize.SL.Sem
open Cert.FfnBwd (rb rs rinv)

/-- The norm, by the gain `g`, of the row `x`. -/
def nm (x g : Fin 1024 → EReal) (d : Fin 1024) : EReal := x d * rinv x * g d

section Kernel
open Cert.Kernel12Ideal Cert.Kernel12Ideal.Gen

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0, 0, 0] := by decide +kernel
theorem idx3 : ∀ t : Fin cfg0.N, win0_3.index t = ![0, 0, 0, 0] := by decide +kernel
theorem idx4 : ∀ t : Fin cfg0.N, win0_4.index t = ![0, t.val, 0] := by decide +kernel
theorem idx5 : ∀ t : Fin cfg0.N, win0_5.index t = ![t.val, 0] := by decide +kernel

variable (m : (ℓ : Loc nD τ sig) → Buf (Elt Ideal) ℓ) (c : Dev nD) (t : Fin cfg0.N)

/-- The row that a grid point's block holds at `r`. -/
def rowOf (t : Fin cfg0.N) (r : Fin 1024) : Fin 4096 := ⟨t.val * 1024 + r.val, by have h : t.val < 4 := t.isLt; omega⟩

/-- The column that a device's share holds at `e`. -/
def colOf (j : Fin 8) (e : Fin 256) : Fin 2048 := ⟨j.val * 256 + e.val, by omega⟩

/-- The arguments at an index. -/
def gX (b : Fin 2) (s : Fin 2048) (d : Fin 1024) : EReal := m ((c : Thread nD τ).loc main_arg0) (ix3 b s d)
def gG (d : Fin 1024) : EReal := m ((c : Thread nD τ).loc main_arg1) (ix1 d)
def gW (d : Fin 1024) (e : Fin 2048) : EReal := m ((c : Thread nD τ).loc main_arg2) (ix2 d e)
def gB (e : Fin 2048) : EReal := m ((c : Thread nD τ).loc main_arg3) (ix1 e)

/-- The norm's row, and its projection. -/
def H (b : Fin 2) (s : Fin 2048) : Fin 1024 → EReal := nm (gX m c b s) (gG m c)
def Y (b : Fin 2) (s : Fin 2048) (e : Fin 2048) : EReal := ∑ d : Fin 1024, H m c b s d * gW m c d e + gB m c e

/-- The layouts that the call is handed. -/
theorem V_x (R : Fin 4096) (d : Fin 1024) :
    V m c main_v0 (ix2 R d) = m ((c : Thread nD τ).loc main_arg0) (ix3 (rb R) (rs R) d) := by
  have e : V m c main_v0 = StableHlo.after hostOps0 (fun b => m (c, b)) main_v0 := rfl
  rw [e]
  dsimp only [hostOps0]
  after_results
  pointwise
  rfl
theorem V_g (d : Fin 1024) : V m c main_v5 (ix2 (0 : Fin 1) d) = m ((c : Thread nD τ).loc main_arg1) (ix1 d) := by
  have e : V m c main_v5 = StableHlo.after hostOps0 (fun b => m (c, b)) main_v5 := rfl
  rw [e]
  dsimp only [hostOps0]
  after_results
  pointwise
theorem V_w (j : Fin 8) (d : Fin 1024) (l : Fin 256) :
    V m c main_v3 (ix4 j (0 : Fin 1) d l) = m ((c : Thread nD τ).loc main_arg2) (ix2 d (colOf j l)) := by
  have e : V m c main_v3 = StableHlo.after hostOps0 (fun b => m (c, b)) main_v3 := rfl
  rw [e]
  dsimp only [hostOps0]
  after_results
  pointwise
  rfl
theorem V_b (j : Fin 8) (l : Fin 256) :
    V m c main_v4 (ix4 j (0 : Fin 1) (0 : Fin 1) l) = m ((c : Thread nD τ).loc main_arg3) (ix1 (colOf j l)) := by
  have e : V m c main_v4 = StableHlo.after hostOps0 (fun b => m (c, b)) main_v4 := rfl
  rw [e]
  dsimp only [hostOps0]
  after_results
  pointwise
  rfl

theorem norm_at (x : Vec Ideal S1024x1024 .f32) (g : Vec Ideal S1x1024 .f32) (r d : Fin 1024) :
    k0_pay2 x g (ix2 r d) = nm (fun d => x (ix2 r d)) (fun d => g (ix2 (0 : Fin 1) d)) d := by
  unfold nm rinv
  pointwise [k0_pay2]
theorem same (h : Vec Ideal S1024x1024 .bf16) : k0_pay3 h = h := by
  funext y
  rw [eq_ix2 y]
  pointwise [k0_pay3]

/-- The product that a payload holds. -/
def IsProd (h : Vec Ideal S1024x1024 .bf16) (w : Vec Ideal S1x1x1024x256 .bf16) (b : Vec Ideal S1x1x1x256 .f32) (P : Vec Ideal S1x1024x256 .bf16) : Prop :=
  ∀ (r : Fin 1024) (e : Fin 256), (P (ix3 (0 : Fin 1) r e) : EReal) = ∑ l : Fin 1024, h (ix2 r l) * w (ix4 (0 : Fin 1) (0 : Fin 1) l e) + b (ix4 (0 : Fin 1) (0 : Fin 1) (0 : Fin 1) e)

theorem pay1_at (h : Vec Ideal S1024x1024 .bf16) (w : Vec Ideal S1x1x1024x256 .bf16) (b : Vec Ideal S1x1x1x256 .f32) : IsProd h w b (k0_pay1 h w b) := by
  intro r e
  pointwise [k0_pay1]
theorem pay6_at (h : Vec Ideal S1024x1024 .bf16) (w : Vec Ideal S1x1x1024x256 .bf16) (b : Vec Ideal S1x1x1x256 .f32) : IsProd h w b (k0_pay6 h w b) := by
  intro r e
  pointwise [k0_pay6]
theorem pay7_at (h : Vec Ideal S1024x1024 .bf16) (w : Vec Ideal S1x1x1024x256 .bf16) (b : Vec Ideal S1x1x1x256 .f32) : IsProd h w b (k0_pay7 h w b) := by
  intro r e
  pointwise [k0_pay7]
theorem pay10_at (h : Vec Ideal S1024x1024 .bf16) (w : Vec Ideal S1x1x1024x256 .bf16) (b : Vec Ideal S1x1x1x256 .f32) : IsProd h w b (k0_pay10 h w b) := by
  intro r e
  pointwise [k0_pay10]
theorem pay11_at (h : Vec Ideal S1024x1024 .bf16) (w : Vec Ideal S1x1x1024x256 .bf16) (b : Vec Ideal S1x1x1x256 .f32) : IsProd h w b (k0_pay11 h w b) := by
  intro r e
  pointwise [k0_pay11]
theorem pay4_at (h : Vec Ideal S1024x1024 .bf16) (w : Vec Ideal S1x1x1024x256 .bf16) (b : Vec Ideal S1x1x1x256 .f32) : IsProd h w b (k0_pay4 h w b) := by
  intro r e
  pointwise [k0_pay4, k0_pay3]
theorem pay5_at (h : Vec Ideal S1024x1024 .bf16) (w : Vec Ideal S1x1x1024x256 .bf16) (b : Vec Ideal S1x1x1x256 .f32) : IsProd h w b (k0_pay5 h w b) := by
  intro r e
  pointwise [k0_pay5, k0_pay3]
theorem pay9_at (h : Vec Ideal S1024x1024 .bf16) (w : Vec Ideal S1x1x1024x256 .bf16) (b : Vec Ideal S1x1x1x256 .f32) : IsProd h w b (k0_pay9 (k0_pay8 h w) b) := by
  intro r e
  pointwise [k0_pay9, k0_pay8]

/-- The products' block: a plane for each device's share of the weight. -/
def prod (h : Vec Ideal S1024x1024 .bf16) (x2 : Vec Ideal S8x1x1024x256 .bf16) (x3 : Vec Ideal S8x1x1x256 .f32) : Vec Ideal S8x1024x256 .bf16 := fun y =>
  ((∑ l : Fin 1024, (h (ix2 (y 1) l) : EReal) * x2 (ix4 (y 0) (0 : Fin 1) l (y 2)) + x3 (ix4 (y 0) (0 : Fin 1) (0 : Fin 1) (y 2)) : EReal))

/-- A load of one device's share. -/
theorem load_at (q : Fin 8) (off : Fin 4 → ℕ) (ho : off = ![q.val, 0, 0, 0]) (inb) (a : Memref sig .tc .vmem S8x1x1024x256 .bf16) (ha : a.IsWhole) (x2 : Vec Ideal S8x1x1024x256 .bf16)
    (l : Fin 1024) (e : Fin 256) :
    View.readAt (Elt Ideal) a.view (Rect.unit (s := S8x1x1024x256) off ![1, 1, 1024, 256] inb).toLoadRect (ha.unread x2) (ix4 (0 : Fin 1) (0 : Fin 1) l e)
      = x2 (ix4 q (0 : Fin 1) l e) := by
  subst ho
  rw [View.readAt_eq_ld, ha.read_unread]
  refine View.ld_unit_apply_of x2 _ _ inb _ _ fun a => ?_
  fin_cases a <;> simp
theorem bias_at (q : Fin 8) (off : Fin 4 → ℕ) (ho : off = ![q.val, 0, 0, 0]) (inb) (a : Memref sig .tc .vmem S8x1x1x256 .f32) (ha : a.IsWhole) (x3 : Vec Ideal S8x1x1x256 .f32)
    (e : Fin 256) :
    View.readAt (Elt Ideal) a.view (Rect.unit (s := S8x1x1x256) off ![1, 1, 1, 256] inb).toLoadRect (ha.unread x3) (ix4 (0 : Fin 1) (0 : Fin 1) (0 : Fin 1) e)
      = x3 (ix4 q (0 : Fin 1) (0 : Fin 1) e) := by
  subst ho
  rw [View.readAt_eq_ld, ha.read_unread]
  refine View.ld_unit_apply_of x3 _ _ inb _ _ fun a => ?_
  fin_cases a <;> simp

/-- A payload that is the product with a device's share is that plane of the block. -/
theorem piece (h : Vec Ideal S1024x1024 .bf16) (x2 : Vec Ideal S8x1x1024x256 .bf16) (x3 : Vec Ideal S8x1x1x256 .f32) (q : Fin 8) (off : Fin 3 → ℕ) (ho : off = ![q.val, 0, 0]) (inb)
    (w : Vec Ideal S1x1x1024x256 .bf16) (b : Vec Ideal S1x1x1x256 .f32) (P : Vec Ideal S1x1024x256 .bf16) (hP : IsProd h w b P)
    (hw : ∀ (l : Fin 1024) (e : Fin 256), (w (ix4 (0 : Fin 1) (0 : Fin 1) l e) : EReal) = x2 (ix4 q (0 : Fin 1) l e))
    (hb : ∀ (e : Fin 256), (b (ix4 (0 : Fin 1) (0 : Fin 1) (0 : Fin 1) e) : EReal) = x3 (ix4 q (0 : Fin 1) (0 : Fin 1) e)) (x : S1x1024x256.Idx) :
    P x = prod h x2 x3 ((Rect.unit (s := S8x1024x256) off ![1, 1024, 256] inb).emb x) := by
  subst ho
  have hx : x = ix3 (0 : Fin 1) (x 1) (x 2) := (eq_ix3 x).trans (congrArg (fun z : Fin 1 => ix3 z (x 1) (x 2)) (Subsingleton.elim (α := Fin 1) (x 0) 0))
  have he : (Rect.unit (s := S8x1024x256) ![q.val, 0, 0] ![1, 1024, 256] inb).emb x = ix3 q (x 1) (x 2) := by
    funext a
    rw [hx]
    fin_cases a <;> apply Fin.ext <;> simp [Rect.emb, Rect.unit]
  rw [he, hx]
  refine (hP _ _).trans ?_
  exact congrArg₂ (· + ·) (Finset.sum_congr rfl fun l _ => congrArg (_ * ·) (hw l _)) (hb _)

/-- The norm's block, which the products read back. -/
theorem kept_eq (x0 : Vec Ideal S1024x1024 .f32) (x1 : Vec Ideal S1x1024 .f32) (a : Memref sig .tc .vmem S1024x1024 .f32) (ha : a.IsWhole)
    (b : Memref sig .tc .vmem S1x1024 .f32) (hb : b.IsWhole) :
    View.canon (kernelRun0_A.sl.H5_1 c a ha b hb x0 x1) = k0_pay2 x0 x1 := by
  unfold kernelRun0_A.sl.H5_1
  rw [View.canon_cons_unit_lit _ _ _ (by decide), View.readAt_eq_ld, View.readAt_eq_ld, ha.read_unread, hb.read_unread,
    View.ld_unit_lit _ _ (by decide), View.ld_unit_lit _ _ (by decide)]
theorem back_eq (x0 : Vec Ideal S1024x1024 .f32) (x1 : Vec Ideal S1x1024 .f32) (a : Memref sig .tc .vmem S1024x1024 .f32) (ha : a.IsWhole)
    (b : Memref sig .tc .vmem S1x1024 .f32) (hb : b.IsWhole) (d : Memref sig .tc .vmem S1024x1024 .bf16) :
    kernelRun0_A.sl.v3 c a ha b hb d x0 x1 = k0_pay2 x0 x1 := by
  unfold kernelRun0_A.sl.v3
  rw [View.readCov_eq_canon', kept_eq]
  show View.ld (show Vec Ideal S1024x1024 .bf16 from k0_pay2 x0 x1) (Rect.unit ![0, 0] S1024x1024.size inb_S1024x1024_S1024x1024_0_0) = _
  exact View.ld_unit_lit _ _ (by decide)
theorem held_eq (x0 : Vec Ideal S1024x1024 .f32) (x1 : Vec Ideal S1x1024 .f32) (a : Memref sig .tc .vmem S1024x1024 .f32) (ha : a.IsWhole)
    (b : Memref sig .tc .vmem S1x1024 .f32) (hb : b.IsWhole) (d : Memref sig .tc .vmem S1024x1024 .bf16) :
    kernelRun0_A.sl.r c a ha b hb d x0 x1 = k0_pay2 x0 x1 := by
  unfold kernelRun0_A.sl.r
  rw [same, back_eq]

/-- What a grid point leaves in the two outputs. -/
theorem norm_eq : (outsAt0 m c t).2 = k0_pay2 (iblk m c 0 t) (iblk m c 1 t) := by
  dsimp only [outsAt0]
  unfold out0_A_5
  rw [View.read_writes_junk_eq_canon]
  exact kept_eq c _ _ _ _ _ _
theorem prod_eq : (outsAt0 m c t).1 = prod (k0_pay2 (iblk m c 0 t) (iblk m c 1 t)) (iblk m c 2 t) (iblk m c 3 t) := by
  dsimp only [outsAt0]
  unfold out0_A_4
  rw [View.read_writes_junk_eq_canon]
  funext y
  refine View.canon_apply_of_pieces _ _ ?_ y (cover0_A_4 _ _ _ _ _ _ _ _ _ _ _ _ _ _ _ _ _ _ _ y)
  unfold kernelRun0_A
  dsimp only
  intro p hp
  simp only [List.mem_cons, List.not_mem_nil, or_false] at hp
  rcases hp with rfl | rfl | rfl | rfl | rfl | rfl | rfl | rfl
  · rw [← held_eq c (iblk m c 0 t) (iblk m c 1 t) (ms0_0 t) (hs0_0 t) (ms0_1 t) (hs0_1 t) (ms0_5 t)]
    exact piece _ _ _ 7 ![7, 0, 0] rfl inb_S8x1024x256_S1x1024x256_7_0_0 _ _ _ (pay1_at _ _ _) (load_at 7 _ rfl _ _ _ _) (bias_at 7 _ rfl _ _ _ _)
  · rw [← held_eq c (iblk m c 0 t) (iblk m c 1 t) (ms0_0 t) (hs0_0 t) (ms0_1 t) (hs0_1 t) (ms0_5 t)]
    exact piece _ _ _ 6 ![6, 0, 0] rfl inb_S8x1024x256_S1x1024x256_6_0_0 _ _ _ (pay11_at _ _ _) (load_at 6 _ rfl _ _ _ _) (bias_at 6 _ rfl _ _ _ _)
  · rw [← held_eq c (iblk m c 0 t) (iblk m c 1 t) (ms0_0 t) (hs0_0 t) (ms0_1 t) (hs0_1 t) (ms0_5 t)]
    exact piece _ _ _ 5 ![5, 0, 0] rfl inb_S8x1024x256_S1x1024x256_5_0_0 _ _ _ (pay10_at _ _ _) (load_at 5 _ rfl _ _ _ _) (bias_at 5 _ rfl _ _ _ _)
  · rw [← held_eq c (iblk m c 0 t) (iblk m c 1 t) (ms0_0 t) (hs0_0 t) (ms0_1 t) (hs0_1 t) (ms0_5 t)]
    exact piece _ _ _ 4 ![4, 0, 0] rfl inb_S8x1024x256_S1x1024x256_4_0_0 _ _ _ (pay9_at _ _ _) (load_at 4 _ rfl _ _ _ _) (bias_at 4 _ rfl _ _ _ _)
  · rw [← held_eq c (iblk m c 0 t) (iblk m c 1 t) (ms0_0 t) (hs0_0 t) (ms0_1 t) (hs0_1 t) (ms0_5 t)]
    exact piece _ _ _ 3 ![3, 0, 0] rfl inb_S8x1024x256_S1x1024x256_3_0_0 _ _ _ (pay7_at _ _ _) (load_at 3 _ rfl _ _ _ _) (bias_at 3 _ rfl _ _ _ _)
  · rw [← held_eq c (iblk m c 0 t) (iblk m c 1 t) (ms0_0 t) (hs0_0 t) (ms0_1 t) (hs0_1 t) (ms0_5 t)]
    exact piece _ _ _ 2 ![2, 0, 0] rfl inb_S8x1024x256_S1x1024x256_2_0_0 _ _ _ (pay6_at _ _ _) (load_at 2 _ rfl _ _ _ _) (bias_at 2 _ rfl _ _ _ _)
  · rw [← back_eq c (iblk m c 0 t) (iblk m c 1 t) (ms0_0 t) (hs0_0 t) (ms0_1 t) (hs0_1 t) (ms0_5 t)]
    exact piece _ _ _ 1 ![1, 0, 0] rfl inb_S8x1024x256_S1x1024x256_1_0_0 _ _ _ (pay5_at _ _ _) (load_at 1 _ rfl _ _ _ _) (bias_at 1 _ rfl _ _ _ _)
  · rw [← back_eq c (iblk m c 0 t) (iblk m c 1 t) (ms0_0 t) (hs0_0 t) (ms0_1 t) (hs0_1 t) (ms0_5 t)]
    exact piece _ _ _ 0 ![0, 0, 0] rfl inb_S8x1024x256_S1x1024x256_0_0_0 _ _ _ (pay4_at _ _ _) (load_at 0 _ rfl _ _ _ _) (bias_at 0 _ rfl _ _ _ _)

theorem read0 (G : Buf (Elt Ideal) ((c : Thread nD τ).loc main_v0)) (r d : Fin 1024) :
    ((cfg0.win 0).blk t).view.read (Elt Ideal) G (ix2 r d) = G (ix2 (rowOf t r) d) := by
  blk_ext [idx0 t]
  rfl
theorem read1 (G : Buf (Elt Ideal) ((c : Thread nD τ).loc main_v5)) (d : Fin 1024) :
    ((cfg0.win 1).blk t).view.read (Elt Ideal) G (ix2 (0 : Fin 1) d) = G (ix2 (0 : Fin 1) d) := by
  blk_ext [idx1 t]
theorem read2 (G : Buf (Elt Ideal) ((c : Thread nD τ).loc main_v3)) (j : Fin 8) (d : Fin 1024) (l : Fin 256) :
    ((cfg0.win 2).blk t).view.read (Elt Ideal) G (ix4 j (0 : Fin 1) d l) = G (ix4 j (0 : Fin 1) d l) := by
  blk_ext [idx2 t]
theorem read3 (G : Buf (Elt Ideal) ((c : Thread nD τ).loc main_v4)) (j : Fin 8) (l : Fin 256) :
    ((cfg0.win 3).blk t).view.read (Elt Ideal) G (ix4 j (0 : Fin 1) (0 : Fin 1) l) = G (ix4 j (0 : Fin 1) (0 : Fin 1) l) := by
  blk_ext [idx3 t]
theorem embY (G : Buf (Elt Ideal) ((c : Thread nD τ).loc main_v6_0)) (j : Fin 8) (r : Fin 1024) (l : Fin 256) :
    G ((win0_4.blk t).view.emb (ix3 j r l)) = G (ix3 j (rowOf t r) l) := by
  blk_ext [idx4 t]
  rfl
theorem embH (G : Buf (Elt Ideal) ((c : Thread nD τ).loc main_v6_1)) (r d : Fin 1024) :
    G ((win0_5.blk t).view.emb (ix2 r d)) = G (ix2 (rowOf t r) d) := by
  blk_ext [idx5 t]
  rfl

theorem h_at (r d : Fin 1024) :
    (k0_pay2 (iblk m c 0 t) (iblk m c 1 t) (ix2 r d) : EReal) = H m c (rb (rowOf t r)) (rs (rowOf t r)) d := by
  refine (norm_at _ _ r d).trans ?_
  have hx : (fun d => ((iblk m c 0 t : Vec Ideal S1024x1024 .f32) (ix2 r d) : EReal)) = gX m c (rb (rowOf t r)) (rs (rowOf t r)) :=
    funext fun d => (read0 c t (V m c main_v0) r d).trans (V_x m c _ d)
  have hg : (fun d => ((iblk m c 1 t : Vec Ideal S1x1024 .f32) (ix2 (0 : Fin 1) d) : EReal)) = gG m c :=
    funext fun d => (read1 c t (V m c main_v5) d).trans (V_g m c d)
  rw [hx, hg]
  rfl
theorem y_at (j : Fin 8) (r : Fin 1024) (l : Fin 256) :
    ((outsAt0 m c t).1 (ix3 j r l) : EReal) = Y m c (rb (rowOf t r)) (rs (rowOf t r)) (colOf j l) := by
  rw [prod_eq]
  exact congrArg₂ (· + ·) (Finset.sum_congr rfl fun d _ => congrArg₂ (· * ·) (h_at m c t r d) ((read2 c t (V m c main_v3) j d l).trans (V_w m c j d l))) ((read3 c t (V m c main_v4) j l).trans (V_b m c j l))

/-- The arrays after the run, of any arrays that hold the rows. -/
theorem arrY (G : Buf (Elt Ideal) ((c : Thread nD τ).loc main_v6_0))
    (hG : ∀ (j : Fin 8) (R : Fin 4096) (l : Fin 256), (G (ix3 j R l) : EReal) = Y m c (rb R) (rs R) (colOf j l)) : (dats m 0 c).arrAt 4 cfg0.N = G := by
  refine Pipeline.Dat.arrAt_eq_of_covers _ 4 _ (by decide +kernel) fun t hf y => ?_
  rw [after0_4]
  blk_simp
  have key : ∀ y : S8x1024x256.Idx, (outsAt0 m c t).1 y = G ((win0_4.blk t).view.emb y) := by
    intro y
    rw [eq_ix3 y]
    exact (y_at m c t (y 0) (y 1) (y 2)).trans ((hG (y 0) _ (y 2)).symm.trans (embY c t G (y 0) (y 1) (y 2)).symm)
  exact key y
theorem arrH (G : Buf (Elt Ideal) ((c : Thread nD τ).loc main_v6_1))
    (hG : ∀ (R : Fin 4096) (d : Fin 1024), (G (ix2 R d) : EReal) = H m c (rb R) (rs R) d) : (dats m 0 c).arrAt 5 cfg0.N = G := by
  refine Pipeline.Dat.arrAt_eq_of_covers _ 5 _ (by decide +kernel) fun t hf y => ?_
  rw [after0_5]
  blk_simp
  have key : ∀ y : S1024x1024.Idx, (outsAt0 m c t).2 y = G ((win0_5.blk t).view.emb y) := by
    intro y
    rw [eq_ix2 y, norm_eq]
    exact (h_at m c t (y 0) (y 1)).trans ((hG _ (y 1)).symm.trans (embH c t G (y 0) (y 1)).symm)
  exact key y
end Kernel

section Reference
open Cert.Reference12Ideal Cert.Reference12Ideal.Gen

/-- The norm's array at an index. -/
theorem ref_norm (x : FVec Ideal S2x2048x1024 .f32) (g : FVec Ideal S1024 .f32) (b : Fin 2) (s : Fin 2048) (d : Fin 1024) :
    (mulf (mulf x (broadcastInDim S2x2048x1024 ![0, 1, 2] bcast_S2x2048x1_S2x2048x1024_0_1_2
      (Host.rsqrt (addf (Host.divf (broadcastInDim S2x2048x1 ![0, 1] bcast_S2x2048_S2x2048x1_0_1
        (Host.reduceAdd (mulf x x) (constant S_ .f32 0x00000000#32) reducesTo_S2x2048x1024_S2x2048_d2 h_S_))
        (broadcastInDim S2x2048x1 ![] bcast_S_S2x2048x1 (constant S_ .f32 0x44800000#32)))
        (broadcastInDim S2x2048x1 ![] bcast_S_S2x2048x1 (constant S_ .f32 0x358637BD#32))))))
      (broadcastInDim S2x2048x1024 ![0, 1, 2] bcast_S1x1x1024_S2x2048x1024_0_1_2 (broadcastInDim S1x1x1024 ![2] bcast_S1024_S1x1x1024_2 g))
      : FVec Ideal S2x2048x1024 .f32) (ix3 b s d)
      = nm (fun d => x (ix3 b s d)) (fun d => g (ix1 d)) d := by
  unfold nm rinv
  pointwise

/-- The projection's array at an index, of any rows. -/
theorem ref_y (h : FVec Ideal S2x2048x1024 .f32) (w : FVec Ideal S1024x2048 .f32) (v : FVec Ideal S2048 .f32) (j : Fin 8) (R : Fin 4096) (l : Fin 256) :
    (truncf .bf16 (transpose S8x4096x256 [1, 0, 2] (shapeCast S4096x8x256 (addf (Host.dotGeneral dot_S2x2048x1024_S1024x2048_S2x2048x2048_2_0_01_1_n_n none h w)
      (broadcastInDim S2x2048x2048 ![0, 1, 2] bcast_S1x1x2048_S2x2048x2048_0_1_2 (broadcastInDim S1x1x2048 ![2] bcast_S2048_S1x1x2048_2 v)))
      shapeCasts_S2x2048x2048_S4096x8x256) transposes_S4096x8x256_S8x4096x256_1_0_2) bitsLt_bf16_f32 : FVec Ideal S8x4096x256 .bf16) (ix3 j R l)
      = ∑ d : Fin 1024, h (ix3 (rb R) (rs R) d) * w (ix2 d (colOf j l)) + v (ix1 (colOf j l)) := by
  pointwise
  rfl
theorem ref_h (h : FVec Ideal S2x2048x1024 .f32) (R : Fin 4096) (d : Fin 1024) :
    (truncf .bf16 (shapeCast S4096x1024 h shapeCasts_S2x2048x1024_S4096x1024) bitsLt_bf16_f32 : FVec Ideal S4096x1024 .bf16) (ix2 R d) = h (ix3 (rb R) (rs R) d) := by
  pointwise
  rfl
end Reference

/-- The kernel and the reference leave the same projection and the same norm. -/
theorem values : Cert.algebraic_Kernel12Ideal_Reference12Ideal := by
  intro m g m' g' _ hargs
  refine ⟨fun c => (Cert.Kernel12Ideal.Gen.dats m 0 c).arrAt 4 Cert.Kernel12Ideal.cfg0.N,
    fun c => (Cert.Kernel12Ideal.Gen.dats m 0 c).arrAt 5 Cert.Kernel12Ideal.cfg0.N, ?_, ?_⟩
  · refine (θ_run Cert.Kernel12Ideal.defs _ _).mono (fun r h c => ?_) (Cert.Kernel12Ideal.Value.run_blocks m g)
    exact h c
  have hH : ∀ (c : Dev Cert.Kernel12Ideal.nD) (b : Fin 2) (s : Fin 2048) (d : Fin 1024), _ = H m c b s d := fun c b s d =>
    (ref_norm (m' ((c.tc : Thread Cert.Reference12Ideal.nD Cert.Reference12Ideal.τ).loc Cert.Reference12Ideal.main_arg0))
      (m' ((c.tc : Thread Cert.Reference12Ideal.nD Cert.Reference12Ideal.τ).loc Cert.Reference12Ideal.main_arg1)) b s d).trans (by
      rw [show (fun d => _) = gX m c b s from funext fun d => congrFun (hargs c).1 (ix3 b s d),
        show (fun d => _) = gG m c from funext fun d => congrFun (hargs c).2.1 (ix1 d)]
      rfl)
  refine (θ_run Cert.Reference12Ideal.defs _ _).mono (fun r h c => ?_) (Cert.Reference12Ideal.Value.run (F := Ideal) m' g')
  refine ⟨(h c).1.trans (arrY m c _ fun j R l => ?_).symm, (h c).2.1.trans (arrH m c _ fun R d => ?_).symm, (h c).2.2⟩
  · refine (ref_y _ _ _ j R l).trans ?_
    exact congrArg₂ (· + ·) (Finset.sum_congr rfl fun d _ => congrArg₂ (· * ·) (hH c _ _ d) (congrFun (hargs c).2.2.1 _)) (congrFun (hargs c).2.2.2 _)
  · exact (ref_h _ R d).trans (hH c _ _ d)

end Cert.NormCm
-- ==== Proof.lean ====
module

public import proofs.«01_k».proof.Defs
public import proofs.«01_k».proof.Proof.FrameKernel
public import proofs.«01_k».proof.Proof.Gen.ReferenceIdeal.Run
public import proofs.«01_k».proof.Proof.Result
public import proofs.«01_k».proof.Proof.WeightIn
public import proofs.«01_k».proof.Proof.WeightOut
public import proofs.«01_k».proof.Proof.WeightKv
public import proofs.«01_k».proof.Proof.WeightQ
public import proofs.«01_k».proof.Proof.WeightCm
public import proofs.«01_k».proof.Proof.WeightO
public import proofs.«01_k».proof.Proof.InputO
public import proofs.«01_k».proof.Proof.FfnOut
public import proofs.«01_k».proof.Proof.MixOut
public import proofs.«01_k».proof.Proof.NormQ
public import proofs.«01_k».proof.Proof.NormCm
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame

@[expose] public section

set_option maxRecDepth 16384

noncomputable section

namespace Cert.Proof

open Idealize.ShloMosaic Idealize.ShloMosaic.TcCoe Idealize.ShloMosaic.Tactic Idealize.SL.Sem
open Cert.FfnBwd

/-- The reference ends with its arguments unchanged, and it declares no semaphore. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

instance pre_facts : Cert.Pre_finite.Facts where
  bcast_S_S1024 := by decide
  bcast_S_S1024x5632 := by decide
  bcast_S_S3x5632 := by decide
  bcast_S_S5632 := by decide
  bcast_S_S2816x1024 := by decide
  bcast_S_S2x2048x1024 := by decide

/-- An entry the precondition holds of is a number. -/
theorem number {S : Shape} (h : Cert.Pre_finite.S_.BroadcastsInDim S (![] : Fin 0 → Fin S.rank)) (v : FVec Ideal S .f32)
    (e : cmpf .olt (Host.absf v) (broadcastInDim S ![] h (constant Cert.Pre_finite.S_ .f32 0x7F800000#32)) = fun _ => 1#1) (y : S.Idx) :
    IsR (v y) := by
  have k : Ideal.cmp .olt (max (v y) (-(v y))) (Ideal.ofBits .f32 0x7F800000#32) = 1#1 := congrFun e y
  rw [cinf] at k
  refine IsR.of_abs ?_
  by_contra hn
  simp [Ideal.cmp, hn] at k

/-- The precondition, of the layer's arguments. -/
theorem pre_numbers (m : (ℓ : Loc Cert.KernelIdeal.nD Cert.KernelIdeal.τ Cert.KernelIdeal.sig) → Buf (Elt Ideal) ℓ)
    (hP : Cert.Pre_KernelIdeal_finite m) (c : Dev Cert.KernelIdeal.nD) : (theArgs m c).Finite := by
  obtain ⟨h1, h2, h3, h4, h5, h6⟩ := hP c
  exact ⟨fun d => number _ _ h1 (ix1 d), fun d c => number _ _ h2 (ix2 d c), fun k c => number _ _ h3 (ix2 k c), fun c => number _ _ h4 (ix1 c),
    fun e d => number _ _ h5 (ix2 e d), fun b s d => number _ _ h6 (ix3 b s d)⟩

/-- The reference computes on the kernel's arguments. -/
theorem same_args (m : (ℓ : Loc Cert.KernelIdeal.nD Cert.KernelIdeal.τ Cert.KernelIdeal.sig) → Buf (Elt Ideal) ℓ) (c : Dev Cert.KernelIdeal.nD)
    (f : Valuation Cert.ReferenceIdeal.τ Cert.ReferenceIdeal.sig (Elt Ideal))
    (h0 : f (Proc.devRef .tc Cert.ReferenceIdeal.main_arg0) = m ((c.tc : Thread Cert.KernelIdeal.nD Cert.KernelIdeal.τ).loc Cert.KernelIdeal.main_arg0))
    (h1 : f (Proc.devRef .tc Cert.ReferenceIdeal.main_arg1) = m ((c.tc : Thread Cert.KernelIdeal.nD Cert.KernelIdeal.τ).loc Cert.KernelIdeal.main_arg1))
    (h2 : f (Proc.devRef .tc Cert.ReferenceIdeal.main_arg2) = m ((c.tc : Thread Cert.KernelIdeal.nD Cert.KernelIdeal.τ).loc Cert.KernelIdeal.main_arg2))
    (h3 : f (Proc.devRef .tc Cert.ReferenceIdeal.main_arg3) = m ((c.tc : Thread Cert.KernelIdeal.nD Cert.KernelIdeal.τ).loc Cert.KernelIdeal.main_arg3))
    (h4 : f (Proc.devRef .tc Cert.ReferenceIdeal.main_arg4) = m ((c.tc : Thread Cert.KernelIdeal.nD Cert.KernelIdeal.τ).loc Cert.KernelIdeal.main_arg4))
    (h5 : f (Proc.devRef .tc Cert.ReferenceIdeal.main_arg5) = m ((c.tc : Thread Cert.KernelIdeal.nD Cert.KernelIdeal.τ).loc Cert.KernelIdeal.main_arg5))
    (h6 : f (Proc.devRef .tc Cert.ReferenceIdeal.main_arg6) = m ((c.tc : Thread Cert.KernelIdeal.nD Cert.KernelIdeal.τ).loc Cert.KernelIdeal.main_arg6))
    (h7 : f (Proc.devRef .tc Cert.ReferenceIdeal.main_arg7) = m ((c.tc : Thread Cert.KernelIdeal.nD Cert.KernelIdeal.τ).loc Cert.KernelIdeal.main_arg7)) :
    Ref.argsOf f = theArgs m c := by
  have e : ∀ A B : Args, A.x = B.x → A.gain = B.gain → A.wi = B.wi → A.cw = B.cw → A.cb = B.cb → A.wo = B.wo → A.dy = B.dy → A.res = B.res → A = B :=
    fun A B g0 g1 g2 g3 g4 g5 g6 g7 => by
      cases A; cases B
      cases g0; cases g1; cases g2; cases g3; cases g4; cases g5; cases g6; cases g7
      rfl
  exact e _ _ (funext fun b => funext fun s => funext fun d => congrFun h0 (ix3 b s d)) (funext fun d => congrFun h1 (ix1 d))
    (funext fun d => funext fun k => congrFun h2 (ix2 d k)) (funext fun d => funext fun k => congrFun h3 (ix2 d k)) (funext fun d => congrFun h4 (ix1 d))
    (funext fun d => funext fun k => congrFun h5 (ix2 d k)) (funext fun b => funext fun s => funext fun d => congrFun h6 (ix3 b s d))
    (funext fun b => funext fun s => funext fun d => congrFun h7 (ix3 b s d))

/-- The kernel and the reference leave the same results. -/
theorem values : Cert.algebraic_KernelIdeal_ReferenceIdeal_pre_finite := by
  intro m g m' g' hP hargs
  have hF := pre_numbers m hP
  refine ⟨fun c => (theArgs m c).arrDU, fun c => (theArgs m c).arrDW, fun c => (theArgs m c).arrDB, fun c => (theArgs m c).arrDX,
    fun c => (theArgs m c).arrDG, ?_, ?_⟩
  · refine (θ_run Cert.KernelIdeal.defs _ _).mono (fun r h c => ?_) (kernel_run m g hF)
    obtain ⟨⟨h0, h1, h2, h3, h4⟩, hk⟩ := h c
    exact ⟨h0, h1, h2, h3, h4, hk c⟩
  · refine reference_run m' g' (fun c => theArgs m c) (fun c => ?_) hF
    obtain ⟨h0, h1, h2, h3, h4, h5, h6, h7⟩ := hargs c
    exact same_args m c _ h0 h1 h2 h3 h4 h5 h6 h7

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)
theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)
theorem frame_reference12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  pre_facts,
  Cert.FfnBwd.frame_kernel, Cert.FfnBwd.frame_kernelIdeal, fun m g _ => Cert.FfnBwd.frame_kernelIdeal m g trivial, frame_reference,
  fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  fun m g _ => Cert.Kernel9.Gen.frame m g, fun m g _ => Cert.Kernel9Ideal.Gen.frame m g, frame_reference9,
  fun m g _ => Cert.Kernel10.Gen.frame m g, fun m g _ => Cert.Kernel10Ideal.Gen.frame m g, frame_reference10,
  fun m g _ => Cert.Kernel11.Gen.frame m g, fun m g _ => Cert.Kernel11Ideal.Gen.frame m g, frame_reference11,
  fun m g _ => Cert.Kernel12.Gen.frame m g, fun m g _ => Cert.Kernel12Ideal.Gen.frame m g, frame_reference12,
  trivial, values, trivial, Cert.WeightIn.values, trivial, Cert.WeightOut.values,
  trivial, Cert.WeightKv.values, trivial, Cert.WeightQ.values, trivial, Cert.WeightCm.values, trivial, Cert.WeightO.values, trivial, Cert.InputO.values, trivial, Cert.FfnOut.values, trivial, Cert.MixOut.values,
  trivial, Cert.NormQ.values, trivial, Cert.NormCm.values⟩

end Cert.Proof

end
